-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_live_slots_named_KernelIdeal [hPre_live_slots_named_KernelIdeal : Cert.Pre_live_slots_named_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_live_slots_named_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_live_slots_named_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_live_slots_named_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_live_slots_named_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_live_slots_named_ReferenceIdeal [hPre_live_slots_named_ReferenceIdeal : Cert.Pre_live_slots_named_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_live_slots_named_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_live_slots_named_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_live_slots_named_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_live_slots_named_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_live_slots_named_KernelIdeal [hKernelIdeal : Cert.KernelIdeal.Facts] [hPre_live_slots_named_KernelIdeal : Cert.Pre_live_slots_named_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_live_slots_named_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_live_slots_named_ReferenceIdeal [hReferenceIdeal : Cert.ReferenceIdeal.Facts] [hPre_live_slots_named_ReferenceIdeal : Cert.Pre_live_slots_named_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_live_slots_named_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_live_slots_named_KernelIdeal [hKernelIdeal : Cert.KernelIdeal.Facts] [hReferenceIdeal : Cert.ReferenceIdeal.Facts] [hPre_live_slots_named_KernelIdeal : Cert.Pre_live_slots_named_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_live_slots_named_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨4, ![256, 32, 16, 128]⟩ ⟨4, ![512, 32, 16, 128]⟩ (Layout.meshBlock [2, 2] ![[1], [], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![256, 32, 16, 128]⟩ ⟨4, ![512, 32, 16, 128]⟩ (Layout.meshBlock [2, 2] ![[1], [], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v36) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_live_slots_named_KernelIdeal : Cert.Pre_live_slots_named_KernelIdeal.Facts) (hPre_live_slots_named_ReferenceIdeal : Cert.Pre_live_slots_named_ReferenceIdeal.Facts),
    quiescent_Kernel (hKernel := hKernel)
    ∧ quiescent_KernelIdeal (hKernelIdeal := hKernelIdeal)
    ∧ quiescent_KernelIdeal_pre_live_slots_named_KernelIdeal (hKernelIdeal := hKernelIdeal) (hPre_live_slots_named_KernelIdeal := hPre_live_slots_named_KernelIdeal)
    ∧ quiescent_ReferenceIdeal (hReferenceIdeal := hReferenceIdeal)
    ∧ quiescent_ReferenceIdeal_pre_live_slots_named_ReferenceIdeal (hReferenceIdeal := hReferenceIdeal) (hPre_live_slots_named_ReferenceIdeal := hPre_live_slots_named_ReferenceIdeal)
    ∧ preserves_Kernel_KernelIdeal
    ∧ algebraic_KernelIdeal_ReferenceIdeal_pre_live_slots_named_KernelIdeal (hKernelIdeal := hKernelIdeal) (hReferenceIdeal := hReferenceIdeal) (hPre_live_slots_named_KernelIdeal := hPre_live_slots_named_KernelIdeal)
-- ==== Pre_live_slots_named_KernelIdeal.lean ====
abbrev S32x1x16x128 : Shape := ⟨4, ![32, 1, 16, 128]⟩
abbrev S256x32x16x128 : Shape := ⟨4, ![256, 32, 16, 128]⟩
abbrev S32x256 : Shape := ⟨2, ![32, 256]⟩
abbrev S32x1 : Shape := ⟨2, ![32, 1]⟩
abbrev S_ : Shape := ⟨0, ![]⟩

class Facts : Prop where
  bcast_S32x1_S32x256_0_1 : S32x1.BroadcastsInDim S32x256 (![0, 1] : Fin 2 → Fin S32x256.rank)
  bcast_S_S32x256 : S_.BroadcastsInDim S32x256 (![] : Fin 0 → Fin S32x256.rank)
  bcast_S_S32x1x16x128 : S_.BroadcastsInDim S32x1x16x128 (![] : Fin 0 → Fin S32x1x16x128.rank)
  bcast_S_S256x32x16x128 : S_.BroadcastsInDim S256x32x16x128 (![] : Fin 0 → Fin S256x32x16x128.rank)
  bcast_S_S32x1 : S_.BroadcastsInDim S32x1 (![] : Fin 0 → Fin S32x1.rank)

variable [Facts]

def fn {F : FTy → Type} [FloatOps F] (main_arg0 : FVec F S32x1x16x128 .f32) (main_arg1 : FVec F S256x32x16x128 .f32) (main_arg2 : FVec F S256x32x16x128 .f32) (main_arg3 : IVec S32x256 32) (main_arg4 : IVec S32x1 32) : IVec S32x1x16x128 1 × IVec S256x32x16x128 1 × IVec S32x1 1 × IVec S32x256 1 :=
  let main_v0 : IVec S32x256 32 := iotaInDim S32x256 32 1
  let main_v1 : IVec S32x256 32 := broadcastInDim S32x256 ![0, 1] bcast_S32x1_S32x256_0_1 main_arg4
  let main_v2 : IVec S32x256 1 := cmpi .sge main_v0 main_v1
  let main_c : IVec S_ 32 := constantI S_ 32 0#32
  let main_v3 : IVec S32x256 32 := broadcastInDim S32x256 ![] bcast_S_S32x256 main_c
  let main_v4 : IVec S32x256 1 := cmpi .sge main_arg3 main_v3
  let main_c_0 : IVec S_ 32 := constantI S_ 32 512#32
  let main_v5 : IVec S32x256 32 := broadcastInDim S32x256 ![] bcast_S_S32x256 main_c_0
  let main_v6 : IVec S32x256 1 := cmpi .slt main_arg3 main_v5
  let main_v7 : IVec S32x256 1 := andi main_v4 main_v6
  let main_v8 : IVec S32x256 1 := ori main_v2 main_v7
  let main_v9 : FVec F S32x1x16x128 .f32 := Host.absf main_arg0
  let main_cst : FVec F S_ .f32 := constant S_ .f32 0x7F800000#32
  let main_v10 : FVec F S32x1x16x128 .f32 := broadcastInDim S32x1x16x128 ![] bcast_S_S32x1x16x128 main_cst
  let main_v11 : IVec S32x1x16x128 1 := cmpf .olt main_v9 main_v10
  let main_v12 : FVec F S256x32x16x128 .f32 := Host.absf main_arg1
  let main_cst_1 : FVec F S_ .f32 := constant S_ .f32 0x7F800000#32
  let main_v13 : FVec F S256x32x16x128 .f32 := broadcastInDim S256x32x16x128 ![] bcast_S_S256x32x16x128 main_cst_1
  let main_v14 : IVec S256x32x16x128 1 := cmpf .olt main_v12 main_v13
  let main_c_2 : IVec S_ 32 := constantI S_ 32 1#32
  let main_v15 : IVec S32x1 32 := broadcastInDim S32x1 ![] bcast_S_S32x1 main_c_2
  let main_v16 : IVec S32x1 1 := cmpi .sge main_arg4 main_v15
  (main_v11, main_v14, main_v16, main_v8)
-- ==== Pre_live_slots_named_ReferenceIdeal.lean ====
abbrev S32x1x16x128 : Shape := ⟨4, ![32, 1, 16, 128]⟩
abbrev S512x32x16x128 : Shape := ⟨4, ![512, 32, 16, 128]⟩
abbrev S32x256 : Shape := ⟨2, ![32, 256]⟩
abbrev S32x1 : Shape := ⟨2, ![32, 1]⟩
abbrev S_ : Shape := ⟨0, ![]⟩

class Facts : Prop where
  bcast_S32x1_S32x256_0_1 : S32x1.BroadcastsInDim S32x256 (![0, 1] : Fin 2 → Fin S32x256.rank)
  bcast_S_S32x256 : S_.BroadcastsInDim S32x256 (![] : Fin 0 → Fin S32x256.rank)
  bcast_S_S32x1x16x128 : S_.BroadcastsInDim S32x1x16x128 (![] : Fin 0 → Fin S32x1x16x128.rank)
  bcast_S_S512x32x16x128 : S_.BroadcastsInDim S512x32x16x128 (![] : Fin 0 → Fin S512x32x16x128.rank)
  bcast_S_S32x1 : S_.BroadcastsInDim S32x1 (![] : Fin 0 → Fin S32x1.rank)

variable [Facts]

def fn {F : FTy → Type} [FloatOps F] (main_arg0 : FVec F S32x1x16x128 .f32) (main_arg1 : FVec F S512x32x16x128 .f32) (main_arg2 : FVec F S512x32x16x128 .f32) (main_arg3 : IVec S32x256 32) (main_arg4 : IVec S32x1 32) : IVec S32x1x16x128 1 × IVec S512x32x16x128 1 × IVec S32x1 1 × IVec S32x256 1 :=
  let main_v0 : IVec S32x256 32 := iotaInDim S32x256 32 1
  let main_v1 : IVec S32x256 32 := broadcastInDim S32x256 ![0, 1] bcast_S32x1_S32x256_0_1 main_arg4
  let main_v2 : IVec S32x256 1 := cmpi .sge main_v0 main_v1
  let main_c : IVec S_ 32 := constantI S_ 32 0#32
  let main_v3 : IVec S32x256 32 := broadcastInDim S32x256 ![] bcast_S_S32x256 main_c
  let main_v4 : IVec S32x256 1 := cmpi .sge main_arg3 main_v3
  let main_c_0 : IVec S_ 32 := constantI S_ 32 512#32
  let main_v5 : IVec S32x256 32 := broadcastInDim S32x256 ![] bcast_S_S32x256 main_c_0
  let main_v6 : IVec S32x256 1 := cmpi .slt main_arg3 main_v5
  let main_v7 : IVec S32x256 1 := andi main_v4 main_v6
  let main_v8 : IVec S32x256 1 := ori main_v2 main_v7
  let main_v9 : FVec F S32x1x16x128 .f32 := Host.absf main_arg0
  let main_cst : FVec F S_ .f32 := constant S_ .f32 0x7F800000#32
  let main_v10 : FVec F S32x1x16x128 .f32 := broadcastInDim S32x1x16x128 ![] bcast_S_S32x1x16x128 main_cst
  let main_v11 : IVec S32x1x16x128 1 := cmpf .olt main_v9 main_v10
  let main_v12 : FVec F S512x32x16x128 .f32 := Host.absf main_arg1
  let main_cst_1 : FVec F S_ .f32 := constant S_ .f32 0x7F800000#32
  let main_v13 : FVec F S512x32x16x128 .f32 := broadcastInDim S512x32x16x128 ![] bcast_S_S512x32x16x128 main_cst_1
  let main_v14 : IVec S512x32x16x128 1 := cmpf .olt main_v12 main_v13
  let main_c_2 : IVec S_ 32 := constantI S_ 32 1#32
  let main_v15 : IVec S32x1 32 := broadcastInDim S32x1 ![] bcast_S_S32x1 main_c_2
  let main_v16 : IVec S32x1 1 := cmpi .sge main_arg4 main_v15
  (main_v11, main_v14, main_v16, main_v8)
-- ==== Kernel.lean ====
abbrev S32x1x16x128 : Shape := ⟨4, ![32, 1, 16, 128]⟩
abbrev S256x32x16x128 : Shape := ⟨4, ![256, 32, 16, 128]⟩
abbrev S32x256 : Shape := ⟨2, ![32, 256]⟩
abbrev S32x1 : Shape := ⟨2, ![32, 1]⟩
abbrev S32x2048 : Shape := ⟨2, ![32, 2048]⟩
abbrev S32x8192 : Shape := ⟨2, ![32, 8192]⟩
abbrev S8x32x128 : Shape := ⟨3, ![8, 32, 128]⟩
abbrev S8x1x32 : Shape := ⟨3, ![8, 1, 32]⟩
abbrev S32x1024 : Shape := ⟨2, ![32, 1024]⟩
abbrev S2x32x128 : Shape := ⟨3, ![2, 32, 128]⟩
abbrev S2x256x32x128 : Shape := ⟨4, ![2, 256, 32, 128]⟩
abbrev S3x2x2 : Shape := ⟨3, ![3, 2, 2]⟩
abbrev S8 : Shape := ⟨1, ![8]⟩
abbrev S2 : Shape := ⟨1, ![2]⟩
abbrev S1x1x1 : Shape := ⟨3, ![1, 1, 1]⟩
abbrev S_ : Shape := ⟨0, ![]⟩
abbrev S1x32x128 : Shape := ⟨3, ![1, 32, 128]⟩
abbrev S32x128 : Shape := ⟨2, ![32, 128]⟩
abbrev S32x1x1x128 : Shape := ⟨4, ![32, 1, 1, 128]⟩
abbrev S1x128x32x128 : Shape := ⟨4, ![1, 128, 32, 128]⟩
abbrev S128x32x128 : Shape := ⟨3, ![128, 32, 128]⟩
abbrev S128x32x1x128 : Shape := ⟨4, ![128, 32, 1, 128]⟩
abbrev S1x1x256 : Shape := ⟨3, ![1, 1, 256]⟩
abbrev S32x1x1 : Shape := ⟨3, ![32, 1, 1]⟩
abbrev S32x1x256 : Shape := ⟨3, ![32, 1, 256]⟩
abbrev S1x64x1 : Shape := ⟨3, ![1, 64, 1]⟩
abbrev S32x64x256 : Shape := ⟨3, ![32, 64, 256]⟩
abbrev S32x64 : Shape := ⟨2, ![32, 64]⟩
abbrev S32x256x1 : Shape := ⟨3, ![32, 256, 1]⟩
abbrev S32x256x32 : Shape := ⟨3, ![32, 256, 32]⟩
abbrev S1 : Shape := ⟨1, ![1]⟩
abbrev S1x1x32 : Shape := ⟨3, ![1, 1, 32]⟩
abbrev S1x32 : Shape := ⟨2, ![1, 32]⟩
abbrev S7x1x32 : Shape := ⟨3, ![7, 1, 32]⟩
abbrev S7x32 : Shape := ⟨2, ![7, 32]⟩
abbrev S7x32x128 : Shape := ⟨3, ![7, 32, 128]⟩
abbrev S7x32x1 : Shape := ⟨3, ![7, 32, 1]⟩
abbrev S32x7x128 : Shape := ⟨3, ![32, 7, 128]⟩
abbrev S32x896 : Shape := ⟨2, ![32, 896]⟩
abbrev S1x256x32x128 : Shape := ⟨4, ![1, 256, 32, 128]⟩
abbrev S256x32x128 : Shape := ⟨3, ![256, 32, 128]⟩
abbrev S8192x128 : Shape := ⟨2, ![8192, 128]⟩
abbrev S32 : Shape := ⟨1, ![32]⟩

abbrev nBuf : Space → Nat
  | .hbm => 6
  | .vmem => 13
  | .smem => 0
  | _ => 0

abbrev bufTy : (tb : Table) → Fin (tcTables nBuf tb) → BufTy
  | .hbm, ⟨0, _⟩ => ⟨S32x1x16x128, .f32⟩
  | .hbm, ⟨1, _⟩ => ⟨S256x32x16x128, .f32⟩
  | .hbm, ⟨2, _⟩ => ⟨S256x32x16x128, .f32⟩
  | .hbm, ⟨3, _⟩ => ⟨S32x256, .i32⟩
  | .hbm, ⟨4, _⟩ => ⟨S32x1, .i32⟩
  | .hbm, ⟨5, _⟩ => ⟨S32x2048, .f32⟩
  | .local _ .vmem, ⟨0, _⟩ => ⟨S32x256, .i32⟩
  | .local _ .vmem, ⟨1, _⟩ => ⟨S32x1, .i32⟩
  | .local _ .vmem, ⟨2, _⟩ => ⟨S32x2048, .f32⟩
  | .local _ .vmem, ⟨3, _⟩ => ⟨S32x8192, .bf16⟩
  | .local _ .vmem, ⟨4, _⟩ => ⟨S8x32x128, .f32⟩
  | .local _ .vmem, ⟨5, _⟩ => ⟨S8x1x32, .f32⟩
  | .local _ .vmem, ⟨6, _⟩ => ⟨S8x32x128, .f32⟩
  | .local _ .vmem, ⟨7, _⟩ => ⟨S8x1x32, .f32⟩
  | .local _ .vmem, ⟨8, _⟩ => ⟨S32x1024, .f32⟩
  | .local _ .vmem, ⟨9, _⟩ => ⟨S32x1024, .f32⟩
  | .local _ .vmem, ⟨10, _⟩ => ⟨S2x32x128, .f32⟩
  | .local _ .vmem, ⟨11, _⟩ => ⟨S2x256x32x128, .f32⟩
  | .local _ .vmem, ⟨12, _⟩ => ⟨S2x256x32x128, .f32⟩
  | _, _ => ⟨S32x1x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  (ofTc nBuf bufTy 1 51 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v8 : BitVec 1 := Scalar.cmpi .eq arg0 c0_i32
  let v9 : BitVec 32 := Scalar.extui v8
  let c0_i32_4 : BitVec 32 := 0#32
  let v10 : BitVec 1 := Scalar.cmpi .ne v9 c0_i32_4
  v10

def k0_off1 (d0 : Dev nD) : Fin 4 → Nat :=
  let c0_i32_124 : BitVec 32 := 0#32
  let c0_i32_117 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8_i32_107 : BitVec 32 := 8#32
  let v155 : BitVec 32 := Scalar.muli v2 c8_i32_107
  let c0_i32_108 : BitVec 32 := 0#32
  let v156 : BitVec 32 := Scalar.addi v155 c0_i32_108
  let c0_i32_125 : BitVec 32 := 0#32
  ![0, 0, v156.toNat, 0]
def k0_off2 (d0 : Dev nD) : Fin 4 → Nat :=
  let c0_i32_133 : BitVec 32 := 0#32
  let c0_i32_134 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8_i32_109 : BitVec 32 := 8#32
  let v157 : BitVec 32 := Scalar.muli v2 c8_i32_109
  let c0_i32_110 : BitVec 32 := 0#32
  let v158 : BitVec 32 := Scalar.addi v157 c0_i32_110
  let c0_i32_135 : BitVec 32 := 0#32
  ![0, 0, v158.toNat, 0]
def k0_off3 (d0 : Dev nD) : Fin 4 → Nat :=
  let c128_i32_153 : BitVec 32 := 128#32
  let c0_i32_154 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8_i32_113 : BitVec 32 := 8#32
  let v161 : BitVec 32 := Scalar.muli v2 c8_i32_113
  let c0_i32_114 : BitVec 32 := 0#32
  let v162 : BitVec 32 := Scalar.addi v161 c0_i32_114
  let c0_i32_155 : BitVec 32 := 0#32
  ![128, 0, v162.toNat, 0]
def k0_dev1 (d0 : Dev nD) : Nat :=
  let c0_i32_168 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_167 : BitVec 32 := 2#32
  let v196 : BitVec 32 := Scalar.muli v2 c2_i32_167
  let v197 : BitVec 32 := Scalar.addi c0_i32_168 v196
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_169 : BitVec 32 := 1#32
  let v198 : BitVec 32 := Scalar.muli v6 c1_i32_169
  let v199 : BitVec 32 := Scalar.addi v197 v198
  v199.toNat
def k0_dev2 (d0 : Dev nD) : Nat :=
  let c0_i32_172 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_171 : BitVec 32 := 2#32
  let v200 : BitVec 32 := Scalar.muli v7 c2_i32_171
  let v201 : BitVec 32 := Scalar.addi c0_i32_172 v200
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_173 : BitVec 32 := 1#32
  let v202 : BitVec 32 := Scalar.muli v5 c1_i32_173
  let v203 : BitVec 32 := Scalar.addi v201 v202
  v203.toNat
def k0_cond2 (i : grid0.Coords) : BitVec 1 :=
  let arg0 : BitVec 32 := BitVec.ofNat 32 (i 0).val
  let c1_i32_5 : BitVec 32 := 1#32
  let v11 : BitVec 32 := Scalar.addi arg0 c1_i32_5
  let c8_i32 : BitVec 32 := 8#32
  let v12 : BitVec 1 := Scalar.cmpi .slt v11 c8_i32
  let v13 : BitVec 32 := Scalar.extui v12
  let c0_i32_6 : BitVec 32 := 0#32
  let v14 : BitVec 1 := Scalar.cmpi .ne v13 c0_i32_6
  v14

def k0_off4 (i : grid0.Coords) : Fin 3 → Nat :=
  let c2_i32_121 : BitVec 32 := 2#32
  let arg0 : BitVec 32 := BitVec.ofNat 32 (i 0).val
  let c1_i32_108 : BitVec 32 := 1#32
  let v156 : BitVec 32 := Scalar.addi arg0 c1_i32_108
  let c2_i32_109 : BitVec 32 := 2#32
  let c0_i32_110 : BitVec 32 := 0#32
  let v157 : BitVec 1 := Scalar.cmpi .eq c2_i32_109 c0_i32_110
  let c1_i32_111 : BitVec 32 := 1#32
  let v158 : BitVec 32 := Scalar.select v157 c1_i32_111 c2_i32_109
  let v159 : BitVec 32 := Scalar.remsi v156 v158
  let c0_i32_113 : BitVec 32 := 0#32
  let v161 : BitVec 1 := Scalar.cmpi .slt v159 c0_i32_113
  let c0_i32_114 : BitVec 32 := 0#32
  let v162 : BitVec 1 := Scalar.cmpi .slt v158 c0_i32_114
  let v163 : BitVec 1 := Scalar.xori v161 v162
  let c0_i32_112 : BitVec 32 := 0#32
  let v160 : BitVec 1 := Scalar.cmpi .ne v159 c0_i32_112
  let v164 : BitVec 1 := Scalar.andi v163 v160
  let v165 : BitVec 32 := Scalar.addi v159 v158
  let v166 : BitVec 32 := Scalar.select v164 v165 v159
  let c0_i32_122 : BitVec 32 := 0#32
  ![2, v166.toNat, 0]
def k0_off5 (i : grid0.Coords) : Fin 3 → Nat :=
  let arg0 : BitVec 32 := BitVec.ofNat 32 (i 0).val
  let c1_i32_108 : BitVec 32 := 1#32
  let v156 : BitVec 32 := Scalar.addi arg0 c1_i32_108
  let c2_i32_109 : BitVec 32 := 2#32
  let c0_i32_110 : BitVec 32 := 0#32
  let v157 : BitVec 1 := Scalar.cmpi .eq c2_i32_109 c0_i32_110
  let c1_i32_111 : BitVec 32 := 1#32
  let v158 : BitVec 32 := Scalar.select v157 c1_i32_111 c2_i32_109
  let v159 : BitVec 32 := Scalar.remsi v156 v158
  let c0_i32_113 : BitVec 32 := 0#32
  let v161 : BitVec 1 := Scalar.cmpi .slt v159 c0_i32_113
  let c0_i32_114 : BitVec 32 := 0#32
  let v162 : BitVec 1 := Scalar.cmpi .slt v158 c0_i32_114
  let v163 : BitVec 1 := Scalar.xori v161 v162
  let c0_i32_112 : BitVec 32 := 0#32
  let v160 : BitVec 1 := Scalar.cmpi .ne v159 c0_i32_112
  let v164 : BitVec 1 := Scalar.andi v163 v160
  let v165 : BitVec 32 := Scalar.addi v159 v158
  let v166 : BitVec 32 := Scalar.select v164 v165 v159
  let c0_i32_123 : BitVec 32 := 0#32
  let c0_i32_124 : BitVec 32 := 0#32
  ![v166.toNat, 0, 0]
def k0_off6 (i : grid0.Coords) (d0 : Dev nD) : Fin 4 → Nat :=
  let c0_i32_125 : BitVec 32 := 0#32
  let c0_i32_120 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8_i32_115 : BitVec 32 := 8#32
  let v167 : BitVec 32 := Scalar.muli v2 c8_i32_115
  let arg0 : BitVec 32 := BitVec.ofNat 32 (i 0).val
  let c1_i32_107 : BitVec 32 := 1#32
  let v155 : BitVec 32 := Scalar.addi arg0 c1_i32_107
  let v168 : BitVec 32 := Scalar.addi v167 v155
  let c0_i32_126 : BitVec 32 := 0#32
  ![0, 0, v168.toNat, 0]
def k0_off7 (i : grid0.Coords) : Fin 3 → Nat :=
  let c0_i32_127 : BitVec 32 := 0#32
  let arg0 : BitVec 32 := BitVec.ofNat 32 (i 0).val
  let c1_i32_108 : BitVec 32 := 1#32
  let v156 : BitVec 32 := Scalar.addi arg0 c1_i32_108
  let c2_i32_109 : BitVec 32 := 2#32
  let c0_i32_110 : BitVec 32 := 0#32
  let v157 : BitVec 1 := Scalar.cmpi .eq c2_i32_109 c0_i32_110
  let c1_i32_111 : BitVec 32 := 1#32
  let v158 : BitVec 32 := Scalar.select v157 c1_i32_111 c2_i32_109
  let v159 : BitVec 32 := Scalar.remsi v156 v158
  let c0_i32_113 : BitVec 32 := 0#32
  let v161 : BitVec 1 := Scalar.cmpi .slt v159 c0_i32_113
  let c0_i32_114 : BitVec 32 := 0#32
  let v162 : BitVec 1 := Scalar.cmpi .slt v158 c0_i32_114
  let v163 : BitVec 1 := Scalar.xori v161 v162
  let c0_i32_112 : BitVec 32 := 0#32
  let v160 : BitVec 1 := Scalar.cmpi .ne v159 c0_i32_112
  let v164 : BitVec 1 := Scalar.andi v163 v160
  let v165 : BitVec 32 := Scalar.addi v159 v158
  let v166 : BitVec 32 := Scalar.select v164 v165 v159
  let c0_i32_128 : BitVec 32 := 0#32
  ![0, v166.toNat, 0]
def k0_off8 (i : grid0.Coords) : Fin 4 → Nat :=
  let arg0 : BitVec 32 := BitVec.ofNat 32 (i 0).val
  let c1_i32_108 : BitVec 32 := 1#32
  let v156 : BitVec 32 := Scalar.addi arg0 c1_i32_108
  let c2_i32_109 : BitVec 32 := 2#32
  let c0_i32_110 : BitVec 32 := 0#32
  let v157 : BitVec 1 := Scalar.cmpi .eq c2_i32_109 c0_i32_110
  let c1_i32_111 : BitVec 32 := 1#32
  let v158 : BitVec 32 := Scalar.select v157 c1_i32_111 c2_i32_109
  let v159 : BitVec 32 := Scalar.remsi v156 v158
  let c0_i32_113 : BitVec 32 := 0#32
  let v161 : BitVec 1 := Scalar.cmpi .slt v159 c0_i32_113
  let c0_i32_114 : BitVec 32 := 0#32
  let v162 : BitVec 1 := Scalar.cmpi .slt v158 c0_i32_114
  let v163 : BitVec 1 := Scalar.xori v161 v162
  let c0_i32_112 : BitVec 32 := 0#32
  let v160 : BitVec 1 := Scalar.cmpi .ne v159 c0_i32_112
  let v164 : BitVec 1 := Scalar.andi v163 v160
  let v165 : BitVec 32 := Scalar.addi v159 v158
  let v166 : BitVec 32 := Scalar.select v164 v165 v159
  let c0_i32_129 : BitVec 32 := 0#32
  let c0_i32_130 : BitVec 32 := 0#32
  let c0_i32_131 : BitVec 32 := 0#32
  ![v166.toNat, 0, 0, 0]
def k0_off9 (i : grid0.Coords) (d0 : Dev nD) : Fin 4 → Nat :=
  let c0_i32_132 : BitVec 32 := 0#32
  let c0_i32_133 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8_i32_116 : BitVec 32 := 8#32
  let v169 : BitVec 32 := Scalar.muli v2 c8_i32_116
  let arg0 : BitVec 32 := BitVec.ofNat 32 (i 0).val
  let c1_i32_107 : BitVec 32 := 1#32
  let v155 : BitVec 32 := Scalar.addi arg0 c1_i32_107
  let v170 : BitVec 32 := Scalar.addi v169 v155
  let c0_i32_134 : BitVec 32 := 0#32
  ![0, 0, v170.toNat, 0]
def k0_off10 (i : grid0.Coords) : Fin 3 → Nat :=
  let c1_i32_135 : BitVec 32 := 1#32
  let arg0 : BitVec 32 := BitVec.ofNat 32 (i 0).val
  let c1_i32_108 : BitVec 32 := 1#32
  let v156 : BitVec 32 := Scalar.addi arg0 c1_i32_108
  let c2_i32_109 : BitVec 32 := 2#32
  let c0_i32_110 : BitVec 32 := 0#32
  let v157 : BitVec 1 := Scalar.cmpi .eq c2_i32_109 c0_i32_110
  let c1_i32_111 : BitVec 32 := 1#32
  let v158 : BitVec 32 := Scalar.select v157 c1_i32_111 c2_i32_109
  let v159 : BitVec 32 := Scalar.remsi v156 v158
  let c0_i32_113 : BitVec 32 := 0#32
  let v161 : BitVec 1 := Scalar.cmpi .slt v159 c0_i32_113
  let c0_i32_114 : BitVec 32 := 0#32
  let v162 : BitVec 1 := Scalar.cmpi .slt v158 c0_i32_114
  let v163 : BitVec 1 := Scalar.xori v161 v162
  let c0_i32_112 : BitVec 32 := 0#32
  let v160 : BitVec 1 := Scalar.cmpi .ne v159 c0_i32_112
  let v164 : BitVec 1 := Scalar.andi v163 v160
  let v165 : BitVec 32 := Scalar.addi v159 v158
  let v166 : BitVec 32 := Scalar.select v164 v165 v159
  let c0_i32_136 : BitVec 32 := 0#32
  ![1, v166.toNat, 0]
def k0_off11 (i : grid0.Coords) : Fin 3 → Nat :=
  let c0_i32_143 : BitVec 32 := 0#32
  let arg0 : BitVec 32 := BitVec.ofNat 32 (i 0).val
  let c1_i32_108 : BitVec 32 := 1#32
  let v156 : BitVec 32 := Scalar.addi arg0 c1_i32_108
  let c2_i32_109 : BitVec 32 := 2#32
  let c0_i32_110 : BitVec 32 := 0#32
  let v157 : BitVec 1 := Scalar.cmpi .eq c2_i32_109 c0_i32_110
  let c1_i32_111 : BitVec 32 := 1#32
  let v158 : BitVec 32 := Scalar.select v157 c1_i32_111 c2_i32_109
  let v159 : BitVec 32 := Scalar.remsi v156 v158
  let c0_i32_113 : BitVec 32 := 0#32
  let v161 : BitVec 1 := Scalar.cmpi .slt v159 c0_i32_113
  let c0_i32_114 : BitVec 32 := 0#32
  let v162 : BitVec 1 := Scalar.cmpi .slt v158 c0_i32_114
  let v163 : BitVec 1 := Scalar.xori v161 v162
  let c0_i32_112 : BitVec 32 := 0#32
  let v160 : BitVec 1 := Scalar.cmpi .ne v159 c0_i32_112
  let v164 : BitVec 1 := Scalar.andi v163 v160
  let v165 : BitVec 32 := Scalar.addi v159 v158
  let v166 : BitVec 32 := Scalar.select v164 v165 v159
  let c1_i32_144 : BitVec 32 := 1#32
  ![0, v166.toNat, 1]
def k0_off12 (i : grid0.Coords) : Fin 4 → Nat :=
  let arg0 : BitVec 32 := BitVec.ofNat 32 (i 0).val
  let c1_i32_108 : BitVec 32 := 1#32
  let v156 : BitVec 32 := Scalar.addi arg0 c1_i32_108
  let c2_i32_109 : BitVec 32 := 2#32
  let c0_i32_110 : BitVec 32 := 0#32
  let v157 : BitVec 1 := Scalar.cmpi .eq c2_i32_109 c0_i32_110
  let c1_i32_111 : BitVec 32 := 1#32
  let v158 : BitVec 32 := Scalar.select v157 c1_i32_111 c2_i32_109
  let v159 : BitVec 32 := Scalar.remsi v156 v158
  let c0_i32_113 : BitVec 32 := 0#32
  let v161 : BitVec 1 := Scalar.cmpi .slt v159 c0_i32_113
  let c0_i32_114 : BitVec 32 := 0#32
  let v162 : BitVec 1 := Scalar.cmpi .slt v158 c0_i32_114
  let v163 : BitVec 1 := Scalar.xori v161 v162
  let c0_i32_112 : BitVec 32 := 0#32
  let v160 : BitVec 1 := Scalar.cmpi .ne v159 c0_i32_112
  let v164 : BitVec 1 := Scalar.andi v163 v160
  let v165 : BitVec 32 := Scalar.addi v159 v158
  let v166 : BitVec 32 := Scalar.select v164 v165 v159
  let c128_i32_145 : BitVec 32 := 128#32
  let c0_i32_146 : BitVec 32 := 0#32
  let c0_i32_147 : BitVec 32 := 0#32
  ![v166.toNat, 128, 0, 0]
def k0_off13 (i : grid0.Coords) (d0 : Dev nD) : Fin 4 → Nat :=
  let c128_i32_148 : BitVec 32 := 128#32
  let c0_i32_149 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8_i32_118 : BitVec 32 := 8#32
  let v173 : BitVec 32 := Scalar.muli v2 c8_i32_118
  let arg0 : BitVec 32 := BitVec.ofNat 32 (i 0).val
  let c1_i32_107 : BitVec 32 := 1#32
  let v155 : BitVec 32 := Scalar.addi arg0 c1_i32_107
  let v174 : BitVec 32 := Scalar.addi v173 v155
  let c0_i32_150 : BitVec 32 := 0#32
  ![128, 0, v174.toNat, 0]
def k0_off14 (i : grid0.Coords) : Fin 3 → Nat :=
  let c1_i32_151 : BitVec 32 := 1#32
  let arg0 : BitVec 32 := BitVec.ofNat 32 (i 0).val
  let c1_i32_108 : BitVec 32 := 1#32
  let v156 : BitVec 32 := Scalar.addi arg0 c1_i32_108
  let c2_i32_109 : BitVec 32 := 2#32
  let c0_i32_110 : BitVec 32 := 0#32
  let v157 : BitVec 1 := Scalar.cmpi .eq c2_i32_109 c0_i32_110
  let c1_i32_111 : BitVec 32 := 1#32
  let v158 : BitVec 32 := Scalar.select v157 c1_i32_111 c2_i32_109
  let v159 : BitVec 32 := Scalar.remsi v156 v158
  let c0_i32_113 : BitVec 32 := 0#32
  let v161 : BitVec 1 := Scalar.cmpi .slt v159 c0_i32_113
  let c0_i32_114 : BitVec 32 := 0#32
  let v162 : BitVec 1 := Scalar.cmpi .slt v158 c0_i32_114
  let v163 : BitVec 1 := Scalar.xori v161 v162
  let c0_i32_112 : BitVec 32 := 0#32
  let v160 : BitVec 1 := Scalar.cmpi .ne v159 c0_i32_112
  let v164 : BitVec 1 := Scalar.andi v163 v160
  let v165 : BitVec 32 := Scalar.addi v159 v158
  let v166 : BitVec 32 := Scalar.select v164 v165 v159
  let c1_i32_152 : BitVec 32 := 1#32
  ![1, v166.toNat, 1]
def k0_cond3 (i : grid0.Coords) : BitVec 1 :=
  let arg0 : BitVec 32 := BitVec.ofNat 32 (i 0).val
  let c7_i32 : BitVec 32 := 7#32
  let v15 : BitVec 1 := Scalar.cmpi .eq arg0 c7_i32
  let v16 : BitVec 32 := Scalar.extui v15
  let c0_i32_7 : BitVec 32 := 0#32
  let v17 : BitVec 1 := Scalar.cmpi .ne v16 c0_i32_7
  v17

def k0_dev3 (d0 : Dev nD) : Nat :=
  let c0_i32_400 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_399 : BitVec 32 := 2#32
  let v395 : BitVec 32 := Scalar.muli v7 c2_i32_399
  let v396 : BitVec 32 := Scalar.addi c0_i32_400 v395
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_401 : BitVec 32 := 1#32
  let v397 : BitVec 32 := Scalar.muli v5 c1_i32_401
  let v398 : BitVec 32 := Scalar.addi v396 v397
  v398.toNat
def k0_off15 (i : grid0.Coords) : Fin 3 → Nat :=
  let c2_i32_20 : BitVec 32 := 2#32
  let arg0 : BitVec 32 := BitVec.ofNat 32 (i 0).val
  let c2_i32_8 : BitVec 32 := 2#32
  let c0_i32_9 : BitVec 32 := 0#32
  let v18 : BitVec 1 := Scalar.cmpi .eq c2_i32_8 c0_i32_9
  let c1_i32_10 : BitVec 32 := 1#32
  let v19 : BitVec 32 := Scalar.select v18 c1_i32_10 c2_i32_8
  let v20 : BitVec 32 := Scalar.remsi arg0 v19
  let c0_i32_12 : BitVec 32 := 0#32
  let v22 : BitVec 1 := Scalar.cmpi .slt v20 c0_i32_12
  let c0_i32_13 : BitVec 32 := 0#32
  let v23 : BitVec 1 := Scalar.cmpi .slt v19 c0_i32_13
  let v24 : BitVec 1 := Scalar.xori v22 v23
  let c0_i32_11 : BitVec 32 := 0#32
  let v21 : BitVec 1 := Scalar.cmpi .ne v20 c0_i32_11
  let v25 : BitVec 1 := Scalar.andi v24 v21
  let v26 : BitVec 32 := Scalar.addi v20 v19
  let v27 : BitVec 32 := Scalar.select v25 v26 v20
  let c0_i32_21 : BitVec 32 := 0#32
  ![2, v27.toNat, 0]
def k0_off16 (i : grid0.Coords) : Fin 3 → Nat :=
  let arg0 : BitVec 32 := BitVec.ofNat 32 (i 0).val
  let c2_i32_8 : BitVec 32 := 2#32
  let c0_i32_9 : BitVec 32 := 0#32
  let v18 : BitVec 1 := Scalar.cmpi .eq c2_i32_8 c0_i32_9
  let c1_i32_10 : BitVec 32 := 1#32
  let v19 : BitVec 32 := Scalar.select v18 c1_i32_10 c2_i32_8
  let v20 : BitVec 32 := Scalar.remsi arg0 v19
  let c0_i32_12 : BitVec 32 := 0#32
  let v22 : BitVec 1 := Scalar.cmpi .slt v20 c0_i32_12
  let c0_i32_13 : BitVec 32 := 0#32
  let v23 : BitVec 1 := Scalar.cmpi .slt v19 c0_i32_13
  let v24 : BitVec 1 := Scalar.xori v22 v23
  let c0_i32_11 : BitVec 32 := 0#32
  let v21 : BitVec 1 := Scalar.cmpi .ne v20 c0_i32_11
  let v25 : BitVec 1 := Scalar.andi v24 v21
  let v26 : BitVec 32 := Scalar.addi v20 v19
  let v27 : BitVec 32 := Scalar.select v25 v26 v20
  let c0_i32_22 : BitVec 32 := 0#32
  let c0_i32_23 : BitVec 32 := 0#32
  ![v27.toNat, 0, 0]
def k0_off17 (i : grid0.Coords) (d0 : Dev nD) : Fin 4 → Nat :=
  let c0_i32_24 : BitVec 32 := 0#32
  let c0_i32_19 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8_i32_14 : BitVec 32 := 8#32
  let v28 : BitVec 32 := Scalar.muli v2 c8_i32_14
  let arg0 : BitVec 32 := BitVec.ofNat 32 (i 0).val
  let v29 : BitVec 32 := Scalar.addi v28 arg0
  let c0_i32_25 : BitVec 32 := 0#32
  ![0, 0, v29.toNat, 0]
def k0_off18 (i : grid0.Coords) : Fin 3 → Nat :=
  let c0_i32_26 : BitVec 32 := 0#32
  let arg0 : BitVec 32 := BitVec.ofNat 32 (i 0).val
  let c2_i32_8 : BitVec 32 := 2#32
  let c0_i32_9 : BitVec 32 := 0#32
  let v18 : BitVec 1 := Scalar.cmpi .eq c2_i32_8 c0_i32_9
  let c1_i32_10 : BitVec 32 := 1#32
  let v19 : BitVec 32 := Scalar.select v18 c1_i32_10 c2_i32_8
  let v20 : BitVec 32 := Scalar.remsi arg0 v19
  let c0_i32_12 : BitVec 32 := 0#32
  let v22 : BitVec 1 := Scalar.cmpi .slt v20 c0_i32_12
  let c0_i32_13 : BitVec 32 := 0#32
  let v23 : BitVec 1 := Scalar.cmpi .slt v19 c0_i32_13
  let v24 : BitVec 1 := Scalar.xori v22 v23
  let c0_i32_11 : BitVec 32 := 0#32
  let v21 : BitVec 1 := Scalar.cmpi .ne v20 c0_i32_11
  let v25 : BitVec 1 := Scalar.andi v24 v21
  let v26 : BitVec 32 := Scalar.addi v20 v19
  let v27 : BitVec 32 := Scalar.select v25 v26 v20
  let c0_i32_27 : BitVec 32 := 0#32
  ![0, v27.toNat, 0]
def k0_off19 (i : grid0.Coords) : Fin 4 → Nat :=
  let arg0 : BitVec 32 := BitVec.ofNat 32 (i 0).val
  let c2_i32_8 : BitVec 32 := 2#32
  let c0_i32_9 : BitVec 32 := 0#32
  let v18 : BitVec 1 := Scalar.cmpi .eq c2_i32_8 c0_i32_9
  let c1_i32_10 : BitVec 32 := 1#32
  let v19 : BitVec 32 := Scalar.select v18 c1_i32_10 c2_i32_8
  let v20 : BitVec 32 := Scalar.remsi arg0 v19
  let c0_i32_12 : BitVec 32 := 0#32
  let v22 : BitVec 1 := Scalar.cmpi .slt v20 c0_i32_12
  let c0_i32_13 : BitVec 32 := 0#32
  let v23 : BitVec 1 := Scalar.cmpi .slt v19 c0_i32_13
  let v24 : BitVec 1 := Scalar.xori v22 v23
  let c0_i32_11 : BitVec 32 := 0#32
  let v21 : BitVec 1 := Scalar.cmpi .ne v20 c0_i32_11
  let v25 : BitVec 1 := Scalar.andi v24 v21
  let v26 : BitVec 32 := Scalar.addi v20 v19
  let v27 : BitVec 32 := Scalar.select v25 v26 v20
  let c0_i32_28 : BitVec 32 := 0#32
  let c0_i32_29 : BitVec 32 := 0#32
  let c0_i32_30 : BitVec 32 := 0#32
  ![v27.toNat, 0, 0, 0]
def k0_off20 (i : grid0.Coords) (d0 : Dev nD) : Fin 4 → Nat :=
  let c0_i32_31 : BitVec 32 := 0#32
  let c0_i32_32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8_i32_15 : BitVec 32 := 8#32
  let v30 : BitVec 32 := Scalar.muli v2 c8_i32_15
  let arg0 : BitVec 32 := BitVec.ofNat 32 (i 0).val
  let v31 : BitVec 32 := Scalar.addi v30 arg0
  let c0_i32_33 : BitVec 32 := 0#32
  ![0, 0, v31.toNat, 0]
def k0_off21 (i : grid0.Coords) : Fin 3 → Nat :=
  let c1_i32_34 : BitVec 32 := 1#32
  let arg0 : BitVec 32 := BitVec.ofNat 32 (i 0).val
  let c2_i32_8 : BitVec 32 := 2#32
  let c0_i32_9 : BitVec 32 := 0#32
  let v18 : BitVec 1 := Scalar.cmpi .eq c2_i32_8 c0_i32_9
  let c1_i32_10 : BitVec 32 := 1#32
  let v19 : BitVec 32 := Scalar.select v18 c1_i32_10 c2_i32_8
  let v20 : BitVec 32 := Scalar.remsi arg0 v19
  let c0_i32_12 : BitVec 32 := 0#32
  let v22 : BitVec 1 := Scalar.cmpi .slt v20 c0_i32_12
  let c0_i32_13 : BitVec 32 := 0#32
  let v23 : BitVec 1 := Scalar.cmpi .slt v19 c0_i32_13
  let v24 : BitVec 1 := Scalar.xori v22 v23
  let c0_i32_11 : BitVec 32 := 0#32
  let v21 : BitVec 1 := Scalar.cmpi .ne v20 c0_i32_11
  let v25 : BitVec 1 := Scalar.andi v24 v21
  let v26 : BitVec 32 := Scalar.addi v20 v19
  let v27 : BitVec 32 := Scalar.select v25 v26 v20
  let c0_i32_35 : BitVec 32 := 0#32
  ![1, v27.toNat, 0]
def k0_off22 (i : grid0.Coords) : Fin 3 → Nat :=
  let c0_i32_42 : BitVec 32 := 0#32
  let arg0 : BitVec 32 := BitVec.ofNat 32 (i 0).val
  let c2_i32_8 : BitVec 32 := 2#32
  let c0_i32_9 : BitVec 32 := 0#32
  let v18 : BitVec 1 := Scalar.cmpi .eq c2_i32_8 c0_i32_9
  let c1_i32_10 : BitVec 32 := 1#32
  let v19 : BitVec 32 := Scalar.select v18 c1_i32_10 c2_i32_8
  let v20 : BitVec 32 := Scalar.remsi arg0 v19
  let c0_i32_12 : BitVec 32 := 0#32
  let v22 : BitVec 1 := Scalar.cmpi .slt v20 c0_i32_12
  let c0_i32_13 : BitVec 32 := 0#32
  let v23 : BitVec 1 := Scalar.cmpi .slt v19 c0_i32_13
  let v24 : BitVec 1 := Scalar.xori v22 v23
  let c0_i32_11 : BitVec 32 := 0#32
  let v21 : BitVec 1 := Scalar.cmpi .ne v20 c0_i32_11
  let v25 : BitVec 1 := Scalar.andi v24 v21
  let v26 : BitVec 32 := Scalar.addi v20 v19
  let v27 : BitVec 32 := Scalar.select v25 v26 v20
  let c1_i32_43 : BitVec 32 := 1#32
  ![0, v27.toNat, 1]
def k0_off23 (i : grid0.Coords) : Fin 4 → Nat :=
  let arg0 : BitVec 32 := BitVec.ofNat 32 (i 0).val
  let c2_i32_8 : BitVec 32 := 2#32
  let c0_i32_9 : BitVec 32 := 0#32
  let v18 : BitVec 1 := Scalar.cmpi .eq c2_i32_8 c0_i32_9
  let c1_i32_10 : BitVec 32 := 1#32
  let v19 : BitVec 32 := Scalar.select v18 c1_i32_10 c2_i32_8
  let v20 : BitVec 32 := Scalar.remsi arg0 v19
  let c0_i32_12 : BitVec 32 := 0#32
  let v22 : BitVec 1 := Scalar.cmpi .slt v20 c0_i32_12
  let c0_i32_13 : BitVec 32 := 0#32
  let v23 : BitVec 1 := Scalar.cmpi .slt v19 c0_i32_13
  let v24 : BitVec 1 := Scalar.xori v22 v23
  let c0_i32_11 : BitVec 32 := 0#32
  let v21 : BitVec 1 := Scalar.cmpi .ne v20 c0_i32_11
  let v25 : BitVec 1 := Scalar.andi v24 v21
  let v26 : BitVec 32 := Scalar.addi v20 v19
  let v27 : BitVec 32 := Scalar.select v25 v26 v20
  let c128_i32 : BitVec 32 := 128#32
  let c0_i32_44 : BitVec 32 := 0#32
  let c0_i32_45 : BitVec 32 := 0#32
  ![v27.toNat, 128, 0, 0]
def k0_off24 (i : grid0.Coords) (d0 : Dev nD) : Fin 4 → Nat :=
  let c128_i32_46 : BitVec 32 := 128#32
  let c0_i32_47 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8_i32_17 : BitVec 32 := 8#32
  let v34 : BitVec 32 := Scalar.muli v2 c8_i32_17
  let arg0 : BitVec 32 := BitVec.ofNat 32 (i 0).val
  let v35 : BitVec 32 := Scalar.addi v34 arg0
  let c0_i32_48 : BitVec 32 := 0#32
  ![128, 0, v35.toNat, 0]
def k0_off25 (i : grid0.Coords) : Fin 3 → Nat :=
  let c1_i32_49 : BitVec 32 := 1#32
  let arg0 : BitVec 32 := BitVec.ofNat 32 (i 0).val
  let c2_i32_8 : BitVec 32 := 2#32
  let c0_i32_9 : BitVec 32 := 0#32
  let v18 : BitVec 1 := Scalar.cmpi .eq c2_i32_8 c0_i32_9
  let c1_i32_10 : BitVec 32 := 1#32
  let v19 : BitVec 32 := Scalar.select v18 c1_i32_10 c2_i32_8
  let v20 : BitVec 32 := Scalar.remsi arg0 v19
  let c0_i32_12 : BitVec 32 := 0#32
  let v22 : BitVec 1 := Scalar.cmpi .slt v20 c0_i32_12
  let c0_i32_13 : BitVec 32 := 0#32
  let v23 : BitVec 1 := Scalar.cmpi .slt v19 c0_i32_13
  let v24 : BitVec 1 := Scalar.xori v22 v23
  let c0_i32_11 : BitVec 32 := 0#32
  let v21 : BitVec 1 := Scalar.cmpi .ne v20 c0_i32_11
  let v25 : BitVec 1 := Scalar.andi v24 v21
  let v26 : BitVec 32 := Scalar.addi v20 v19
  let v27 : BitVec 32 := Scalar.select v25 v26 v20
  let c1_i32_50 : BitVec 32 := 1#32
  ![1, v27.toNat, 1]
def k0_off26 (i : grid0.Coords) : Fin 3 → Nat :=
  let arg0 : BitVec 32 := BitVec.ofNat 32 (i 0).val
  let c2_i32_57 : BitVec 32 := 2#32
  let c0_i32_58 : BitVec 32 := 0#32
  let v68 : BitVec 1 := Scalar.cmpi .eq c2_i32_57 c0_i32_58
  let c1_i32_59 : BitVec 32 := 1#32
  let v69 : BitVec 32 := Scalar.select v68 c1_i32_59 c2_i32_57
  let v70 : BitVec 32 := Scalar.remsi arg0 v69
  let c0_i32_61 : BitVec 32 := 0#32
  let v72 : BitVec 1 := Scalar.cmpi .slt v70 c0_i32_61
  let c0_i32_62 : BitVec 32 := 0#32
  let v73 : BitVec 1 := Scalar.cmpi .slt v69 c0_i32_62
  let v74 : BitVec 1 := Scalar.xori v72 v73
  let c0_i32_60 : BitVec 32 := 0#32
  let v71 : BitVec 1 := Scalar.cmpi .ne v70 c0_i32_60
  let v75 : BitVec 1 := Scalar.andi v74 v71
  let v76 : BitVec 32 := Scalar.addi v70 v69
  let v77 : BitVec 32 := Scalar.select v75 v76 v70
  let v78 : Index := Scalar.indexCast v77
  let c0 : Index := 0#32
  let c0_63 : Index := 0#32
  ![v78.toNat, 0, 0]
def k0_off27 (i : grid0.Coords) : Fin 4 → Nat :=
  let arg0 : BitVec 32 := BitVec.ofNat 32 (i 0).val
  let c2_i32_64 : BitVec 32 := 2#32
  let c0_i32_65 : BitVec 32 := 0#32
  let v83 : BitVec 1 := Scalar.cmpi .eq c2_i32_64 c0_i32_65
  let c1_i32_66 : BitVec 32 := 1#32
  let v84 : BitVec 32 := Scalar.select v83 c1_i32_66 c2_i32_64
  let v85 : BitVec 32 := Scalar.remsi arg0 v84
  let c0_i32_68 : BitVec 32 := 0#32
  let v87 : BitVec 1 := Scalar.cmpi .slt v85 c0_i32_68
  let c0_i32_69 : BitVec 32 := 0#32
  let v88 : BitVec 1 := Scalar.cmpi .slt v84 c0_i32_69
  let v89 : BitVec 1 := Scalar.xori v87 v88
  let c0_i32_67 : BitVec 32 := 0#32
  let v86 : BitVec 1 := Scalar.cmpi .ne v85 c0_i32_67
  let v90 : BitVec 1 := Scalar.andi v89 v86
  let v91 : BitVec 32 := Scalar.addi v85 v84
  let v92 : BitVec 32 := Scalar.select v90 v91 v85
  let v93 : Index := Scalar.indexCast v92
  let c0_70 : Index := 0#32
  let c0_71 : Index := 0#32
  let c0_72 : Index := 0#32
  ![v93.toNat, 0, 0, 0]
def k0_off28 (i : grid0.Coords) : Fin 3 → Nat :=
  let arg0 : BitVec 32 := BitVec.ofNat 32 (i 0).val
  let v119 : Index := Scalar.indexCast arg0
  let c0_86 : Index := 0#32
  let c0_87 : Index := 0#32
  ![v119.toNat, 0, 0]
def k0_off29 (i : grid0.Coords) : Fin 3 → Nat :=
  let arg0 : BitVec 32 := BitVec.ofNat 32 (i 0).val
  let v124 : Index := Scalar.indexCast arg0
  let c0_89 : Index := 0#32
  let c0_90 : Index := 0#32
  ![v124.toNat, 0, 0]
def k0_off30 (i : grid0.Coords) : Fin 1 → Nat :=
  let arg0 : BitVec 32 := BitVec.ofNat 32 (i 0).val
  ![arg0.toNat]
def k0_off31 (i : grid0.Coords) : Fin 3 → Nat :=
  let arg0 : BitVec 32 := BitVec.ofNat 32 (i 0).val
  let c0_i32_94 : BitVec 32 := 0#32
  let c0_i32_95 : BitVec 32 := 0#32
  ![arg0.toNat, 0, 0]
def k0_dev4 (d0 : Dev nD) : Nat :=
  let c0_i32_92 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_91 : BitVec 32 := 2#32
  let v128 : BitVec 32 := Scalar.muli v2 c2_i32_91
  let v129 : BitVec 32 := Scalar.addi c0_i32_92 v128
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_93 : BitVec 32 := 1#32
  let v130 : BitVec 32 := Scalar.muli v6 c1_i32_93
  let v131 : BitVec 32 := Scalar.addi v129 v130
  v131.toNat
def k0_off32 (i : grid0.Coords) : Fin 3 → Nat :=
  let arg0 : BitVec 32 := BitVec.ofNat 32 (i 0).val
  let c0_i32_101 : BitVec 32 := 0#32
  let c0_i32_102 : BitVec 32 := 0#32
  ![arg0.toNat, 0, 0]
def k0_dev5 (d0 : Dev nD) : Nat :=
  let c0_i32_99 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_98 : BitVec 32 := 2#32
  let v140 : BitVec 32 := Scalar.muli v2 c2_i32_98
  let v141 : BitVec 32 := Scalar.addi c0_i32_99 v140
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_100 : BitVec 32 := 1#32
  let v142 : BitVec 32 := Scalar.muli v6 c1_i32_100
  let v143 : BitVec 32 := Scalar.addi v141 v142
  v143.toNat
def k0_cond4 (i : grid0.Coords) : BitVec 1 :=
  let arg0 : BitVec 32 := BitVec.ofNat 32 (i 0).val
  let c7_i32_105 : BitVec 32 := 7#32
  let v152 : BitVec 1 := Scalar.cmpi .eq arg0 c7_i32_105
  let v153 : BitVec 32 := Scalar.extui v152
  let c0_i32_106 : BitVec 32 := 0#32
  let v154 : BitVec 1 := Scalar.cmpi .ne v153 c0_i32_106
  v154

def k0_dev6 (d0 : Dev nD) : Nat :=
  let c0_i32_162 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_161 : BitVec 32 := 2#32
  let v203 : BitVec 32 := Scalar.muli v7 c2_i32_161
  let v204 : BitVec 32 := Scalar.addi c0_i32_162 v203
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_163 : BitVec 32 := 1#32
  let v205 : BitVec 32 := Scalar.muli v5 c1_i32_163
  let v206 : BitVec 32 := Scalar.addi v204 v205
  v206.toNat
def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x256 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S32x1x16x128 : Shape := ⟨4, ![32, 1, 16, 128]⟩
abbrev S512x32x16x128 : Shape := ⟨4, ![512, 32, 16, 128]⟩
abbrev S32x256 : Shape := ⟨2, ![32, 256]⟩
abbrev S32x1 : Shape := ⟨2, ![32, 1]⟩
abbrev S_ : Shape := ⟨0, ![]⟩
abbrev S32x256x1 : Shape := ⟨3, ![32, 256, 1]⟩
abbrev S32x256x32x16x128 : Shape := ⟨5, ![32, 256, 32, 16, 128]⟩
abbrev S32x8192x16x128 : Shape := ⟨4, ![32, 8192, 16, 128]⟩
abbrev S32x16x1x8192 : Shape := ⟨4, ![32, 16, 1, 8192]⟩
abbrev S32x1x1x8192 : Shape := ⟨4, ![32, 1, 1, 8192]⟩
abbrev S32x1x1x1 : Shape := ⟨4, ![32, 1, 1, 1]⟩
abbrev S32x16x1 : Shape := ⟨3, ![32, 16, 1]⟩
abbrev S32x16x1x1 : Shape := ⟨4, ![32, 16, 1, 1]⟩
abbrev S32x16x128x1 : Shape := ⟨4, ![32, 16, 128, 1]⟩
abbrev S32x2048 : Shape := ⟨2, ![32, 2048]⟩

abbrev nBuf : Space → Nat
  | .hbm => 70
  | .vmem => 0
  | .smem => 0
  | _ => 0

abbrev bufTy : (tb : Table) → Fin (tcTables nBuf tb) → BufTy
  | .hbm, ⟨0, _⟩ => ⟨S32x1x16x128, .f32⟩
  | .hbm, ⟨1, _⟩ => ⟨S512x32x16x128, .f32⟩
  | .hbm, ⟨2, _⟩ => ⟨S512x32x16x128, .f32⟩
  | .hbm, ⟨3, _⟩ => ⟨S32x256, .i32⟩
  | .hbm, ⟨4, _⟩ => ⟨S32x1, .i32⟩
  | .hbm, ⟨5, _⟩ => ⟨S_, .i32⟩
  | .hbm, ⟨6, _⟩ => ⟨S32x256, .i32⟩
  | .hbm, ⟨7, _⟩ => ⟨S32x256, .i1⟩
  | .hbm, ⟨8, _⟩ => ⟨S_, .i32⟩
  | .hbm, ⟨9, _⟩ => ⟨S32x256, .i32⟩
  | .hbm, ⟨10, _⟩ => ⟨S32x256, .i32⟩
  | .hbm, ⟨11, _⟩ => ⟨S32x256, .i32⟩
  | .hbm, ⟨12, _⟩ => ⟨S32x256x1, .i32⟩
  | .hbm, ⟨13, _⟩ => ⟨S32x256x32x16x128, .f32⟩
  | .hbm, ⟨14, _⟩ => ⟨S32x8192x16x128, .f32⟩
  | .hbm, ⟨15, _⟩ => ⟨S_, .i32⟩
  | .hbm, ⟨16, _⟩ => ⟨S32x256, .i32⟩
  | .hbm, ⟨17, _⟩ => ⟨S32x256, .i1⟩
  | .hbm, ⟨18, _⟩ => ⟨S_, .i32⟩
  | .hbm, ⟨19, _⟩ => ⟨S32x256, .i32⟩
  | .hbm, ⟨20, _⟩ => ⟨S32x256, .i32⟩
  | .hbm, ⟨21, _⟩ => ⟨S32x256, .i32⟩
  | .hbm, ⟨22, _⟩ => ⟨S32x256x1, .i32⟩
  | .hbm, ⟨23, _⟩ => ⟨S32x256x32x16x128, .f32⟩
  | .hbm, ⟨24, _⟩ => ⟨S32x8192x16x128, .f32⟩
  | .hbm, ⟨25, _⟩ => ⟨S32x16x1x8192, .f32⟩
  | .hbm, ⟨26, _⟩ => ⟨S_, .f32⟩
  | .hbm, ⟨27, _⟩ => ⟨S32x16x1x8192, .f32⟩
  | .hbm, ⟨28, _⟩ => ⟨S32x16x1x8192, .f32⟩
  | .hbm, ⟨29, _⟩ => ⟨S32x1x1x8192, .i32⟩
  | .hbm, ⟨30, _⟩ => ⟨S_, .i32⟩
  | .hbm, ⟨31, _⟩ => ⟨S_, .i32⟩
  | .hbm, ⟨32, _⟩ => ⟨S32x1x1x8192, .i32⟩
  | .hbm, ⟨33, _⟩ => ⟨S32x1x1x8192, .i32⟩
  | .hbm, ⟨34, _⟩ => ⟨S32x1x1x8192, .i32⟩
  | .hbm, ⟨35, _⟩ => ⟨S_, .i32⟩
  | .hbm, ⟨36, _⟩ => ⟨S32x1x1x8192, .i32⟩
  | .hbm, ⟨37, _⟩ => ⟨S32x1x1x8192, .i1⟩
  | .hbm, ⟨38, _⟩ => ⟨S32x1x1x8192, .i32⟩
  | .hbm, ⟨39, _⟩ => ⟨S32x1x1x8192, .i32⟩
  | .hbm, ⟨40, _⟩ => ⟨S_, .i32⟩
  | .hbm, ⟨41, _⟩ => ⟨S32x1x1x8192, .i32⟩
  | .hbm, ⟨42, _⟩ => ⟨S32x1x1x8192, .i1⟩
  | .hbm, ⟨43, _⟩ => ⟨S32x1x1x8192, .i1⟩
  | .hbm, ⟨44, _⟩ => ⟨S_, .i32⟩
  | .hbm, ⟨45, _⟩ => ⟨S32x1x1x8192, .i32⟩
  | .hbm, ⟨46, _⟩ => ⟨S32x1x1x8192, .i32⟩
  | .hbm, ⟨47, _⟩ => ⟨S32x1x1x8192, .i32⟩
  | .hbm, ⟨48, _⟩ => ⟨S32x1x1x1, .i32⟩
  | .hbm, ⟨49, _⟩ => ⟨S32x1x1x8192, .i32⟩
  | .hbm, ⟨50, _⟩ => ⟨S32x1x1x8192, .i1⟩
  | .hbm, ⟨51, _⟩ => ⟨S_, .f32⟩
  | .hbm, ⟨52, _⟩ => ⟨S_, .f32⟩
  | .hbm, ⟨53, _⟩ => ⟨S32x16x1x8192, .i1⟩
  | .hbm, ⟨54, _⟩ => ⟨S32x16x1x8192, .f32⟩
  | .hbm, ⟨55, _⟩ => ⟨S32x16x1x8192, .f32⟩
  | .hbm, ⟨56, _⟩ => ⟨S_, .f32⟩
  | .hbm, ⟨57, _⟩ => ⟨S32x16x1, .f32⟩
  | .hbm, ⟨58, _⟩ => ⟨S32x16x1x1, .f32⟩
  | .hbm, ⟨59, _⟩ => ⟨S32x16x1x8192, .f32⟩
  | .hbm, ⟨60, _⟩ => ⟨S32x16x1x8192, .f32⟩
  | .hbm, ⟨61, _⟩ => ⟨S32x16x1x8192, .f32⟩
  | .hbm, ⟨62, _⟩ => ⟨S_, .f32⟩
  | .hbm, ⟨63, _⟩ => ⟨S32x16x1, .f32⟩
  | .hbm, ⟨64, _⟩ => ⟨S32x16x1x1, .f32⟩
  | .hbm, ⟨65, _⟩ => ⟨S32x16x1x8192, .f32⟩
  | .hbm, ⟨66, _⟩ => ⟨S32x16x1x8192, .f32⟩
  | .hbm, ⟨67, _⟩ => ⟨S32x16x128x1, .f32⟩
  | .hbm, ⟨68, _⟩ => ⟨S32x1x16x128, .f32⟩
  | .hbm, ⟨69, _⟩ => ⟨S32x2048, .f32⟩
  | _, _ => ⟨S32x1x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_3 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_c : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_c_0 : Ref sig .tc := ⟨.hbm, 44, rfl⟩
abbrev main_call0_v12 : Ref sig .tc := ⟨.hbm, 45, rfl⟩
abbrev main_call0_v13 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_cst_4 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v24 : Ref sig .tc := ⟨.hbm, 55, rfl⟩
abbrev main_cst_5 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_cst_6 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩

abbrev nD : Nat := 1
abbrev τ : Topo := Topo.v7x

variable {F : FTy → Type} [FloatOps F]
-- ==== Proof.Common.lean ====
/- The geometry of the kernel's run: the mesh's neighbours, the regions of the scratch buffers that one transfer or one
   step of the loop touches, the views that name them, and the semaphores. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.ValueLayout

@[expose] public section

noncomputable section

namespace Cert.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx
open Cert.KernelIdeal Cert.KernelIdeal.Gen

/-! ## The mesh: device `2x + y` -/

/-- The neighbour along `y`: the other half of the pages, the same heads. -/
def yp (c : Dev nD) : Dev nD := ⟨(2 * (c.val / 2) + 1) - c.val % 2, by have := c.isLt; simp only [nD] at this ⊢; omega⟩
/-- The neighbour along `x`: the other half of the heads, the same pages. -/
def xp (c : Dev nD) : Dev nD := ⟨(c.val % 2 + 2) - 2 * (c.val / 2), by have := c.isLt; simp only [nD] at this ⊢; omega⟩

theorem yp_yp : ∀ c : Dev nD, yp (yp c) = c := by decide
theorem xp_xp : ∀ c : Dev nD, xp (xp c) = c := by decide
theorem dev1_eq (c : Dev nD) (h : k0_dev1 c < nD) : (⟨k0_dev1 c, h⟩ : Dev nD) = yp c := Fin.ext (by revert c; decide)
theorem dev2_eq (c : Dev nD) (h : k0_dev2 c < nD) : (⟨k0_dev2 c, h⟩ : Dev nD) = xp c := Fin.ext (by revert c; decide)
theorem dev3_eq (c : Dev nD) (h : k0_dev3 c < nD) : (⟨k0_dev3 c, h⟩ : Dev nD) = xp c := Fin.ext (by revert c; decide)
theorem dev4_eq (c : Dev nD) (h : k0_dev4 c < nD) : (⟨k0_dev4 c, h⟩ : Dev nD) = yp c := Fin.ext (by revert c; decide)
theorem dev5_eq (c : Dev nD) (h : k0_dev5 c < nD) : (⟨k0_dev5 c, h⟩ : Dev nD) = yp c := Fin.ext (by revert c; decide)
theorem dev6_eq (c : Dev nD) (h : k0_dev6 c < nD) : (⟨k0_dev6 c, h⟩ : Dev nD) = xp c := Fin.ext (by revert c; decide)

/-! ## The regions -/

/-- Head `h`'s part of the partial outputs. -/
def hS (h : ℕ) : Finset S8x32x128.Idx := Finset.univ.filter fun i => (i 0).val = h
/-- Head `h`'s part of the partial denominators. -/
def lS (h : ℕ) : Finset S8x1x32.Idx := Finset.univ.filter fun i => (i 0).val = h
/-- Slot `s` of the staged query. -/
def qS (s : ℕ) : Finset S2x32x128.Idx := Finset.univ.filter fun i => (i 0).val = s
/-- Half `b` of slot `s` of the staged keys or values. -/
def kS (s b : ℕ) : Finset S2x256x32x128.Idx := Finset.univ.filter fun i => (i 0).val = s ∧ (i 1).val / 128 = b
/-- Wave `w` of the exchanged output: the first seven heads, then the last. -/
def xS (w : ℕ) : Finset S32x1024.Idx := Finset.univ.filter fun i => (i 1).val / 896 = w

/-! ## The views -/

theorem inbH (h : Fin 8) : ∀ a, (![h.val, 0, 0] : Fin 3 → ℕ) a + S1x32x128.size a ≤ S8x32x128.size a := by revert h; decide
theorem inbL (h : Fin 8) : ∀ a, (![h.val, 0, 0] : Fin 3 → ℕ) a + S1x1x32.size a ≤ S8x1x32.size a := by revert h; decide
theorem inbQ (s : Fin 2) : ∀ a, (![s.val, 0, 0] : Fin 3 → ℕ) a + S1x32x128.size a ≤ S2x32x128.size a := by revert s; decide
theorem inbK (s b : Fin 2) : ∀ a, (![s.val, 128 * b.val, 0, 0] : Fin 4 → ℕ) a + S1x128x32x128.size a ≤ S2x256x32x128.size a := by
  revert s b; decide
theorem inbQg (c : Dev nD) (h : Fin 8) : ∀ a, (![0, 0, 8 * (c.val / 2) + h.val, 0] : Fin 4 → ℕ) a + S32x1x1x128.size a ≤ S32x1x16x128.size a := by
  revert c h; decide
theorem inbKg (c : Dev nD) (h : Fin 8) (b : Fin 2) :
    ∀ a, (![128 * b.val, 0, 8 * (c.val / 2) + h.val, 0] : Fin 4 → ℕ) a + S128x32x1x128.size a ≤ S256x32x16x128.size a := by
  revert c h b; decide

/-- Head `h` of a buffer of partial outputs. -/
def hM (b : Memref sig .tc .vmem S8x32x128 .f32) (h : Fin 8) : Memref sig .tc .vmem S32x128 .f32 :=
  (b.slice (Rect.unit (s := S8x32x128) ![h.val, 0, 0] S1x32x128.size (inbH h)) (fun _ => rfl)).squeeze S32x128 squeezes_S1x32x128_S32x128
/-- Head `h` of a buffer of partial denominators. -/
def lM (b : Memref sig .tc .vmem S8x1x32 .f32) (h : Fin 8) : Memref sig .tc .vmem S1x32 .f32 :=
  (b.slice (Rect.unit (s := S8x1x32) ![h.val, 0, 0] S1x1x32.size (inbL h)) (fun _ => rfl)).squeeze S1x32 squeezes_S1x1x32_S1x32
/-- Slot `s` of the staged query. -/
def qM (s : Fin 2) : Memref sig .tc .vmem S32x128 .f32 :=
  ((Memref.whole cc0_scratch7).slice (Rect.unit (s := S2x32x128) ![s.val, 0, 0] S1x32x128.size (inbQ s)) (fun _ => rfl)).squeeze S32x128
    squeezes_S1x32x128_S32x128
/-- Half `b` of slot `s` of a staging buffer of keys or values. -/
def kM (B : Memref sig .tc .vmem S2x256x32x128 .f32) (s b : Fin 2) : Memref sig .tc .vmem S128x32x128 .f32 :=
  (B.slice (Rect.unit (s := S2x256x32x128) ![s.val, 128 * b.val, 0, 0] S1x128x32x128.size (inbK s b)) (fun _ => rfl)).squeeze S128x32x128
    squeezes_S1x128x32x128_S128x32x128
/-- The query of device `c`'s head `h`. -/
def qG (c : Dev nD) (h : Fin 8) : Memref sig .tc .hbm S32x128 .f32 :=
  ((Memref.whole main_arg0).slice (Rect.unit (s := S32x1x16x128) ![0, 0, 8 * (c.val / 2) + h.val, 0] S32x1x1x128.size (inbQg c h))
    (fun _ => rfl)).squeeze S32x128 squeezes_S32x1x1x128_S32x128
/-- Half `b` of the pages of device `c`'s head `h`. -/
def kG (A : Memref sig .tc .hbm S256x32x16x128 .f32) (c : Dev nD) (h : Fin 8) (b : Fin 2) : Memref sig .tc .hbm S128x32x128 .f32 :=
  (A.slice (Rect.unit (s := S256x32x16x128) ![128 * b.val, 0, 8 * (c.val / 2) + h.val, 0] S128x32x1x128.size (inbKg c h b))
    (fun _ => rfl)).squeeze S128x32x128 squeezes_S128x32x1x128_S128x32x128

/-- A squeezed slice depends on its offsets only. -/
theorem sq_congr {sp : Space} {s s' s'' : Shape} {e : EltTy} {M : Memref sig .tc sp s e} {off off' : Fin s.rank → ℕ} (h : off = off')
    {sz : Fin s.rank → ℕ} {hi : ∀ a, off a + sz a ≤ s.size a} {hi' : ∀ a, off' a + sz a ≤ s.size a}
    {hs : ∀ a, (Rect.unit off sz hi).stride a = 1} {hs' : ∀ a, (Rect.unit off' sz hi').stride a = 1}
    {hq : (Rect.unit off sz hi).shape.Squeezes s'} {hq' : (Rect.unit off' sz hi').shape.Squeezes s'} :
    (M.slice (Rect.unit off sz hi) hs).squeeze s' hq = (M.slice (Rect.unit off' sz hi') hs').squeeze s' hq' := by
  subst h; rfl

/-! ### Where a squeezed slice's element sits -/

theorem eta2 {a b : ℕ} (j : (⟨2, ![a, b]⟩ : Shape).Idx) : ∃ (x : Fin a) (y : Fin b), j = ix2 x y :=
  ⟨j 0, j 1, funext fun i => by fin_cases i <;> rfl⟩
theorem eta3 {a b d : ℕ} (j : (⟨3, ![a, b, d]⟩ : Shape).Idx) : ∃ (x : Fin a) (y : Fin b) (z : Fin d), j = ix3 x y z :=
  ⟨j 0, j 1, j 2, funext fun i => by fin_cases i <;> rfl⟩
theorem eta4 {a b d e : ℕ} (j : (⟨4, ![a, b, d, e]⟩ : Shape).Idx) : ∃ (x : Fin a) (y : Fin b) (z : Fin d) (w : Fin e), j = ix4 x y z w :=
  ⟨j 0, j 1, j 2, j 3, funext fun i => by fin_cases i <;> rfl⟩
theorem re_a11b {a b : ℕ} (h : (⟨2, ![a, b]⟩ : Shape).numel = (⟨4, ![a, 1, 1, b]⟩ : Shape).numel) (x : Fin a) (y : Fin b) :
    Shape.reshapeEquiv h (ix2 x y) = ix4 x (⟨0, Nat.one_pos⟩ : Fin 1) (⟨0, Nat.one_pos⟩ : Fin 1) y :=
  Shape.reshapeEquiv_eq_of_rowMajor h (by
    rw [Shape.rowMajor_val_four, Shape.rowMajor_val_two]
    show ((x.val * 1 + 0) * 1 + 0) * b + y.val = x.val * b + y.val
    simp only [Nat.mul_one, Nat.add_zero])
theorem re_ab1c {a b d : ℕ} (h : (⟨3, ![a, b, d]⟩ : Shape).numel = (⟨4, ![a, b, 1, d]⟩ : Shape).numel) (x : Fin a) (y : Fin b) (z : Fin d) :
    Shape.reshapeEquiv h (ix3 x y z) = ix4 x y (⟨0, Nat.one_pos⟩ : Fin 1) z :=
  Shape.reshapeEquiv_eq_of_rowMajor h (by
    rw [Shape.rowMajor_val_four, Shape.rowMajor_val_three]
    show ((x.val * b + y.val) * 1 + 0) * d + z.val = (x.val * b + y.val) * d + z.val
    simp only [Nat.mul_one, Nat.add_zero])

/-- Contents written over a view agree there with any contents that read as what was written. -/
theorem write_agree {Val : EltTy → Type} {sp : Space} {s : Shape} {e : EltTy} (v : View sig .tc sp s e) (f g : v.ty.Contents Val)
    (w : s.Idx → Val e) (h : ∀ x, w x = v.read Val g x) : ∀ i ∈ v.set, v.write Val f w Finset.univ i = g i := by
  intro i hi
  obtain ⟨x, -, rfl⟩ := Finset.mem_map.mp hi
  rw [View.write_emb_of_mem _ _ (Finset.mem_univ _), h, View.read_apply, cast_cast, cast_eq]

/-! ### The regions are the views' elements -/

theorem hset (h : Fin 8) : (Rect.unit (s := S8x32x128) ![h.val, 0, 0] S1x32x128.size (inbH h)).set = hS h.val := by
  ext i
  have h1 : (i 1).val < 32 := (i 1).isLt
  have h2 : (i 2).val < 128 := (i 2).isLt
  rw [Rect.mem_set_unit]
  simp only [Fin.forall_fin_succ, Fin.forall_fin_zero_pi, hS, Finset.mem_filter, Finset.mem_univ, true_and]
  simp
  omega
theorem lset (h : Fin 8) : (Rect.unit (s := S8x1x32) ![h.val, 0, 0] S1x1x32.size (inbL h)).set = lS h.val := by
  ext i
  have h1 : (i 1).val < 1 := (i 1).isLt
  have h2 : (i 2).val < 32 := (i 2).isLt
  rw [Rect.mem_set_unit]
  simp only [Fin.forall_fin_succ, Fin.forall_fin_zero_pi, lS, Finset.mem_filter, Finset.mem_univ, true_and]
  simp
  omega
theorem qset (s : Fin 2) : (Rect.unit (s := S2x32x128) ![s.val, 0, 0] S1x32x128.size (inbQ s)).set = qS s.val := by
  ext i
  have h1 : (i 1).val < 32 := (i 1).isLt
  have h2 : (i 2).val < 128 := (i 2).isLt
  rw [Rect.mem_set_unit]
  simp only [Fin.forall_fin_succ, Fin.forall_fin_zero_pi, qS, Finset.mem_filter, Finset.mem_univ, true_and]
  simp
  omega
theorem kset (s b : Fin 2) : (Rect.unit (s := S2x256x32x128) ![s.val, 128 * b.val, 0, 0] S1x128x32x128.size (inbK s b)).set = kS s.val b.val := by
  ext i
  have h1 : (i 1).val < 256 := (i 1).isLt
  have h2 : (i 2).val < 32 := (i 2).isLt
  have h3 : (i 3).val < 128 := (i 3).isLt
  have hb := b.isLt
  rw [Rect.mem_set_unit]
  simp only [Fin.forall_fin_succ, Fin.forall_fin_zero_pi, kS, Finset.mem_filter, Finset.mem_univ, true_and]
  simp
  omega
theorem xset0 (hi) : (Rect.unit (s := S32x1024) ![0, 0] S32x896.size hi).set = xS 0 := by
  ext i
  have h1 : (i 0).val < 32 := (i 0).isLt
  have h2 : (i 1).val < 1024 := (i 1).isLt
  rw [Rect.mem_set_unit]
  simp only [Fin.forall_fin_succ, Fin.forall_fin_zero_pi, xS, Finset.mem_filter, Finset.mem_univ, true_and]
  simp
  omega
theorem xset1 (hi) : (Rect.unit (s := S32x1024) ![0, 896] S32x128.size hi).set = xS 1 := by
  ext i
  have h1 : (i 0).val < 32 := (i 0).isLt
  have h2 : (i 1).val < 1024 := (i 1).isLt
  rw [Rect.mem_set_unit]
  simp only [Fin.forall_fin_succ, Fin.forall_fin_zero_pi, xS, Finset.mem_filter, Finset.mem_univ, true_and]
  simp
  omega

theorem set_ao (h : Fin 8) : (hM (Memref.whole cc0_scratch1) h).view.set = hS h.val :=
  (View.set_reshape _ _).trans ((View.set_slice_whole cc0_scratch1 _).trans (hset h))
theorem set_ro (h : Fin 8) : (hM (Memref.whole cc0_scratch3) h).view.set = hS h.val :=
  (View.set_reshape _ _).trans ((View.set_slice_whole cc0_scratch3 _).trans (hset h))
theorem set_al (h : Fin 8) : (lM (Memref.whole cc0_scratch2) h).view.set = lS h.val :=
  (View.set_reshape _ _).trans ((View.set_slice_whole cc0_scratch2 _).trans (lset h))
theorem set_rl (h : Fin 8) : (lM (Memref.whole cc0_scratch4) h).view.set = lS h.val :=
  (View.set_reshape _ _).trans ((View.set_slice_whole cc0_scratch4 _).trans (lset h))
theorem set_qM (s : Fin 2) : (qM s).view.set = qS s.val :=
  (View.set_reshape _ _).trans ((View.set_slice_whole cc0_scratch7 _).trans (qset s))
theorem set_kM (s b : Fin 2) : (kM (Memref.whole cc0_scratch8) s b).view.set = kS s.val b.val :=
  (View.set_reshape _ _).trans ((View.set_slice_whole cc0_scratch8 _).trans (kset s b))
theorem set_vM (s b : Fin 2) : (kM (Memref.whole cc0_scratch9) s b).view.set = kS s.val b.val :=
  (View.set_reshape _ _).trans ((View.set_slice_whole cc0_scratch9 _).trans (kset s b))

/-! ## What the buffers hold -/

variable {F : FTy → Type} [FloatOps F]
variable (m : (ℓ : Loc nD τ sig) → Buf (Elt F) ℓ)

/-- Device `c`'s arguments. -/
def qA (c : Dev nD) : S32x1x16x128.Idx → Elt F .f32 := m ((c : Thread nD τ).loc main_arg0)
def kA (c : Dev nD) : S256x32x16x128.Idx → Elt F .f32 := m ((c : Thread nD τ).loc main_arg1)
def vA (c : Dev nD) : S256x32x16x128.Idx → Elt F .f32 := m ((c : Thread nD τ).loc main_arg2)
def btA (c : Dev nD) : S32x256.Idx → Elt F .i32 := m ((c : Thread nD τ).loc main_arg3)
def lnA (c : Dev nD) : S32x1.Idx → Elt F .i32 := m ((c : Thread nD τ).loc main_arg4)

/-- The global number of device `c`'s head `h`. -/
def hd (c : Dev nD) (h : Fin 8) : Fin 16 := ⟨8 * (c.val / 2) + h.val, by have := c.isLt; have := h.isLt; simp only [nD] at *; omega⟩

/-- The staged query of head `h`, the same in either slot. -/
def qB (A : S32x1x16x128.Idx → Elt F .f32) (c : Dev nD) (h : Fin 8) : S2x32x128.Idx → Elt F .f32 := fun i => A (ix4 (i 1 : Fin 32) 0 (hd c h) (i 2 : Fin 128))
/-- The staged keys or values of head `h`, the same in either slot. -/
def kB (A : S256x32x16x128.Idx → Elt F .f32) (c : Dev nD) (h : Fin 8) : S2x256x32x128.Idx → Elt F .f32 :=
  fun i => A (ix4 (i 1 : Fin 256) (i 2 : Fin 32) (hd c h) (i 3 : Fin 128))
/-- The query of head `h`. -/
def qV (A : S32x1x16x128.Idx → Elt F .f32) (c : Dev nD) (h : Fin 8) : Vec F S1x32x128 .f32 := fun i => A (ix4 (i 1 : Fin 32) 0 (hd c h) (i 2 : Fin 128))
/-- The keys or values of head `h`. -/
def kV (A : S256x32x16x128.Idx → Elt F .f32) (c : Dev nD) (h : Fin 8) : Vec F S1x256x32x128 .f32 :=
  fun i => A (ix4 (i 1 : Fin 256) (i 2 : Fin 32) (hd c h) (i 3 : Fin 128))

theorem landed_q (A : S32x1x16x128.Idx → Elt F .f32) (c : Dev nD) (h : Fin 8) (s : Fin 2) (x : S32x128.Idx) :
    (qG c h).view.read (Elt F) A x = (qM s).view.read (Elt F) (qB A c h) x := by
  obtain ⟨x, y, rfl⟩ := eta2 x
  have e1 : (qG c h).view.emb (ix2 x y) = (Rect.unit (s := S32x1x16x128) _ S32x1x1x128.size (inbQg c h)).emb (ix4 x (⟨0, Nat.one_pos⟩ : Fin 1) (⟨0, Nat.one_pos⟩ : Fin 1) y) :=
    congrArg (Rect.unit (s := S32x1x16x128) _ S32x1x1x128.size (inbQg c h)).emb (re_a11b squeezes_S32x1x1x128_S32x128.numel_eq x y)
  have e2 : (qM s).view.emb (ix2 x y) = (Rect.unit (s := S2x32x128) _ S1x32x128.size (inbQ s)).emb (ix3 (⟨0, Nat.one_pos⟩ : Fin 1) x y) :=
    congrArg (Rect.unit (s := S2x32x128) _ S1x32x128.size (inbQ s)).emb (reshapeEquiv_ix2_1ab squeezes_S1x32x128_S32x128.numel_eq x y)
  show A ((qG c h).view.emb (ix2 x y)) = qB A c h ((qM s).view.emb (ix2 x y))
  rw [e1, e2]
  refine congrArg A (funext fun a => Fin.ext ?_)
  fin_cases a <;> simp [Rect.emb_apply, hd, ix4, ix3]

theorem landed_k (A : S256x32x16x128.Idx → Elt F .f32) (c : Dev nD) (h : Fin 8) (s b : Fin 2) (x : S128x32x128.Idx) :
    (kG (Memref.whole main_arg1) c h b).view.read (Elt F) A x = (kM (Memref.whole cc0_scratch8) s b).view.read (Elt F) (kB A c h) x := by
  obtain ⟨x, y, z, rfl⟩ := eta3 x
  have e1 : (kG (Memref.whole main_arg1) c h b).view.emb (ix3 x y z)
      = (Rect.unit (s := S256x32x16x128) _ S128x32x1x128.size (inbKg c h b)).emb (ix4 x y (⟨0, Nat.one_pos⟩ : Fin 1) z) :=
    congrArg (Rect.unit (s := S256x32x16x128) _ S128x32x1x128.size (inbKg c h b)).emb (re_ab1c squeezes_S128x32x1x128_S128x32x128.numel_eq x y z)
  have e2 : (kM (Memref.whole cc0_scratch8) s b).view.emb (ix3 x y z)
      = (Rect.unit (s := S2x256x32x128) _ S1x128x32x128.size (inbK s b)).emb (ix4 (⟨0, Nat.one_pos⟩ : Fin 1) x y z) :=
    congrArg (Rect.unit (s := S2x256x32x128) _ S1x128x32x128.size (inbK s b)).emb (reshapeEquiv_ix3_1abc squeezes_S1x128x32x128_S128x32x128.numel_eq x y z)
  show A ((kG (Memref.whole main_arg1) c h b).view.emb (ix3 x y z)) = kB A c h ((kM (Memref.whole cc0_scratch8) s b).view.emb (ix3 x y z))
  rw [e1, e2]
  refine congrArg A (funext fun a => Fin.ext ?_)
  fin_cases a <;> simp [Rect.emb_apply, hd, ix4]
theorem landed_v (A : S256x32x16x128.Idx → Elt F .f32) (c : Dev nD) (h : Fin 8) (s b : Fin 2) (x : S128x32x128.Idx) :
    (kG (Memref.whole main_arg2) c h b).view.read (Elt F) A x = (kM (Memref.whole cc0_scratch9) s b).view.read (Elt F) (kB A c h) x :=
  landed_k A c h s b x

/-- The mesh row and column as the kernel computes them from the device's number. -/
def wx (c : Dev nD) : BitVec 32 := Scalar.remsi (Scalar.divsi (Dev.word c) 2#32) 2#32
def wy (c : Dev nD) : BitVec 32 := Scalar.remsi (Scalar.divsi (Dev.word c) 1#32) 2#32

/-- The weight of each key: how many of a row's live slots name the key's page. -/
def wkC (c : Dev nD) : S32x8192.Idx → Elt F .bf16 :=
  k0_pay8 (F := F) c (k0_pay2 (F := F) (lnA m c)) (k0_pay3 (F := F) (btA m c)) (k0_pay4 (F := F) (wy c) (lnA m c) (btA m c))
    (k0_pay5 (F := F) (wy c) (lnA m c) (btA m c)) (Scalar.muli (wy c) 256#32)
/-- Head `h`'s partial denominator and partial output on device `c`. -/
def lB (c : Dev nD) (h : Fin 8) : Vec F S1x1x32 .f32 := k0_pay12 (k0_pay10 (qV (qA m c) c h)) (kV (kA m c) c h) (wkC m c)
def oB (c : Dev nD) (h : Fin 8) : Vec F S1x32x128 .f32 :=
  k0_pay13 (k0_pay10 (qV (qA m c) c h)) (kV (kA m c) c h) (kV (vA m c) c h) (wkC m c)
/-- All heads' partial outputs and denominators on device `c`. -/
def aO (c : Dev nD) : S8x32x128.Idx → Elt F .f32 := fun i => oB m c (i 0 : Fin 8) (ix3 (0 : Fin 1) (i 1 : Fin 32) (i 2 : Fin 128))
def aL (c : Dev nD) : S8x1x32.Idx → Elt F .f32 := fun i => lB m c (i 0 : Fin 8) (ix3 (0 : Fin 1) (i 1 : Fin 1) (i 2 : Fin 32))

/-- The first seven heads, and the last, of an array of outputs or of denominators. -/
def o7 (f : S8x32x128.Idx → Elt F .f32) : Vec F S7x32x128 .f32 := fun i => f (ix3 ((i 0 : Fin 7).castSucc : Fin 8) (i 1 : Fin 32) (i 2 : Fin 128))
def l7 (f : S8x1x32.Idx → Elt F .f32) : Vec F S7x1x32 .f32 := fun i => f (ix3 ((i 0 : Fin 7).castSucc : Fin 8) (i 1 : Fin 1) (i 2 : Fin 32))
def o1 (f : S8x32x128.Idx → Elt F .f32) : Vec F S1x32x128 .f32 := fun i => f (ix3 (7 : Fin 8) (i 1 : Fin 32) (i 2 : Fin 128))
def l1 (f : S8x1x32.Idx → Elt F .f32) : Vec F S1x1x32 .f32 := fun i => f (ix3 (7 : Fin 8) (i 1 : Fin 1) (i 2 : Fin 32))

/-- The normalised output of device `c`'s heads: the first seven, the last, all. -/
def xA (c : Dev nD) : Vec F S32x896 .f32 := k0_pay9 (k0_pay6 (l7 (aL m c))) (l7 (aL m (yp c))) (o7 (aO m c)) (o7 (aO m (yp c)))
def xZ (c : Dev nD) : Vec F S32x128 .f32 := k0_pay7 (l1 (aL m c)) (l1 (aL m (yp c))) (o1 (aO m c)) (o1 (aO m (yp c)))
def xC (c : Dev nD) : S32x1024.Idx → Elt F .f32 := fun i =>
  if h : (i 1).val < 896 then xA m c (ix2 (i 0 : Fin 32) ⟨(i 1).val, h⟩)
  else xZ m c (ix2 (i 0 : Fin 32) ⟨(i 1).val - 896, by have : (i 1).val < 1024 := (i 1).isLt; omega⟩)
/-- The result: both devices' heads side by side. -/
def outC (c : Dev nD) : S32x2048.Idx → Elt F .f32 := k0_pay1 (wx c) (xC m c) (xC m (xp c))

/-! ### What loads read and stores leave -/

theorem read_q (A : S32x1x16x128.Idx → Elt F .f32) (c : Dev nD) (h : Fin 8) {off : Fin 3 → ℕ} (s : Fin 2) (ho : off = ![s.val, 0, 0]) (hi) :
    (Memref.whole cc0_scratch7 : Memref sig .tc .vmem S2x32x128 .f32).view.readAt (Elt F) (Rect.unit (s := S2x32x128) off S1x32x128.size hi).toLoadRect (qB A c h)
      = qV A c h := by
  subst ho
  funext j
  refine congrArg A (funext fun a => Fin.ext ?_)
  fin_cases a <;> simp [ix4, LoadRect.idx]
theorem read_k (A : S256x32x16x128.Idx → Elt F .f32) (c : Dev nD) (h : Fin 8) {off : Fin 4 → ℕ} (s : Fin 2) (ho : off = ![s.val, 0, 0, 0]) (hi) :
    (Memref.whole cc0_scratch8 : Memref sig .tc .vmem S2x256x32x128 .f32).view.readAt (Elt F) (Rect.unit (s := S2x256x32x128) off S1x256x32x128.size hi).toLoadRect (kB A c h)
      = kV A c h := by
  subst ho
  funext j
  refine congrArg A (funext fun a => Fin.ext ?_)
  fin_cases a <;> simp [ix4, LoadRect.idx]
theorem read_v (A : S256x32x16x128.Idx → Elt F .f32) (c : Dev nD) (h : Fin 8) {off : Fin 4 → ℕ} (s : Fin 2) (ho : off = ![s.val, 0, 0, 0]) (hi) :
    (Memref.whole cc0_scratch9 : Memref sig .tc .vmem S2x256x32x128 .f32).view.readAt (Elt F) (Rect.unit (s := S2x256x32x128) off S1x256x32x128.size hi).toLoadRect (kB A c h)
      = kV A c h := read_k A c h s ho hi

theorem read_o7 (f : S8x32x128.Idx → Elt F .f32) (hi) :
    (Memref.whole cc0_scratch1 : Memref sig .tc .vmem S8x32x128 .f32).view.readAt (Elt F) (Rect.unit (s := S8x32x128) ![0, 0, 0] S7x32x128.size hi).toLoadRect f
      = o7 f := by
  funext j
  obtain ⟨x, y, z, rfl⟩ := eta3 (a := 7) (b := 32) (d := 128) j
  refine congrArg f (funext fun a => Fin.ext ?_)
  fin_cases a <;> simp [ix3, LoadRect.idx]
theorem read_l7 (f : S8x1x32.Idx → Elt F .f32) (hi) :
    (Memref.whole cc0_scratch2 : Memref sig .tc .vmem S8x1x32 .f32).view.readAt (Elt F) (Rect.unit (s := S8x1x32) ![0, 0, 0] S7x1x32.size hi).toLoadRect f
      = l7 f := by
  funext j
  obtain ⟨x, y, z, rfl⟩ := eta3 (a := 7) (b := 1) (d := 32) j
  refine congrArg f (funext fun a => Fin.ext ?_)
  fin_cases a <;> simp [ix3, LoadRect.idx]
theorem read_o1 (f : S8x32x128.Idx → Elt F .f32) (hi) :
    (Memref.whole cc0_scratch1 : Memref sig .tc .vmem S8x32x128 .f32).view.readAt (Elt F) (Rect.unit (s := S8x32x128) ![7, 0, 0] S1x32x128.size hi).toLoadRect f
      = o1 f := by
  funext j
  obtain ⟨x, y, z, rfl⟩ := eta3 (a := 1) (b := 32) (d := 128) j
  have h0 : x = 0 := Fin.ext (by omega)
  subst h0
  refine congrArg f (funext fun a => Fin.ext ?_)
  fin_cases a <;> simp [ix3, LoadRect.idx]
theorem read_l1 (f : S8x1x32.Idx → Elt F .f32) (hi) :
    (Memref.whole cc0_scratch2 : Memref sig .tc .vmem S8x1x32 .f32).view.readAt (Elt F) (Rect.unit (s := S8x1x32) ![7, 0, 0] S1x1x32.size hi).toLoadRect f
      = l1 f := by
  funext j
  obtain ⟨x, y, z, rfl⟩ := eta3 (a := 1) (b := 1) (d := 32) j
  have h0 : x = 0 := Fin.ext (by omega)
  subst h0
  refine congrArg f (funext fun a => Fin.ext ?_)
  fin_cases a <;> simp [ix3, LoadRect.idx]

/-- Head `h`'s stores into the partial outputs and denominators leave the named contents there. -/
theorem store_o (c : Dev nD) (h : Fin 8) {off : Fin 3 → ℕ} (ho : off = ![h.val, 0, 0]) (hi) (f : S8x32x128.Idx → Elt F .f32) :
    ∀ i ∈ hS h.val, ((Memref.whole cc0_scratch1 : Memref sig .tc .vmem S8x32x128 .f32).access (Rect.unit (s := S8x32x128) off S1x32x128.size hi)).write (Elt F) f
      (oB m c h) Finset.univ i = aO m c i := by
  subst ho
  intro i hi'
  have hs : ((Memref.whole cc0_scratch1 : Memref sig .tc .vmem S8x32x128 .f32).access (Rect.unit (s := S8x32x128) ![h.val, 0, 0] S1x32x128.size hi)).set = hS h.val :=
    (View.set_slice_whole cc0_scratch1 _).trans (hset h)
  refine write_agree ((Memref.whole cc0_scratch1 : Memref sig .tc .vmem S8x32x128 .f32).access (Rect.unit (s := S8x32x128) ![h.val, 0, 0] S1x32x128.size hi)) f (aO m c) (oB m c h)
    (fun x => ?_) i (by rw [hs]; exact hi')
  obtain ⟨a, b, d, rfl⟩ := eta3 x
  have h0 : a = 0 := Fin.ext (by omega)
  subst h0
  refine congrArg₂ (oB m c) (Fin.ext ?_) (funext fun i => Fin.ext ?_)
  · show h.val = h.val + 1 * 0
    omega
  · fin_cases i <;> simp [Rect.emb_apply, ix3]
theorem store_l (c : Dev nD) (h : Fin 8) {off : Fin 3 → ℕ} (ho : off = ![h.val, 0, 0]) (hi) (f : S8x1x32.Idx → Elt F .f32) :
    ∀ i ∈ lS h.val, ((Memref.whole cc0_scratch2 : Memref sig .tc .vmem S8x1x32 .f32).access (Rect.unit (s := S8x1x32) off S1x1x32.size hi)).write (Elt F) f
      (lB m c h) Finset.univ i = aL m c i := by
  subst ho
  intro i hi'
  have hs : ((Memref.whole cc0_scratch2 : Memref sig .tc .vmem S8x1x32 .f32).access (Rect.unit (s := S8x1x32) ![h.val, 0, 0] S1x1x32.size hi)).set = lS h.val :=
    (View.set_slice_whole cc0_scratch2 _).trans (lset h)
  refine write_agree ((Memref.whole cc0_scratch2 : Memref sig .tc .vmem S8x1x32 .f32).access (Rect.unit (s := S8x1x32) ![h.val, 0, 0] S1x1x32.size hi)) f (aL m c) (lB m c h)
    (fun x => ?_) i (by rw [hs]; exact hi')
  obtain ⟨a, b, d, rfl⟩ := eta3 x
  have h0 : a = 0 := Fin.ext (by omega)
  subst h0
  refine congrArg₂ (lB m c) (Fin.ext ?_) (funext fun i => Fin.ext ?_)
  · show h.val = h.val + 1 * 0
    omega
  · fin_cases i <;> simp [Rect.emb_apply, ix3]
/-- The two stores into the exchanged output. -/
theorem store_x0 (c : Dev nD) (hi) (f : S32x1024.Idx → Elt F .f32) :
    ∀ i ∈ xS 0, ((Memref.whole cc0_scratch5 : Memref sig .tc .vmem S32x1024 .f32).access (Rect.unit (s := S32x1024) ![0, 0] S32x896.size hi)).write (Elt F) f
      (xA m c) Finset.univ i = xC m c i := by
  intro i hi'
  have hs : ((Memref.whole cc0_scratch5 : Memref sig .tc .vmem S32x1024 .f32).access (Rect.unit (s := S32x1024) ![0, 0] S32x896.size hi)).set = xS 0 :=
    (View.set_slice_whole cc0_scratch5 _).trans (xset0 hi)
  refine write_agree ((Memref.whole cc0_scratch5 : Memref sig .tc .vmem S32x1024 .f32).access (Rect.unit (s := S32x1024) ![0, 0] S32x896.size hi)) f (xC m c) (xA m c)
    (fun x => ?_) i (by rw [hs]; exact hi')
  obtain ⟨a, b, rfl⟩ := eta2 x
  have hb : ((Rect.unit (s := S32x1024) ![0, 0] S32x896.size hi).emb (ix2 a b) 1).val < 896 := by
    simp [Rect.emb_apply, ix2]
  show xA m c _ = (if h : ((Rect.unit (s := S32x1024) ![0, 0] S32x896.size hi).emb (ix2 a b) 1).val < 896 then _ else _)
  rw [dif_pos hb]
  refine congrArg (xA m c) (funext fun i => Fin.ext ?_)
  fin_cases i <;> simp [Rect.emb_apply, ix2]
theorem store_x1 (c : Dev nD) (hi) (f : S32x1024.Idx → Elt F .f32) :
    ∀ i ∈ xS 1, ((Memref.whole cc0_scratch5 : Memref sig .tc .vmem S32x1024 .f32).access (Rect.unit (s := S32x1024) ![0, 896] S32x128.size hi)).write (Elt F) f
      (xZ m c) Finset.univ i = xC m c i := by
  intro i hi'
  have hs : ((Memref.whole cc0_scratch5 : Memref sig .tc .vmem S32x1024 .f32).access (Rect.unit (s := S32x1024) ![0, 896] S32x128.size hi)).set = xS 1 :=
    (View.set_slice_whole cc0_scratch5 _).trans (xset1 hi)
  refine write_agree ((Memref.whole cc0_scratch5 : Memref sig .tc .vmem S32x1024 .f32).access (Rect.unit (s := S32x1024) ![0, 896] S32x128.size hi)) f (xC m c) (xZ m c)
    (fun x => ?_) i (by rw [hs]; exact hi')
  obtain ⟨a, b, rfl⟩ := eta2 x
  have hb : ¬ ((Rect.unit (s := S32x1024) ![0, 896] S32x128.size hi).emb (ix2 a b) 1).val < 896 := by
    simp [Rect.emb_apply, ix2]
  show xZ m c _ = (if h : ((Rect.unit (s := S32x1024) ![0, 896] S32x128.size hi).emb (ix2 a b) 1).val < 896 then _ else _)
  rw [dif_neg hb]
  refine congrArg (xZ m c) (funext fun i => Fin.ext ?_)
  fin_cases i <;> simp [Rect.emb_apply, ix2]

end Cert.Run

end
-- ==== Proof.Sched.lean ====
/- The devices' protocol. Per device, the semaphores that another device's action reaches, each with one round:

   * the barrier: the neighbours along `x` and along `y` signal one unit each; the `y` neighbour's unit hands over its buffers for
     the partial outputs and denominators to come, the `x` neighbour's its buffer for the exchanged output;
   * head `h`'s send semaphores (of the partial output, of the partial denominator): the device's own copy onto the `y`
     neighbour, giving the source part back as it was;
   * head `h`'s receive semaphores: the `y` neighbour's copy, handing over the receive buffer's part at the neighbour's
     partial output or denominator;
   * the two waves' send and receive semaphores: the same along `x`, with the normalised outputs.

   A device waits for the barrier first, then for the heads in order, then for the two waves; the levels below grow in
   that order. -/
module

public import proofs.«01_k».proof.Proof.Common
public import Idealize.ShloMosaic.Lib.Transfers

@[expose] public section

noncomputable section

namespace Cert.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)
open Idealize.ShloMosaic.ValueIdx
open Cert.KernelIdeal Cert.KernelIdeal.Gen

variable {F : FTy → Type} [FloatOps F]

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
/-- The protocol's rounds: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
abbrev EC : UEmb Counters (MT nD τ sig Unit (Elt F) ℕ UU ℕ) := countersEmb
abbrev 𝒱₀ : Variants := Variants.none

variable (m : (ℓ : Loc nD τ sig) → Buf (Elt F) ℓ)

/-! ## The semaphores -/

abbrev barS : Sem sig := (SemArray.scalar (sig.barrier 0 rfl) : Sems sig S_).sem
abbrev barC (c : Dev nD) : GSem nD τ sig := ((c : Thread nD τ), .reg barS)
abbrev dC (c : Dev nD) (s : DmaSem sig) : GSem nD τ sig := ((c : Thread nD τ), .dma s)

/-- The copy semaphore of kind `k` (keys, values, query), slot `s`, half `b`. -/
def cpS (k : Fin 3) (s b : Fin 2) : DmaSem sig := (⟨3 + (4 * k.val + 2 * s.val + b.val), by omega⟩ : Fin 51)
def yoS (h : Fin 8) : DmaSem sig := (⟨15 + h.val, by omega⟩ : Fin 51)
def yoR (h : Fin 8) : DmaSem sig := (⟨23 + h.val, by omega⟩ : Fin 51)
def ylS (h : Fin 8) : DmaSem sig := (⟨31 + h.val, by omega⟩ : Fin 51)
def ylR (h : Fin 8) : DmaSem sig := (⟨39 + h.val, by omega⟩ : Fin 51)
def xsS (w : Fin 2) : DmaSem sig := (⟨47 + w.val, by omega⟩ : Fin 51)
def xsR (w : Fin 2) : DmaSem sig := (⟨49 + w.val, by omega⟩ : Fin 51)

/-! ## The amounts -/

abbrev No : ℕ := (hM (Memref.whole cc0_scratch1) 0).view.dmaCredit
abbrev Nl : ℕ := (lM (Memref.whole cc0_scratch2) 0).view.dmaCredit
abbrev xM0 (b : Memref sig .tc .vmem S32x1024 .f32) : Memref sig .tc .vmem S32x896 .f32 :=
  b.slice (Rect.unit (s := S32x1024) ![0, 0] S32x896.size inb_S32x1024_S32x896_0_0) (fun _ => rfl)
abbrev xM1 (b : Memref sig .tc .vmem S32x1024 .f32) : Memref sig .tc .vmem S32x128 .f32 :=
  b.slice (Rect.unit (s := S32x1024) ![0, 896] S32x128.size inb_S32x1024_S32x128_0_896) (fun _ => rfl)
abbrev Nx0 : ℕ := (xM0 (Memref.whole cc0_scratch5)).view.dmaCredit
abbrev Nx1 : ℕ := (xM1 (Memref.whole cc0_scratch5)).view.dmaCredit
theorem No_pos : 0 < No := View.dmaCredit_pos _ (by decide)
theorem Nl_pos : 0 < Nl := View.dmaCredit_pos _ (by decide)
theorem Nx0_pos : 0 < Nx0 := View.dmaCredit_pos _ (by decide)
theorem Nx1_pos : 0 < Nx1 := View.dmaCredit_pos _ (by decide)

/-- The amount of semaphore number `n`'s one duty. -/
def amtN (n : ℕ) : ℕ := if n < 31 then No else if n < 47 then Nl else if n % 2 = 1 then Nx0 else Nx1
theorem amtN_pos (n : ℕ) : 0 < amtN n := by
  unfold amtN
  split
  · exact No_pos
  split
  · exact Nl_pos
  split
  · exact Nx0_pos
  · exact Nx1_pos

/-! ## The parts of buffers handed over -/

def pAo (c : Dev nD) (h : ℕ) (f : S8x32x128.Idx → Elt F .f32) : sProp 𝕄 := ((c : Thread nD τ).loc cc0_scratch1) ↦[hS h]{fullShare} f
def pRo (c : Dev nD) (h : ℕ) (f : S8x32x128.Idx → Elt F .f32) : sProp 𝕄 := ((c : Thread nD τ).loc cc0_scratch3) ↦[hS h]{fullShare} f
def pAl (c : Dev nD) (h : ℕ) (f : S8x1x32.Idx → Elt F .f32) : sProp 𝕄 := ((c : Thread nD τ).loc cc0_scratch2) ↦[lS h]{fullShare} f
def pRl (c : Dev nD) (h : ℕ) (f : S8x1x32.Idx → Elt F .f32) : sProp 𝕄 := ((c : Thread nD τ).loc cc0_scratch4) ↦[lS h]{fullShare} f
def pXs (c : Dev nD) (w : ℕ) (f : S32x1024.Idx → Elt F .f32) : sProp 𝕄 := ((c : Thread nD τ).loc cc0_scratch5) ↦[xS w]{fullShare} f
def pXr (c : Dev nD) (w : ℕ) (f : S32x1024.Idx → Elt F .f32) : sProp 𝕄 := ((c : Thread nD τ).loc cc0_scratch6) ↦[xS w]{fullShare} f

omit [FloatOps F] in
instance pAo_st (c : Dev nD) (h) (f) : BI.Storable (upEmb : UEmb _ 𝕄) (pAo (F := F) c h f) := by unfold pAo; infer_instance
omit [FloatOps F] in
instance pRo_st (c : Dev nD) (h) (f) : BI.Storable (upEmb : UEmb _ 𝕄) (pRo (F := F) c h f) := by unfold pRo; infer_instance
omit [FloatOps F] in
instance pAl_st (c : Dev nD) (h) (f) : BI.Storable (upEmb : UEmb _ 𝕄) (pAl (F := F) c h f) := by unfold pAl; infer_instance
omit [FloatOps F] in
instance pRl_st (c : Dev nD) (h) (f) : BI.Storable (upEmb : UEmb _ 𝕄) (pRl (F := F) c h f) := by unfold pRl; infer_instance
omit [FloatOps F] in
instance pXs_st (c : Dev nD) (h) (f) : BI.Storable (upEmb : UEmb _ 𝕄) (pXs (F := F) c h f) := by unfold pXs; infer_instance
omit [FloatOps F] in
instance pXr_st (c : Dev nD) (h) (f) : BI.Storable (upEmb : UEmb _ 𝕄) (pXr (F := F) c h f) := by unfold pXr; infer_instance

/-! ## The schedule -/

/-- What a barrier unit hands device `c`: the `x` neighbour's (`true`), the `y` neighbour's (`false`). -/
def barPay (c : Dev nD) (d : Bool) : sProp 𝕄 :=
  if d then iprop(∃ f, ((xp c : Thread nD τ).loc cc0_scratch6) ↦{fullShare} f)
  else iprop((∃ f, ((yp c : Thread nD τ).loc cc0_scratch3) ↦{fullShare} f) ∗ (∃ f, ((yp c : Thread nD τ).loc cc0_scratch4) ↦{fullShare} f))

/-- What a landing on semaphore number `n` hands device `c`. -/
def dmaPay (c : Dev nD) (n : ℕ) : sProp 𝕄 :=
  if n < 15 then iprop(emp)
  else if n < 23 then pAo c (n - 15) (aO m c)
  else if n < 31 then pRo c (n - 23) (aO m (yp c))
  else if n < 39 then pAl c (n - 31) (aL m c)
  else if n < 47 then pRl c (n - 39) (aL m (yp c))
  else if n < 49 then pXs c (n - 47) (xC m c)
  else pXr c (n - 49) (xC m (xp c))

def rd : Rounds.Schedule (GSem nD τ sig) Bool 𝕄 where
  duties g r := if r = 0 ∧ g.1.2 = .tc then (match g.2 with | .reg _ => Finset.univ | .dma s => if 15 ≤ s.val then {false} else ∅) else ∅
  unitless _ := False
  amount g _ _ := match g.2 with | .reg _ => 1 | .dma s => amtN s.val
  payload g _ d := match g.2 with | .reg _ => barPay g.1.1 d | .dma s => dmaPay m g.1.1 s.val
  amount_pos g _ _ _ := by
    rcases g with ⟨t, s | s⟩
    · exact Nat.one_pos
    · exact amtN_pos _

omit [FloatOps F] in
instance barPay_st (c : Dev nD) (d : Bool) : BI.Storable (upEmb : UEmb _ 𝕄) (barPay (F := F) c d) := by
  unfold barPay; split <;> infer_instance
instance dmaPay_st (c : Dev nD) (n : ℕ) : BI.Storable (upEmb : UEmb _ 𝕄) (dmaPay m c n) := by
  unfold dmaPay; (repeat' split) <;> infer_instance
instance rd_st (g : GSem nD τ sig) (r : ℕ) (d : Bool) : BI.Storable (upEmb : UEmb _ 𝕄) ((rd m).payload g r d) := by
  rcases g with ⟨t, s | s⟩
  · exact barPay_st _ _
  · exact dmaPay_st m _ _

theorem duties_bar (c : Dev nD) : (rd m).duties (barC c) 0 = Finset.univ := by
  simp [rd]
theorem duties_dma (c : Dev nD) (s : DmaSem sig) (h : 15 ≤ s.val) : (rd m).duties (dC c s) 0 = {false} := by
  simp [rd, h]
theorem duties_later (g : GSem nD τ sig) : ∀ r, 1 ≤ r → (rd m).duties g r = ∅ := fun r hr => if_neg fun h => by omega
theorem mem_bar (c : Dev nD) (d : Bool) : d ∈ (rd m).duties (barC c) 0 := by rw [duties_bar]; exact Finset.mem_univ d
theorem mem_dma (c : Dev nD) (s : DmaSem sig) (h : 15 ≤ s.val) : false ∈ (rd m).duties (dC c s) 0 := by
  rw [duties_dma m c s h]; exact Finset.mem_singleton_self _
theorem expect_bar (c : Dev nD) : (rd m).expect (barC c) 0 = 2 := by
  unfold Schedule.expect Schedule.amountOf; rw [duties_bar]; rfl
theorem expect_dma (c : Dev nD) (s : DmaSem sig) (h : 15 ≤ s.val) : (rd m).expect (dC c s) 0 = amtN s.val := by
  unfold Schedule.expect Schedule.amountOf; rw [duties_dma m c s h, Finset.sum_singleton]; rfl
theorem rest_bar (c : Dev nD) : bigSep ((rd m).duties (barC c) 0 \ ∅) (fun u => (rd m).payload (barC c) 0 u) = iprop(barPay c false ∗ barPay c true) := by
  rw [Finset.sdiff_empty, duties_bar, show (Finset.univ : Finset Bool) = {false, true} from by decide, bigSep_insert (by decide), bigSep_singleton]; rfl
theorem rest_dma (c : Dev nD) (s : DmaSem sig) (h : 15 ≤ s.val) :
    bigSep ((rd m).duties (dC c s) 0 \ ∅) (fun u => (rd m).payload (dC c s) 0 u) = dmaPay m c s.val := by
  rw [Finset.sdiff_empty, duties_dma m c s h, bigSep_singleton]; rfl

theorem pay_yoS (c : Dev nD) (h : Fin 8) : dmaPay m c (yoS h).val = pAo c h.val (aO m c) := by
  unfold dmaPay yoS; dsimp only; rw [if_neg (by omega), if_pos (by omega), Nat.add_sub_cancel_left]
theorem pay_yoR (c : Dev nD) (h : Fin 8) : dmaPay m c (yoR h).val = pRo c h.val (aO m (yp c)) := by
  unfold dmaPay yoR; dsimp only; rw [if_neg (by omega), if_neg (by omega), if_pos (by omega), Nat.add_sub_cancel_left]
theorem pay_ylS (c : Dev nD) (h : Fin 8) : dmaPay m c (ylS h).val = pAl c h.val (aL m c) := by
  unfold dmaPay ylS; dsimp only; rw [if_neg (by omega), if_neg (by omega), if_neg (by omega), if_pos (by omega), Nat.add_sub_cancel_left]
theorem pay_ylR (c : Dev nD) (h : Fin 8) : dmaPay m c (ylR h).val = pRl c h.val (aL m (yp c)) := by
  unfold dmaPay ylR; dsimp only
  rw [if_neg (by omega), if_neg (by omega), if_neg (by omega), if_neg (by omega), if_pos (by omega), Nat.add_sub_cancel_left]
theorem pay_xsS (c : Dev nD) (w : Fin 2) : dmaPay m c (xsS w).val = pXs c w.val (xC m c) := by
  unfold dmaPay xsS; dsimp only
  rw [if_neg (by omega), if_neg (by omega), if_neg (by omega), if_neg (by omega), if_neg (by omega), if_pos (by omega), Nat.add_sub_cancel_left]
theorem pay_xsR (c : Dev nD) (w : Fin 2) : dmaPay m c (xsR w).val = pXr c w.val (xC m (xp c)) := by
  unfold dmaPay xsR; dsimp only
  rw [if_neg (by omega), if_neg (by omega), if_neg (by omega), if_neg (by omega), if_neg (by omega), if_neg (by omega), Nat.add_sub_cancel_left]

theorem amt_yoS (h : Fin 8) : amtN (yoS h).val = No := if_pos (by show 15 + h.val < 31; omega)
theorem amt_yoR (h : Fin 8) : amtN (yoR h).val = No := if_pos (by show 23 + h.val < 31; omega)
theorem amt_ylS (h : Fin 8) : amtN (ylS h).val = Nl := (if_neg (by show ¬ 31 + h.val < 31; omega)).trans (if_pos (by show 31 + h.val < 47; omega))
theorem amt_ylR (h : Fin 8) : amtN (ylR h).val = Nl := (if_neg (by show ¬ 39 + h.val < 31; omega)).trans (if_pos (by show 39 + h.val < 47; omega))
theorem amt_xsS0 : amtN (xsS 0).val = Nx0 := rfl
theorem amt_xsS1 : amtN (xsS 1).val = Nx1 := rfl
theorem amt_xsR0 : amtN (xsR 0).val = Nx0 := rfl
theorem amt_xsR1 : amtN (xsR 1).val = Nx1 := rfl

/-! ## What a device owes; the levels -/

/-- The two waves device `c` owes its `x` neighbour. -/
def OX (c : Dev nD) : CellTallies nD τ sig Unit := tallyAt (dC (xp c) (xsR 1)) () Nx1 + tallyAt (dC (xp c) (xsR 0)) () Nx0
/-- Those and the last `n` heads device `c` owes its `y` neighbour. -/
def OY (c : Dev nD) : ℕ → CellTallies nD τ sig Unit
  | 0 => OX c
  | n + 1 => OY c n + tallyAt (dC (yp c) (ylR ⟨7 - n, by omega⟩)) () Nl + tallyAt (dC (yp c) (yoR ⟨7 - n, by omega⟩)) () No
/-- All of it and a unit of each neighbour's barrier. -/
def O₀ (c : Dev nD) : CellTallies nD τ sig Unit := OY c 8 + tallyAt (barC (xp c)) () 1 + tallyAt (barC (yp c)) () 1

def L (g : GSem nD τ sig) : Finset Unit := if g.1.2 = .tc then {()} else ∅
def lvN (n : ℕ) : ℕ := if n < 23 then 0 else if n < 31 then n - 21 else if n < 39 then 0 else if n < 47 then n - 37 else if n < 49 then 0 else 20
def lv (g : GSem nD τ sig) (_ : Unit) : ℕ := match g.2 with | .reg _ => 1 | .dma s => lvN s.val
theorem L_of_ne (g : GSem nD τ sig) (h : g.1.2 ≠ .tc) : L g = ∅ := if_neg h

/-- Everything in `O` lies on a TensorCore's semaphore above level `n`. -/
def Above (n : ℕ) (O : CellTallies nD τ sig Unit) : Prop := ∀ g u, 0 < O g u → g.1.2 = .tc ∧ n < lv g u

theorem Above.add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
theorem Above.zero (n : ℕ) : Above n 0 := fun g u hg => absurd hg (Nat.lt_irrefl 0)
theorem Above.tally {n : ℕ} (c : Dev nD) (s : SemLoc sig) (k : ℕ) (h : n < lv ((c : Thread nD τ), s) ()) :
    Above n (tallyAt ((c : Thread nD τ), s) () k) := fun g u hg => by
  rw [tallyAt_apply] at hg
  by_cases he : g = ((c : Thread nD τ), s) ∧ u = ()
  · rw [he.1]; exact ⟨rfl, h⟩
  · rw [if_neg he] at hg; exact absurd hg (Nat.lt_irrefl 0)
theorem Above.mono {n k : ℕ} {O : CellTallies nD τ sig Unit} (h : Above n O) (hk : k ≤ n) : Above k O :=
  fun g u hg => ⟨(h g u hg).1, lt_of_le_of_lt hk (h g u hg).2⟩

theorem lv_yoR (c : Dev nD) (h : Fin 8) : lv (dC c (yoR h)) () = 2 + h.val := by
  show lvN (23 + h.val) = _; unfold lvN; rw [if_neg (by omega), if_pos (by omega)]; omega
theorem lv_ylR (c : Dev nD) (h : Fin 8) : lv (dC c (ylR h)) () = 2 + h.val := by
  show lvN (39 + h.val) = _; unfold lvN; rw [if_neg (by omega), if_neg (by omega), if_neg (by omega), if_pos (by omega)]; omega
theorem lv_yoS (c : Dev nD) (h : Fin 8) : lv (dC c (yoS h)) () = 0 := by
  show lvN (15 + h.val) = _; unfold lvN; rw [if_pos (by omega)]
theorem lv_ylS (c : Dev nD) (h : Fin 8) : lv (dC c (ylS h)) () = 0 := by
  show lvN (31 + h.val) = _; unfold lvN; rw [if_neg (by omega), if_neg (by omega), if_pos (by omega)]
theorem lv_cpS (c : Dev nD) (k : Fin 3) (s b : Fin 2) : lv (dC c (cpS k s b)) () = 0 := by
  show lvN (3 + (4 * k.val + 2 * s.val + b.val)) = _; unfold lvN; rw [if_pos (by omega)]
theorem lv_xsR (c : Dev nD) (w : Fin 2) : lv (dC c (xsR w)) () = 20 := by
  show lvN (49 + w.val) = _; unfold lvN
  rw [if_neg (by omega), if_neg (by omega), if_neg (by omega), if_neg (by omega), if_neg (by omega)]

theorem OX1_above (c : Dev nD) : Above 19 (tallyAt (dC (xp c) (xsR 1)) () Nx1) := Above.tally _ _ _ (by rw [lv_xsR]; decide)
theorem OX_above (c : Dev nD) : Above 19 (OX c) := (OX1_above c).add (Above.tally _ _ _ (by rw [lv_xsR]; decide))
theorem OY_above (c : Dev nD) : ∀ n, n ≤ 8 → Above (9 - n) (OY c n)
  | 0, _ => (OX_above c).mono (by decide)
  | n + 1, h => (((OY_above c n (by omega)).mono (by omega)).add (Above.tally _ _ _ (by rw [lv_ylR]; dsimp only; omega))).add
      (Above.tally _ _ _ (by rw [lv_yoR]; dsimp only; omega))
theorem O₀_above (c : Dev nD) : Above 0 (O₀ c) :=
  (((OY_above c 8 le_rfl).mono (by decide)).add (Above.tally _ _ _ Nat.one_pos)).add (Above.tally _ _ _ Nat.one_pos)

omit [FloatOps F] in
/-- A device may wait on a semaphore that lies below everything it owes. -/
theorem mayWait (c : Dev nD) (s : SemLoc sig) (O : CellTallies nD τ sig Unit) (h : Above (lv ((c : Thread nD τ), s) ()) O) :
    (levAts L lv : sProp 𝕄) ⊢ MayWait (c : Thread nD τ) s () O :=
  MayOwe.of_cut (L := L) (lev := lv) (lv ((c : Thread nD τ), s) ())
    (fun p hp => by rw [Finset.mem_singleton.mp hp]; exact Finset.mem_singleton_self _)
    (fun g u hg => by unfold L; rw [if_pos (h g u hg).1]; exact Finset.mem_singleton_self _)
    (fun p hp => by rw [Finset.mem_singleton.mp hp])
    (fun g u hg => (h g u hg).2)

end Cert.Run

end
-- ==== Proof.Steps.lean ====
/- One step of the kernel each: the barrier's signals and wait, the local copies, the copies to the neighbours and the waits for
   them, each stated over the protocol's resources. -/
module

public import proofs.«01_k».proof.Proof.Sched

@[expose] public section

noncomputable section

namespace Cert.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.ValueIdx
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-- The program logic's judgement for device `c`'s core. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

theorem WP_ret (c : Dev nD) {α : Type} (a : α) (Q : α → sProp 𝕄) : Q a ⊢ WP c (.ret a) Q := by
  show Q a ⊢ wp frame (wpE (defs₀ (F := F)) 𝒱₀ (c : Thread nD τ) none) Set.univ (.ret a) Q
  rw [wp_ret]
  iintro H
  imodintro
  iexact H
theorem WP_bind (c : Dev nD) {α β : Type} (p : Prog (TpuEff nD τ sig (Elt F) Λ₀ .tc) α) (k : α → Prog (TpuEff nD τ sig (Elt F) Λ₀ .tc) β) (Q : β → sProp 𝕄) :
    WP c (p >>= k) Q = WP c p fun a => WP c (k a) Q := wp_bind _ _ _ _ _ _

/-! ## The cells' records -/

/-- The protocol's cells of a device: the barrier, then the semaphores numbered 15 on. -/
def kcell : Dev nD × Fin 37 → GSem nD τ sig := fun p =>
  if h : p.2.val = 0 then barC p.1 else dC p.1 (⟨14 + p.2.val, by omega⟩ : Fin 51)
/-- Every cell follows the schedule, and its round has been reached. -/
def recs : sProp 𝕄 :=
  iprop(∃ K : Dev nD × Fin 37 → ℕ, bigSep Finset.univ fun p => iprop(cellInv ER (rd m) (K p) (kcell p) ∗ reached ER (kcell p) 0))
instance recs_pers : BI.Persistent (recs (F := F) m) := by unfold recs; infer_instance
theorem recs_at (p : Dev nD × Fin 37) (g : GSem nD τ sig) (hg : kcell p = g) :
    recs m ⊢ iprop(∃ κ, cellInv ER (rd m) κ g ∗ reached ER g 0) := by
  subst hg
  unfold recs
  iintro ⟨%K, H⟩
  iexists (K p)
  have h : (bigSep Finset.univ fun p => iprop(cellInv ER (rd m) (K p) (kcell p) ∗ reached ER (kcell p) 0))
      ⊢ iprop(cellInv ER (rd m) (K p) (kcell p) ∗ reached ER (kcell p) 0) := bigSep_elim (Finset.mem_univ p)
  iapply h $$ H
theorem recs_bar (c : Dev nD) : recs m ⊢ iprop(∃ κ, cellInv ER (rd m) κ (barC c) ∗ reached ER (barC c) 0) := recs_at m (c, 0) _ rfl
theorem recs_dma (c : Dev nD) (s : DmaSem sig) (h : 15 ≤ s.val) :
    recs m ⊢ iprop(∃ κ, cellInv ER (rd m) κ (dC c s) ∗ reached ER (dC c s) 0) :=
  recs_at m (c, ⟨s.val - 14, by have : s.val < 51 := s.isLt; omega⟩) _ (by
    unfold kcell; dsimp only; rw [dif_neg (by omega)]
    exact congrArg (dC c) (Fin.ext (by show 14 + (s.val - 14) = s.val; omega)))

/-- What device `c` owes, whatever it has waited for. -/
def Ow (c : Dev nD) (O : CellTallies nD τ sig Unit) : sProp 𝕄 := iprop(∃ W, owes (c : Thread nD τ) O W)

/-! ## The barrier -/

theorem step_sigY (c n : Dev nD) (hn : n = yp c) (O : CellTallies nD τ sig Unit) {α : Type} {Q : α → sProp 𝕄}
    {k : PUnit → Prog (TpuEff nD τ sig (Elt F) Λ₀ .tc) α} {k' : ℕ} (hk : k' = 1) :
    iprop(recs m ∗ Ow c (O + tallyAt (barC (yp c)) () 1) ∗ dutyTok ER (barC (yp c)) 0 false
        ∗ (∃ f, ((c : Thread nD τ).loc cc0_scratch3) ↦{fullShare} f) ∗ (∃ f, ((c : Thread nD τ).loc cc0_scratch4) ↦{fullShare} f))
      ⊢ iprop((Ow c O -∗ WP c (k ⟨⟩) Q) -∗ WP c (.op (.semSignal (n : Thread nD τ) barS k') k) Q) := by
  subst hn hk
  unfold Ow
  iintro ⟨#HR, ⟨%W, HO⟩, Ht, H3, H4⟩ Hk
  ihave HI := (recs_bar m (yp c)) $$ HR
  icases HI with ⟨%κ, #HI, #Hr⟩
  iapply (Rounds.wp_signal 𝒱₀ ER (rd m) (c : Thread nD τ) none (dst := (yp c : Thread nD τ)) (κ := κ) (d := false)
      (mem_bar m (yp c) false) rfl () O rfl) $$ [HO Ht H3 H4]
  · isplitr; · iexact HI
    isplitl [HO]; · iexact HO
    isplitl [Ht]; · iexact Ht
    isplitl [H3 H4]
    · rw [show (rd m).payload (barC (yp c)) 0 false = barPay (yp c) false from rfl]
      unfold barPay; rw [if_neg (by decide), yp_yp]
      isplitl [H3] <;> iassumption
    · iexact Hr
  iintro HO
  iapply Hk; iexists W; iexact HO

theorem step_sigX (c n : Dev nD) (hn : n = xp c) (O : CellTallies nD τ sig Unit) {α : Type} {Q : α → sProp 𝕄}
    {k : PUnit → Prog (TpuEff nD τ sig (Elt F) Λ₀ .tc) α} {k' : ℕ} (hk : k' = 1) :
    iprop(recs m ∗ Ow c (O + tallyAt (barC (xp c)) () 1) ∗ dutyTok ER (barC (xp c)) 0 true
        ∗ (∃ f, ((c : Thread nD τ).loc cc0_scratch6) ↦{fullShare} f))
      ⊢ iprop((Ow c O -∗ WP c (k ⟨⟩) Q) -∗ WP c (.op (.semSignal (n : Thread nD τ) barS k') k) Q) := by
  subst hn hk
  unfold Ow
  iintro ⟨#HR, ⟨%W, HO⟩, Ht, H3⟩ Hk
  ihave HI := (recs_bar m (xp c)) $$ HR
  icases HI with ⟨%κ, #HI, #Hr⟩
  iapply (Rounds.wp_signal 𝒱₀ ER (rd m) (c : Thread nD τ) none (dst := (xp c : Thread nD τ)) (κ := κ) (d := true)
      (mem_bar m (xp c) true) rfl () O rfl) $$ [HO Ht H3]
  · isplitr; · iexact HI
    isplitl [HO]; · iexact HO
    isplitl [Ht]; · iexact Ht
    isplitl [H3]
    · rw [show (rd m).payload (barC (xp c)) 0 true = barPay (xp c) true from rfl]
      unfold barPay; rw [if_pos rfl, xp_xp]
      iexact H3
    · iexact Hr
  iintro HO
  iapply Hk; iexists W; iexact HO

theorem step_bar (c : Dev nD) (O : CellTallies nD τ sig Unit) (hO : Above 1 O) {α : Type} {Q : α → sProp 𝕄}
    {k : PUnit → Prog (TpuEff nD τ sig (Elt F) Λ₀ .tc) α} {k' : ℕ} (hk : k' = 2) :
    iprop(recs m ∗ levAts L lv ∗ Ow c O ∗ cred (tallyAt (barC c) () 2) ∗ atPos ER (barC c) 0 ∅ 0)
      ⊢ iprop(((Ow c O ∗ semVal (barC c) 0 ∗ barPay c false ∗ barPay c true) -∗ WP c (k ⟨⟩) Q)
          -∗ WP c (.op (.semWait barS k') k) Q) := by
  subst hk
  unfold Ow
  iintro ⟨#HR, #Hlev, ⟨%W, HO⟩, Hc, Hat⟩ Hk
  ihave HI := (recs_bar m c) $$ HR
  icases HI with ⟨%κ, #HI, -⟩
  iapply (Rounds.wp_wait_rest_token 𝒱₀ ER (rd m) (c : Thread nD τ) none (κ := κ)
      (wpE_semWait_eq 𝒱₀ (c : Thread nD τ) none Set.univ) (Set.mem_univ _) () (O := O) (W := W) (R := 0) (m := 0) (T := ∅)
      (by rw [expect_bar])) $$ [Hc HO Hat]
  · isplitr; · iexact HI
    isplitl [Hc]; · iexact Hc
    isplitl [HO]; · iexact HO
    isplitr; · iapply (mayWait c (.reg barS) O hO); iexact Hlev
    iexact Hat
  iintro ⟨HO, Hat, -, Hpay⟩
  ihave Hp := (Entails.of_eq (rest_bar m c)) $$ Hpay
  imod (Rounds.cell_close ER (rd m) (Set.mem_univ κ) (fun h => h) (R := 0 + 1) (duties_later m (barC c))) $$ [Hat] with Hz
  · isplitr; · iexact HI
    iexact Hat
  iapply Hk
  isplitl [HO]; · iexists _; iexact HO
  isplitl [Hz]; · iexact Hz
  iexact Hp

/-! ## The waits for landings -/

theorem step_wait (c : Dev nD) (s : DmaSem sig) (h15 : 15 ≤ s.val) (O : CellTallies nD τ sig Unit) (hO : Above (lv (dC c s) ()) O)
    {sem : DmaSem sig} (hs : sem = s) {N : ℕ} (hN : amtN s.val = N)
    {sp sp' : Space} {sh : Shape} {e : EltTy} {srcw : Memref sig .tc sp sh e} {dstw : Memref sig .tc sp' sh e}
    {h1 : srcw.view.WordExact} {h2 : dstw.view.WordExact} (hN' : dstw.view.dmaCredit = N)
    {α : Type} {Q : α → sProp 𝕄} {k : PUnit → Prog (TpuEff nD τ sig (Elt F) Λ₀ .tc) α} :
    iprop(recs m ∗ levAts L lv ∗ Ow c O ∗ cred (tallyAt (dC c s) () N) ∗ atPos ER (dC c s) 0 ∅ 0)
      ⊢ iprop(((Ow c O ∗ semVal (dC c s) 0 ∗ dmaPay m c s.val) -∗ WP c (k ⟨⟩) Q)
          -∗ WP c (.op (.waitDma2 sem srcw dstw h1 h2) k) Q) := by
  subst hs hN
  unfold Ow
  iintro ⟨#HR, #Hlev, ⟨%W, HO⟩, Hc, Hat⟩ Hk
  ihave HI := (recs_dma m c sem h15) $$ HR
  icases HI with ⟨%κ, #HI, -⟩
  iapply (Rounds.wp_wait_rest_token 𝒱₀ ER (rd m) (c : Thread nD τ) none (κ := κ)
      (wpE_waitDma2_eq 𝒱₀ (c : Thread nD τ) none Set.univ) (Set.mem_univ _) () (O := O) (W := W) (R := 0) (m := 0) (T := ∅)
      (by rw [Nat.zero_add, expect_dma m c sem h15, hN'])) $$ [Hc HO Hat]
  · isplitr; · iexact HI
    isplitl [Hc]; · rw [hN']; iexact Hc
    isplitl [HO]; · iexact HO
    isplitr; · iapply (mayWait c (.dma sem) O hO); iexact Hlev
    iexact Hat
  iintro ⟨HO, Hat, -, Hpay⟩
  ihave Hp := (Entails.of_eq (rest_dma m c sem h15)) $$ Hpay
  imod (Rounds.cell_close ER (rd m) (Set.mem_univ κ) (fun h => h) (R := 0 + 1) (duties_later m (dC c sem))) $$ [Hat] with Hz
  · isplitr; · iexact HI
    iexact Hat
  iapply Hk
  isplitl [HO]; · iexists _; iexact HO
  isplitl [Hz]; · iexact Hz
  iexact Hp

/-! ## The copies to a neighbour -/

/-- A copy to neighbour `p`: the source handed over until the send semaphore's wait, the destination for good. -/
theorem step_send (c p n : Dev nD) (hn : n = p) (s r : DmaSem sig) (hs15 : 15 ≤ s.val) (hr15 : 15 ≤ r.val)
    {semS semR : DmaSem sig} (hs : semS = s) (hr : semR = r) {sh : Shape} {e : EltTy}
    {src dst : Memref sig .tc .vmem sh e} {hsc : (dst : Memref sig (Dev.tc n : Thread nD τ).2.kind .vmem sh e).view.ref.isScScratch = false}
    {h1 : src.view.WordExact} {h2 : dst.view.WordExact} {h3 : DmaTarget.Typed .vmem (.dma semR) (.remote (Dev.tc n : Thread nD τ) dst (.dma semS) hsc)}
    (fs : Buf (Elt F) (src.view.loc (c : Thread nD τ))) (fd : Buf (Elt F) (dst.view.loc (p : Thread nD τ))) (N : ℕ) (hN : dst.view.dmaCredit = N)
    (hk₁ : amtN s.val = N) (hk₂ : amtN r.val = N) (O : CellTallies nD τ sig Unit)
    (hpay₁ : (src.view.loc (c : Thread nD τ) ↦[src.view.set]{fullShare} fs) ⊢ dmaPay m c s.val)
    (hpay₂ : (dst.view.loc (p : Thread nD τ) ↦[dst.view.set]{fullShare} dst.view.write (Elt F) fd (src.view.read (Elt F) fs) Finset.univ) ⊢ dmaPay m p r.val)
    (hroute : τ.routes (c : Thread nD τ) (p : Thread nD τ) = true)
    {α : Type} {Q : α → sProp 𝕄} {k : PUnit → Prog (TpuEff nD τ sig (Elt F) Λ₀ .tc) α} :
    iprop(recs m ∗ (src.view.loc (c : Thread nD τ) ↦[src.view.set]{fullShare} fs) ∗ (dst.view.loc (p : Thread nD τ) ↦[dst.view.set]{fullShare} fd)
        ∗ Ow c (O + tallyAt (dC p r) () N) ∗ dutyTok ER (dC c s) 0 false ∗ dutyTok ER (dC p r) 0 false)
      ⊢ iprop(((Ow c O ∗ cred (tallyAt (dC c s) () N)) -∗ WP c (k ⟨⟩) Q)
          -∗ WP c (.op (.enqueueDma src (.remote (Dev.tc n : Thread nD τ) dst (.dma semS) hsc) (.dma semR) h1 h2 h3) k) Q) := by
  subst hn hs hr
  unfold Ow
  iintro ⟨#HR, Hs, Hd, ⟨%W, HO⟩, Hts, Htr⟩ Hk
  ihave HI := (recs_dma m c semS hs15) $$ HR
  icases HI with ⟨%κ, #HI, #Hr⟩
  ihave HI' := (recs_dma m n semR hr15) $$ HR
  icases HI' with ⟨%κ', #HI', #Hr'⟩
  iapply (Rounds.wp_send_pointsTo 𝒱₀ ER (rd m) (c : Thread nD τ) none (κ₁ := κ) (κ₂ := κ') (c' := (n : Thread nD τ)) (dst := dst)
    (r₁ := 0) (r₂ := 0) (d₁ := false) (d₂ := false) (fd := fd) (fs := fs) (q := fullShare)
    (mem_dma m c semS hs15) (mem_dma m n semR hr15) () () N hN hk₁ hk₂ O rfl (W := W) hpay₁ hpay₂ hroute) $$ [Hs Hd HO Hts Htr]
  · isplitr; · iexact HI
    isplitr; · iexact HI'
    isplitl [Hs]; · iexact Hs
    isplitl [Hd]; · iexact Hd
    isplitl [HO]; · iexact HO
    isplitl [Hts]; · iexact Hts
    isplitr; · iexact Hr
    isplitl [Htr]; · iexact Htr
    iexact Hr'
  iintro ⟨Hc, HO⟩
  iapply Hk
  isplitl [HO]; · iexists W; iexact HO
  iexact Hc

/-! ## The local copies -/

omit [FloatOps F] in
/-- A flight carries along what is set beside it. -/
theorem Flight_frame (c : Dev nD) {sm : SemLoc sig} {N : ℕ} {D R₀ : sProp 𝕄} :
    iprop(Flight EC (c : Thread nD τ) sm () N D ∗ R₀) ⊢ Flight EC (c : Thread nD τ) sm () N iprop(D ∗ R₀) := by
  unfold Flight
  iintro ⟨⟨⟨%R, HR, %hcap, %hpeek⟩, Hcred⟩, HF⟩
  isplitl [HR HF]
  · iexists iprop(R ∗ R₀)
    isplitl [HR HF]; · isplitl [HR] <;> iassumption
    isplit
    · ipureintro
      intro K
      refine BIBase.Entails.trans ?_ (hcap K)
      iintro ⟨⟨HR, HF⟩, HK⟩
      isplitl [HR]; · iexact HR
      iintro ⟨Hv, HD⟩
      iapply HK
      isplitl [Hv]; · iexact Hv
      isplitl [HD] <;> iassumption
    · ipureintro
      intro K
      refine BIBase.Entails.trans ?_ (hpeek K)
      iintro ⟨⟨HR, HF⟩, HK⟩
      isplitl [HR]; · iexact HR
      iintro HR
      iapply HK
      isplitl [HR] <;> iassumption
  · iexact Hcred

/-- A local copy starts: the destination's part goes, and comes back with the flight at the contents it will read as. -/
theorem step_copy (c : Dev nD) (s : DmaSem sig) {sem : DmaSem sig} (hs : sem = s) {sh : Shape} {e : EltTy}
    {src : Memref sig .tc .hbm sh e} {dst : Memref sig .tc .vmem sh e}
    {h1 : src.view.WordExact} {h2 : dst.view.WordExact} {h3 : DmaTarget.Typed (nD := nD) .hbm (.dma sem) (DmaTarget.here (p := (Proc.tc : Proc τ)) dst)}
    (Sd : Finset (Idx (dst.view.loc (c : Thread nD τ)))) (hSd : dst.view.set = Sd) (N : ℕ) (hN : dst.view.dmaCredit = N) (hN0 : 0 < N)
    (A : Buf (Elt F) (src.view.loc (c : Thread nD τ))) (B : Buf (Elt F) (dst.view.loc (c : Thread nD τ)))
    (hB : ∀ x, src.view.read (Elt F) A x = dst.view.read (Elt F) B x) (q : PosShare TreeShare)
    {α : Type} {Q : α → sProp 𝕄} {k : PUnit → Prog (TpuEff nD τ sig (Elt F) Λ₀ .tc) α} :
    iprop(semVal (dC c s) 0 ∗ (∃ f, dst.view.loc (c : Thread nD τ) ↦[Sd]{fullShare} f) ∗ (src.view.loc (c : Thread nD τ) ↦{q} A))
      ⊢ iprop((Flight EC (c : Thread nD τ) (.dma s) () N iprop((dst.view.loc (c : Thread nD τ) ↦[Sd]{fullShare} B) ∗ (src.view.loc (c : Thread nD τ) ↦{q} A)) -∗ WP c (k ⟨⟩) Q)
          -∗ WP c (.op (.enqueueDma src (.here dst) (.dma sem) h1 h2 h3) k) Q) := by
  subst hs hSd
  iintro ⟨Hv, ⟨%fd, Hd⟩, Hs⟩ Hk
  ihave Hs := (pointsTo_split_subset (Finset.subset_univ src.view.set)).1 $$ Hs
  icases Hs with ⟨Hs, Hrest⟩
  iapply (Transfers.wp_dmaLocal EC 𝒱₀ (c : Thread nD τ) none (fd := fd) () N (show dst.view.amount (.dma sem) = N from hN) hN0 (subset_refl _)) $$ [Hs Hd Hv]
  · isplitl [Hs]; · iexact Hs
    isplitl [Hd] <;> iassumption
  iintro HF
  iapply Hk
  ihave HF := (Flight_frame c) $$ [HF Hrest]
  · isplitl [HF]; · iexact HF
    iexact Hrest
  iapply (Flight_mono EC (c : Thread nD τ) ?_) $$ HF
  iintro ⟨⟨Hd, Hs⟩, Hr⟩
  isplitl [Hd]
  · iapply (Entails.of_eq (pointsTo_congr (write_agree dst.view fd B (src.view.read (Elt F) A) hB))) $$ Hd
  · iapply (pointsTo_split_subset (Finset.subset_univ src.view.set)).2
    isplitl [Hs] <;> iassumption

/-- The wait for a local copy. -/
theorem step_got (c : Dev nD) (s : DmaSem sig) (O : CellTallies nD τ sig Unit) (hO : Above (lv (dC c s) ()) O) {sem : DmaSem sig} (hs : sem = s)
    {sp sp' : Space} {sh : Shape} {e : EltTy} {srcw : Memref sig .tc sp sh e} {dstw : Memref sig .tc sp' sh e}
    {h1 : srcw.view.WordExact} {h2 : dstw.view.WordExact} {N : ℕ} (hN : dstw.view.dmaCredit = N) {D : sProp 𝕄}
    {α : Type} {Q : α → sProp 𝕄} {k : PUnit → Prog (TpuEff nD τ sig (Elt F) Λ₀ .tc) α} :
    iprop(levAts L lv ∗ Ow c O ∗ Flight EC (c : Thread nD τ) (.dma s) () N D)
      ⊢ iprop(((Ow c O ∗ semVal (dC c s) 0 ∗ D) -∗ WP c (k ⟨⟩) Q)
          -∗ WP c (.op (.waitDma2 sem srcw dstw h1 h2) k) Q) := by
  subst hs
  unfold Ow
  iintro ⟨#Hlev, ⟨%W, HO⟩, HF⟩ Hk
  iapply (Transfers.wp_waitLocalO EC 𝒱₀ (c : Thread nD τ) none () hN (O := O) (W := W)) $$ [HO HF]
  · isplitl [HF]; · iexact HF
    isplitl [HO]; · iexact HO
    iapply (mayWait c (.dma sem) O hO); iexact Hlev
  iintro ⟨HD, Hv, HO⟩
  iapply Hk
  isplitl [HO]; · iexists _; iexact HO
  isplitl [Hv] <;> iassumption

end Cert.Run

end
-- ==== Proof.State.lean ====
/- The kernel's state between two steps of the loop over heads, in the protocol's resources, and each copy, wait and load of
   the kernel as a step between such resources. -/
module

public import proofs.«01_k».proof.Proof.Steps

@[expose] public section

noncomputable section

namespace Cert.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.ValueIdx
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## Heads and slots by the number of the step -/

/-- The head of step `t`, and its slot. -/
def fh (t : ℕ) : Fin 8 := ⟨t % 8, Nat.mod_lt _ (by decide)⟩
def fs (t : ℕ) : Fin 2 := ⟨t % 2, Nat.mod_lt _ (by decide)⟩
theorem fh_val {t : ℕ} (h : t < 8) : (fh t).val = t := Nat.mod_eq_of_lt h
theorem fs_succ_succ (t : ℕ) : fs (t + 1 + 1) = fs t := Fin.ext (by show (t + 1 + 1) % 2 = t % 2; omega)

/-! ## The staged copies -/

abbrev bK : Memref sig .tc .vmem S2x256x32x128 .f32 := Memref.whole cc0_scratch8
abbrev bV : Memref sig .tc .vmem S2x256x32x128 .f32 := Memref.whole cc0_scratch9
abbrev Nq : ℕ := (qM 0).view.dmaCredit
abbrev Nk : ℕ := (kM bK 0 0).view.dmaCredit
theorem Nq_pos : 0 < Nq := View.dmaCredit_pos _ (by decide)
theorem Nk_pos : 0 < Nk := View.dmaCredit_pos _ (by decide)
/-! ## The copies' amounts -/

theorem crd_q (s : Fin 2) : (qM s).view.dmaCredit = Nq := rfl
theorem crd_k (s b : Fin 2) : (kM bK s b).view.dmaCredit = Nk := rfl
theorem crd_v (s b : Fin 2) : (kM bV s b).view.dmaCredit = Nk := rfl
theorem crd_ro (h : Fin 8) : (hM (Memref.whole cc0_scratch3) h).view.dmaCredit = No := rfl
theorem crd_rl (h : Fin 8) : (lM (Memref.whole cc0_scratch4) h).view.dmaCredit = Nl := rfl
theorem crd_x0 : (xM0 (Memref.whole cc0_scratch6)).view.dmaCredit = Nx0 := rfl
theorem crd_x1 : (xM1 (Memref.whole cc0_scratch6)).view.dmaCredit = Nx1 := rfl

/-- The copy's place among the four that read the same array at once. -/
def tk (s b : Fin 2) : Fin 4 := ⟨2 * s.val + b.val, by omega⟩

def qP (c : Dev nD) (s : Fin 2) (f : S2x32x128.Idx → Elt F .f32) : sProp 𝕄 := ((c : Thread nD τ).loc cc0_scratch7) ↦[qS s.val]{fullShare} f
def kP (c : Dev nD) (s b : Fin 2) (f : S2x256x32x128.Idx → Elt F .f32) : sProp 𝕄 := ((c : Thread nD τ).loc cc0_scratch8) ↦[kS s.val b.val]{fullShare} f
def vP (c : Dev nD) (s b : Fin 2) (f : S2x256x32x128.Idx → Elt F .f32) : sProp 𝕄 := ((c : Thread nD τ).loc cc0_scratch9) ↦[kS s.val b.val]{fullShare} f
def qT (c : Dev nD) (s : Fin 2) : sProp 𝕄 := ((c : Thread nD τ).loc main_arg0) ↦{shareTok fullShare 2 s} (qA m c)
def kT (c : Dev nD) (s b : Fin 2) : sProp 𝕄 := ((c : Thread nD τ).loc main_arg1) ↦{shareTok fullShare 4 (tk s b)} (kA m c)
def vT (c : Dev nD) (s b : Fin 2) : sProp 𝕄 := ((c : Thread nD τ).loc main_arg2) ↦{shareTok fullShare 4 (tk s b)} (vA m c)

/-- A copy's resources before it starts. -/
def qI (c : Dev nD) (s : Fin 2) : sProp 𝕄 := iprop(semVal (dC c (cpS 2 s 0)) 0 ∗ (∃ f, qP c s f) ∗ qT m c s)
def kI (c : Dev nD) (s b : Fin 2) : sProp 𝕄 := iprop(semVal (dC c (cpS 0 s b)) 0 ∗ (∃ f, kP c s b f) ∗ kT m c s b)
def vI (c : Dev nD) (s b : Fin 2) : sProp 𝕄 := iprop(semVal (dC c (cpS 1 s b)) 0 ∗ (∃ f, vP c s b f) ∗ vT m c s b)
/-- A copy of head `h` in flight. -/
def qF (c : Dev nD) (s : Fin 2) (h : Fin 8) : sProp 𝕄 :=
  Flight EC (c : Thread nD τ) (.dma (cpS 2 s 0)) () Nq iprop(qP c s (qB (qA m c) c h) ∗ qT m c s)
def kF (c : Dev nD) (s b : Fin 2) (h : Fin 8) : sProp 𝕄 :=
  Flight EC (c : Thread nD τ) (.dma (cpS 0 s b)) () Nk iprop(kP c s b (kB (kA m c) c h) ∗ kT m c s b)
def vF (c : Dev nD) (s b : Fin 2) (h : Fin 8) : sProp 𝕄 :=
  Flight EC (c : Thread nD τ) (.dma (cpS 1 s b)) () Nk iprop(vP c s b (kB (vA m c) c h) ∗ vT m c s b)
/-- A copy of head `h` landed. -/
def qD (c : Dev nD) (s : Fin 2) (h : Fin 8) : sProp 𝕄 := iprop(semVal (dC c (cpS 2 s 0)) 0 ∗ qP c s (qB (qA m c) c h) ∗ qT m c s)
def kD (c : Dev nD) (s b : Fin 2) (h : Fin 8) : sProp 𝕄 := iprop(semVal (dC c (cpS 0 s b)) 0 ∗ kP c s b (kB (kA m c) c h) ∗ kT m c s b)
def vD (c : Dev nD) (s b : Fin 2) (h : Fin 8) : sProp 𝕄 := iprop(semVal (dC c (cpS 1 s b)) 0 ∗ vP c s b (kB (vA m c) c h) ∗ vT m c s b)

/-- Slot `s`: nothing under way; the copies of head `h` under way. -/
def idle (c : Dev nD) (s : Fin 2) : sProp 𝕄 := iprop(qI m c s ∗ kI m c s 0 ∗ vI m c s 0 ∗ kI m c s 1 ∗ vI m c s 1)
def fly (c : Dev nD) (s : Fin 2) (h : Fin 8) : sProp 𝕄 := iprop(qF m c s h ∗ kF m c s 0 h ∗ vF m c s 0 h ∗ kF m c s 1 h ∗ vF m c s 1 h)

theorem landed_idle (c : Dev nD) (s : Fin 2) (h : Fin 8) :
    iprop(qD m c s h ∗ kD m c s 0 h ∗ vD m c s 0 h ∗ kD m c s 1 h ∗ vD m c s 1 h) ⊢ idle m c s := by
  unfold idle qD kD vD qI kI vI
  iintro ⟨⟨H1, H2, H3⟩, ⟨H4, H5, H6⟩, ⟨H7, H8, H9⟩, ⟨Ha, Hb, Hc⟩, ⟨Hd, He, Hf⟩⟩
  isplitl [H1 H2 H3]; · isplitl [H1]; · iexact H1
                        isplitl [H2]; · iexists _; iexact H2
                        iexact H3
  isplitl [H4 H5 H6]; · isplitl [H4]; · iexact H4
                        isplitl [H5]; · iexists _; iexact H5
                        iexact H6
  isplitl [H7 H8 H9]; · isplitl [H7]; · iexact H7
                        isplitl [H8]; · iexists _; iexact H8
                        iexact H9
  isplitl [Ha Hb Hc]; · isplitl [Ha]; · iexact Ha
                        isplitl [Hb]; · iexists _; iexact Hb
                        iexact Hc
  isplitl [Hd]; · iexact Hd
  isplitl [He]; · iexists _; iexact He
  iexact Hf

theorem step_q (c : Dev nD) (s : Fin 2) (h : Fin 8) {sem : DmaSem sig} (hs : sem = cpS 2 s 0)
    {src : Memref sig .tc .hbm S32x128 .f32} {dst : Memref sig .tc .vmem S32x128 .f32} (hsrc : src = qG c h) (hdst : dst = qM s)
    {h1 : src.view.WordExact} {h2 : dst.view.WordExact} {h3 : DmaTarget.Typed (nD := nD) .hbm (.dma sem) (DmaTarget.here (p := (Proc.tc : Proc τ)) dst)}
    {α : Type} {Q : α → sProp 𝕄} {k : PUnit → Prog (TpuEff nD τ sig (Elt F) Λ₀ .tc) α} :
    qI m c s ⊢ iprop((qF m c s h -∗ WP c (k ⟨⟩) Q) -∗ WP c (.op (.enqueueDma src (.here dst) (.dma sem) h1 h2 h3) k) Q) := by
  subst hsrc hdst
  exact step_copy c (cpS 2 s 0) hs (src := qG c h) (dst := qM s) (qS s.val) (set_qM s) Nq (crd_q s) Nq_pos (qA m c) (qB (qA m c) c h) (landed_q (qA m c) c h s) _
theorem step_k (c : Dev nD) (s b : Fin 2) (h : Fin 8) {sem : DmaSem sig} (hs : sem = cpS 0 s b)
    {src : Memref sig .tc .hbm S128x32x128 .f32} {dst : Memref sig .tc .vmem S128x32x128 .f32}
    (hsrc : src = kG (Memref.whole main_arg1) c h b) (hdst : dst = kM bK s b)
    {h1 : src.view.WordExact} {h2 : dst.view.WordExact} {h3 : DmaTarget.Typed (nD := nD) .hbm (.dma sem) (DmaTarget.here (p := (Proc.tc : Proc τ)) dst)}
    {α : Type} {Q : α → sProp 𝕄} {k : PUnit → Prog (TpuEff nD τ sig (Elt F) Λ₀ .tc) α} :
    kI m c s b ⊢ iprop((kF m c s b h -∗ WP c (k ⟨⟩) Q) -∗ WP c (.op (.enqueueDma src (.here dst) (.dma sem) h1 h2 h3) k) Q) := by
  subst hsrc hdst
  exact step_copy c (cpS 0 s b) hs (src := kG (Memref.whole main_arg1) c h b) (dst := kM bK s b) (kS s.val b.val) (set_kM s b) Nk (crd_k s b) Nk_pos (kA m c) (kB (kA m c) c h) (landed_k (kA m c) c h s b) _
theorem step_v (c : Dev nD) (s b : Fin 2) (h : Fin 8) {sem : DmaSem sig} (hs : sem = cpS 1 s b)
    {src : Memref sig .tc .hbm S128x32x128 .f32} {dst : Memref sig .tc .vmem S128x32x128 .f32}
    (hsrc : src = kG (Memref.whole main_arg2) c h b) (hdst : dst = kM bV s b)
    {h1 : src.view.WordExact} {h2 : dst.view.WordExact} {h3 : DmaTarget.Typed (nD := nD) .hbm (.dma sem) (DmaTarget.here (p := (Proc.tc : Proc τ)) dst)}
    {α : Type} {Q : α → sProp 𝕄} {k : PUnit → Prog (TpuEff nD τ sig (Elt F) Λ₀ .tc) α} :
    vI m c s b ⊢ iprop((vF m c s b h -∗ WP c (k ⟨⟩) Q) -∗ WP c (.op (.enqueueDma src (.here dst) (.dma sem) h1 h2 h3) k) Q) := by
  subst hsrc hdst
  exact step_copy c (cpS 1 s b) hs (src := kG (Memref.whole main_arg2) c h b) (dst := kM bV s b) (kS s.val b.val) (set_vM s b) Nk (crd_v s b) Nk_pos (vA m c) (kB (vA m c) c h) (landed_v (vA m c) c h s b) _

theorem got_q (c : Dev nD) (s : Fin 2) (h : Fin 8) (O : CellTallies nD τ sig Unit) (hO : Above 0 O) {sem : DmaSem sig} (hs : sem = cpS 2 s 0)
    {sp : Space} {srcw : Memref sig .tc sp S32x128 .f32} {dstw : Memref sig .tc .vmem S32x128 .f32}
    (hdst : dstw = qM s) {h1 : srcw.view.WordExact} {h2 : dstw.view.WordExact}
    {α : Type} {Q : α → sProp 𝕄} {k : PUnit → Prog (TpuEff nD τ sig (Elt F) Λ₀ .tc) α} :
    iprop(levAts L lv ∗ Ow c O ∗ qF m c s h)
      ⊢ iprop(((Ow c O ∗ qD m c s h) -∗ WP c (k ⟨⟩) Q) -∗ WP c (.op (.waitDma2 sem srcw dstw h1 h2) k) Q) :=
  step_got c (cpS 2 s 0) O (by rw [lv_cpS]; exact hO) hs (by rw [hdst, crd_q])
theorem got_k (c : Dev nD) (s b : Fin 2) (h : Fin 8) (O : CellTallies nD τ sig Unit) (hO : Above 0 O) {sem : DmaSem sig} (hs : sem = cpS 0 s b)
    {sp : Space} {srcw : Memref sig .tc sp S128x32x128 .f32} {dstw : Memref sig .tc .vmem S128x32x128 .f32}
    (hdst : dstw = kM bK s b) {h1 : srcw.view.WordExact} {h2 : dstw.view.WordExact}
    {α : Type} {Q : α → sProp 𝕄} {k : PUnit → Prog (TpuEff nD τ sig (Elt F) Λ₀ .tc) α} :
    iprop(levAts L lv ∗ Ow c O ∗ kF m c s b h)
      ⊢ iprop(((Ow c O ∗ kD m c s b h) -∗ WP c (k ⟨⟩) Q) -∗ WP c (.op (.waitDma2 sem srcw dstw h1 h2) k) Q) :=
  step_got c (cpS 0 s b) O (by rw [lv_cpS]; exact hO) hs (by rw [hdst, crd_k])
theorem got_v (c : Dev nD) (s b : Fin 2) (h : Fin 8) (O : CellTallies nD τ sig Unit) (hO : Above 0 O) {sem : DmaSem sig} (hs : sem = cpS 1 s b)
    {sp : Space} {srcw : Memref sig .tc sp S128x32x128 .f32} {dstw : Memref sig .tc .vmem S128x32x128 .f32}
    (hdst : dstw = kM bV s b) {h1 : srcw.view.WordExact} {h2 : dstw.view.WordExact}
    {α : Type} {Q : α → sProp 𝕄} {k : PUnit → Prog (TpuEff nD τ sig (Elt F) Λ₀ .tc) α} :
    iprop(levAts L lv ∗ Ow c O ∗ vF m c s b h)
      ⊢ iprop(((Ow c O ∗ vD m c s b h) -∗ WP c (k ⟨⟩) Q) -∗ WP c (.op (.waitDma2 sem srcw dstw h1 h2) k) Q) :=
  step_got c (cpS 1 s b) O (by rw [lv_cpS]; exact hO) hs (by rw [hdst, crd_v])

/-- The views from their offsets. -/
theorem qG_eq (c : Dev nD) (h : Fin 8) {off : Fin 4 → ℕ} (ho : off = ![0, 0, 8 * (c.val / 2) + h.val, 0]) {hi hs hq} :
    ((Memref.whole main_arg0).slice (Rect.unit (s := S32x1x16x128) off S32x1x1x128.size hi) hs).squeeze S32x128 hq = qG c h := by subst ho; rfl
theorem kG_eq (A : Memref sig .tc .hbm S256x32x16x128 .f32) (c : Dev nD) (h : Fin 8) (b : Fin 2) {off : Fin 4 → ℕ}
    (ho : off = ![128 * b.val, 0, 8 * (c.val / 2) + h.val, 0]) {hi hs hq} :
    (A.slice (Rect.unit (s := S256x32x16x128) off S128x32x1x128.size hi) hs).squeeze S128x32x128 hq = kG A c h b := by subst ho; rfl
theorem qM_eq (s : Fin 2) {off : Fin 3 → ℕ} (ho : off = ![s.val, 0, 0]) {hi hs hq} :
    ((Memref.whole cc0_scratch7).slice (Rect.unit (s := S2x32x128) off S1x32x128.size hi) hs).squeeze S32x128 hq = qM s := by subst ho; rfl
theorem kM_eq (B : Memref sig .tc .vmem S2x256x32x128 .f32) (s b : Fin 2) {off : Fin 4 → ℕ} (ho : off = ![s.val, 128 * b.val, 0, 0]) {hi hs hq} :
    (B.slice (Rect.unit (s := S2x256x32x128) off S1x128x32x128.size hi) hs).squeeze S128x32x128 hq = kM B s b := by subst ho; rfl
theorem hM_eq (B : Memref sig .tc .vmem S8x32x128 .f32) (h : Fin 8) {off : Fin 3 → ℕ} (ho : off = ![h.val, 0, 0]) {hi hs hq} :
    (B.slice (Rect.unit (s := S8x32x128) off S1x32x128.size hi) hs).squeeze S32x128 hq = hM B h := by subst ho; rfl
theorem lM_eq (B : Memref sig .tc .vmem S8x1x32 .f32) (h : Fin 8) {off : Fin 3 → ℕ} (ho : off = ![h.val, 0, 0]) {hi hs hq} :
    (B.slice (Rect.unit (s := S8x1x32) off S1x1x32.size hi) hs).squeeze S1x32 hq = lM B h := by subst ho; rfl

/-- The copy semaphores by their place in the array. -/
theorem cp_sem {off : Fin 3 → ℕ} (k : Fin 3) (s b : Fin 2) (ho : off = ![k.val, s.val, b.val]) (hi) :
    ((cc0_scratch10.slice (Rect.unit (s := S3x2x2) off S1x1x1.size hi)).squeeze S_ squeezes_S1x1x1_S_).sem = cpS k s b := by
  subst ho; revert k s b; decide

/-! ## The heads and the waves -/

/-- What a wait on semaphore `s` needs, and what it leaves. -/
def Wt (c : Dev nD) (s : DmaSem sig) : sProp 𝕄 := iprop(cred (tallyAt (dC c s) () (amtN s.val)) ∗ atPos ER (dC c s) 0 ∅ 0)
def Dn (c : Dev nD) (s : DmaSem sig) : sProp 𝕄 := iprop(semVal (dC c s) 0 ∗ dmaPay m c s.val)
/-- What a copy onto the neighbour's semaphore `r` with own semaphore `s` needs. -/
def Tk (c p : Dev nD) (s r : DmaSem sig) : sProp 𝕄 := iprop(dutyTok ER (dC c s) 0 false ∗ dutyTok ER (dC p r) 0 false ∗ atPos ER (dC c s) 0 ∅ 0)

theorem step_wt (c : Dev nD) (s : DmaSem sig) (h15 : 15 ≤ s.val) (O : CellTallies nD τ sig Unit) (hO : Above (lv (dC c s) ()) O)
    {sem : DmaSem sig} (hs : sem = s)
    {sp sp' : Space} {sh : Shape} {e : EltTy} {srcw : Memref sig .tc sp sh e} {dstw : Memref sig .tc sp' sh e}
    {h1 : srcw.view.WordExact} {h2 : dstw.view.WordExact} (hN' : dstw.view.dmaCredit = amtN s.val)
    {α : Type} {Q : α → sProp 𝕄} {k : PUnit → Prog (TpuEff nD τ sig (Elt F) Λ₀ .tc) α} :
    iprop(recs m ∗ levAts L lv ∗ Ow c O ∗ Wt c s)
      ⊢ iprop(((Ow c O ∗ Dn m c s) -∗ WP c (k ⟨⟩) Q) -∗ WP c (.op (.waitDma2 sem srcw dstw h1 h2) k) Q) :=
  step_wait m c s h15 O hO hs rfl hN'

/-- Head `h` before its copies: the tokens alone; with the parts of the buffers. -/
def pre (c : Dev nD) (h : Fin 8) : sProp 𝕄 :=
  iprop(Tk c (yp c) (yoS h) (yoR h) ∗ Tk c (yp c) (ylS h) (ylR h) ∗ Wt c (yoR h) ∗ Wt c (ylR h))
def todo (c : Dev nD) (h : Fin 8) : sProp 𝕄 :=
  iprop((∃ f, pAo c h.val f) ∗ (∃ f, pAl c h.val f) ∗ (∃ f, pRo (yp c) h.val f) ∗ (∃ f, pRl (yp c) h.val f) ∗ pre c h)
/-- Head `h` after its copies, and after the waits. -/
def sent (c : Dev nD) (h : Fin 8) : sProp 𝕄 := iprop(Wt c (yoS h) ∗ Wt c (yoR h) ∗ Wt c (ylS h) ∗ Wt c (ylR h))
def done (c : Dev nD) (h : Fin 8) : sProp 𝕄 := iprop(Dn m c (yoS h) ∗ Dn m c (yoR h) ∗ Dn m c (ylS h) ∗ Dn m c (ylR h))
/-- All heads before step `t`. -/
def heads (c : Dev nD) (t : ℕ) : sProp 𝕄 := bigSep Finset.univ fun h : Fin 8 => if h.val < t then sent c h else todo c h

omit [FloatOps F] in
theorem heads_take (c : Dev nD) {t : ℕ} (ht : t < 8) : heads (F := F) c t ⊢ iprop(todo c (fh t) ∗ (sent c (fh t) -∗ heads c (t + 1))) := by
  unfold heads
  rw [bigSep_univ_at _ (fh t), bigSep_univ_at (fun h : Fin 8 => if h.val < t + 1 then sent c h else todo c h) (fh t),
    if_neg (by rw [fh_val ht]; omega), if_pos (by rw [fh_val ht]; omega)]
  have he : (bigSep (Finset.univ.erase (fh t)) fun h : Fin 8 => if h.val < t then sent (F := F) c h else todo c h)
      = bigSep (Finset.univ.erase (fh t)) fun h : Fin 8 => if h.val < t + 1 then sent c h else todo c h := by
    refine bigSep_congr fun h hh => ?_
    have hne : h.val ≠ t := fun h' => (Finset.mem_erase.mp hh).1 (Fin.ext (by rw [fh_val ht]; exact h'))
    by_cases hl : h.val < t
    · rw [if_pos hl, if_pos (by omega)]
    · rw [if_neg hl, if_neg (by omega)]
  rw [he]
  iintro ⟨H, HR⟩
  isplitl [H]; · iexact H
  iintro Hs
  isplitl [Hs] <;> iassumption
omit [FloatOps F] in
theorem heads_seven (c : Dev nD) : heads (F := F) c 7
    = iprop(sent c 0 ∗ sent c 1 ∗ sent c 2 ∗ sent c 3 ∗ sent c 4 ∗ sent c 5 ∗ sent c 6 ∗ todo c 7) := by
  unfold heads
  rw [bigSep_univ_eq_bigSepL ([0, 1, 2, 3, 4, 5, 6, 7] : List (Fin 8)) (by decide) (by decide)]
  rfl

/-- The waves before their copies. -/
def xpre (c : Dev nD) : sProp 𝕄 :=
  iprop(Tk c (xp c) (xsS 0) (xsR 0) ∗ Tk c (xp c) (xsS 1) (xsR 1) ∗ Wt c (xsR 0) ∗ Wt c (xsR 1))
def xtodo (c : Dev nD) : sProp 𝕄 :=
  iprop((∃ f, pXs c 0 f) ∗ (∃ f, pXs c 1 f) ∗ (∃ f, pXr (xp c) 0 f) ∗ (∃ f, pXr (xp c) 1 f) ∗ xpre c)
def xdone (c : Dev nD) : sProp 𝕄 := iprop(Dn m c (xsS 0) ∗ Dn m c (xsR 0) ∗ Dn m c (xsS 1) ∗ Dn m c (xsR 1))

/-! ### The sends -/

theorem routes_true (c p : Dev nD) : τ.routes (c : Thread nD τ) (p : Thread nD τ) = true := by revert c p; decide

theorem step_sendO (c n : Dev nD) (hn : n = yp c) (h : Fin 8) {semS semR : DmaSem sig} (hs : semS = yoS h) (hr : semR = yoR h)
    {src dst : Memref sig .tc .vmem S32x128 .f32} (hsrc : src = hM (Memref.whole cc0_scratch1) h) (hdst : dst = hM (Memref.whole cc0_scratch3) h)
    {hsc : (dst : Memref sig (Dev.tc n : Thread nD τ).2.kind .vmem S32x128 .f32).view.ref.isScScratch = false}
    {h1 : src.view.WordExact} {h2 : dst.view.WordExact} {h3 : DmaTarget.Typed .vmem (.dma semR) (.remote (Dev.tc n : Thread nD τ) dst (.dma semS) hsc)}
    (O : CellTallies nD τ sig Unit)
    {α : Type} {Q : α → sProp 𝕄} {k : PUnit → Prog (TpuEff nD τ sig (Elt F) Λ₀ .tc) α} :
    iprop(recs m ∗ pAo c h.val (aO m c) ∗ (∃ f, pRo (yp c) h.val f) ∗ Ow c (O + tallyAt (dC (yp c) (yoR h)) () No) ∗ Tk c (yp c) (yoS h) (yoR h))
      ⊢ iprop(((Ow c O ∗ Wt c (yoS h)) -∗ WP c (k ⟨⟩) Q)
          -∗ WP c (.op (.enqueueDma src (.remote (Dev.tc n : Thread nD τ) dst (.dma semS) hsc) (.dma semR) h1 h2 h3) k) Q) := by
  subst hsrc hdst
  unfold Tk Wt
  iintro ⟨#HR, Hs, ⟨%fd, Hd⟩, HO, Ht, Ht', Hat⟩ Hk
  iapply (step_send m c (yp c) n hn (yoS h) (yoR h) (by show 15 ≤ 15 + h.val; omega) (by show 15 ≤ 23 + h.val; omega) hs hr (aO m c) fd No (crd_ro h)
    (amt_yoS h) (amt_yoR h) O
    (by rw [set_ao, pay_yoS]; exact BIBase.Entails.rfl)
    (by
      rw [pay_yoR, yp_yp]
      unfold pRo
      rw [← set_ro]
      exact Entails.of_eq (pointsTo_congr (write_agree (hM (Memref.whole cc0_scratch3) h).view fd (aO m c) _ fun x => rfl)))
    (routes_true _ _)) $$ [Hs Hd HO Ht Ht']
  · isplitr; · iexact HR
    isplitl [Hs]; · rw [set_ao]; unfold pAo; iexact Hs
    isplitl [Hd]; · rw [set_ro]; unfold pRo; iexact Hd
    isplitl [HO]; · iexact HO
    isplitl [Ht] <;> iassumption
  iintro ⟨HO, Hc⟩
  iapply Hk
  isplitl [HO]; · iexact HO
  rw [amt_yoS]
  isplitl [Hc] <;> iassumption

theorem step_sendL (c n : Dev nD) (hn : n = yp c) (h : Fin 8) {semS semR : DmaSem sig} (hs : semS = ylS h) (hr : semR = ylR h)
    {src dst : Memref sig .tc .vmem S1x32 .f32} (hsrc : src = lM (Memref.whole cc0_scratch2) h) (hdst : dst = lM (Memref.whole cc0_scratch4) h)
    {hsc : (dst : Memref sig (Dev.tc n : Thread nD τ).2.kind .vmem S1x32 .f32).view.ref.isScScratch = false}
    {h1 : src.view.WordExact} {h2 : dst.view.WordExact} {h3 : DmaTarget.Typed .vmem (.dma semR) (.remote (Dev.tc n : Thread nD τ) dst (.dma semS) hsc)}
    (O : CellTallies nD τ sig Unit)
    {α : Type} {Q : α → sProp 𝕄} {k : PUnit → Prog (TpuEff nD τ sig (Elt F) Λ₀ .tc) α} :
    iprop(recs m ∗ pAl c h.val (aL m c) ∗ (∃ f, pRl (yp c) h.val f) ∗ Ow c (O + tallyAt (dC (yp c) (ylR h)) () Nl) ∗ Tk c (yp c) (ylS h) (ylR h))
      ⊢ iprop(((Ow c O ∗ Wt c (ylS h)) -∗ WP c (k ⟨⟩) Q)
          -∗ WP c (.op (.enqueueDma src (.remote (Dev.tc n : Thread nD τ) dst (.dma semS) hsc) (.dma semR) h1 h2 h3) k) Q) := by
  subst hsrc hdst
  unfold Tk Wt
  iintro ⟨#HR, Hs, ⟨%fd, Hd⟩, HO, Ht, Ht', Hat⟩ Hk
  iapply (step_send m c (yp c) n hn (ylS h) (ylR h) (by show 15 ≤ 31 + h.val; omega) (by show 15 ≤ 39 + h.val; omega) hs hr (aL m c) fd Nl (crd_rl h)
    (amt_ylS h) (amt_ylR h) O
    (by rw [set_al, pay_ylS]; exact BIBase.Entails.rfl)
    (by
      rw [pay_ylR, yp_yp]
      unfold pRl
      rw [← set_rl]
      exact Entails.of_eq (pointsTo_congr (write_agree (lM (Memref.whole cc0_scratch4) h).view fd (aL m c) _ fun x => rfl)))
    (routes_true _ _)) $$ [Hs Hd HO Ht Ht']
  · isplitr; · iexact HR
    isplitl [Hs]; · rw [set_al]; unfold pAl; iexact Hs
    isplitl [Hd]; · rw [set_rl]; unfold pRl; iexact Hd
    isplitl [HO]; · iexact HO
    isplitl [Ht] <;> iassumption
  iintro ⟨HO, Hc⟩
  iapply Hk
  isplitl [HO]; · iexact HO
  rw [amt_ylS]
  isplitl [Hc] <;> iassumption

theorem set_xs0 : (xM0 (Memref.whole cc0_scratch5)).view.set = xS 0 := (View.set_slice_whole cc0_scratch5 _).trans (xset0 _)
theorem set_xs1 : (xM1 (Memref.whole cc0_scratch5)).view.set = xS 1 := (View.set_slice_whole cc0_scratch5 _).trans (xset1 _)
theorem set_xr0 : (xM0 (Memref.whole cc0_scratch6)).view.set = xS 0 := (View.set_slice_whole cc0_scratch6 _).trans (xset0 _)
theorem set_xr1 : (xM1 (Memref.whole cc0_scratch6)).view.set = xS 1 := (View.set_slice_whole cc0_scratch6 _).trans (xset1 _)

theorem step_sendX0 (c n : Dev nD) (hn : n = xp c) {semS semR : DmaSem sig} (hs : semS = xsS 0) (hr : semR = xsR 0)
    {src dst : Memref sig .tc .vmem S32x896 .f32} (hsrc : src = xM0 (Memref.whole cc0_scratch5)) (hdst : dst = xM0 (Memref.whole cc0_scratch6))
    {hsc : (dst : Memref sig (Dev.tc n : Thread nD τ).2.kind .vmem S32x896 .f32).view.ref.isScScratch = false}
    {h1 : src.view.WordExact} {h2 : dst.view.WordExact} {h3 : DmaTarget.Typed .vmem (.dma semR) (.remote (Dev.tc n : Thread nD τ) dst (.dma semS) hsc)}
    (O : CellTallies nD τ sig Unit)
    {α : Type} {Q : α → sProp 𝕄} {k : PUnit → Prog (TpuEff nD τ sig (Elt F) Λ₀ .tc) α} :
    iprop(recs m ∗ pXs c 0 (xC m c) ∗ (∃ f, pXr (xp c) 0 f) ∗ Ow c (O + tallyAt (dC (xp c) (xsR 0)) () Nx0) ∗ Tk c (xp c) (xsS 0) (xsR 0))
      ⊢ iprop(((Ow c O ∗ Wt c (xsS 0)) -∗ WP c (k ⟨⟩) Q)
          -∗ WP c (.op (.enqueueDma src (.remote (Dev.tc n : Thread nD τ) dst (.dma semS) hsc) (.dma semR) h1 h2 h3) k) Q) := by
  subst hsrc hdst
  unfold Tk Wt
  iintro ⟨#HR, Hs, ⟨%fd, Hd⟩, HO, Ht, Ht', Hat⟩ Hk
  iapply (step_send m c (xp c) n hn (xsS 0) (xsR 0) (by decide) (by decide) hs hr (xC m c) fd Nx0 crd_x0
    amt_xsS0 amt_xsR0 O
    (by rw [set_xs0, pay_xsS]; exact BIBase.Entails.rfl)
    (by
      rw [pay_xsR, xp_xp]
      unfold pXr
      rw [show ((0 : Fin 2).val) = 0 from rfl, ← set_xr0]
      exact Entails.of_eq (pointsTo_congr (write_agree (xM0 (Memref.whole cc0_scratch6)).view fd (xC m c) _ fun x => rfl)))
    (routes_true _ _)) $$ [Hs Hd HO Ht Ht']
  · isplitr; · iexact HR
    isplitl [Hs]; · rw [set_xs0]; unfold pXs; iexact Hs
    isplitl [Hd]; · rw [set_xr0]; unfold pXr; iexact Hd
    isplitl [HO]; · iexact HO
    isplitl [Ht] <;> iassumption
  iintro ⟨HO, Hc⟩
  iapply Hk
  isplitl [HO]; · iexact HO
  rw [amt_xsS0]
  isplitl [Hc] <;> iassumption
theorem step_sendX1 (c n : Dev nD) (hn : n = xp c) {semS semR : DmaSem sig} (hs : semS = xsS 1) (hr : semR = xsR 1)
    {src dst : Memref sig .tc .vmem S32x128 .f32} (hsrc : src = xM1 (Memref.whole cc0_scratch5)) (hdst : dst = xM1 (Memref.whole cc0_scratch6))
    {hsc : (dst : Memref sig (Dev.tc n : Thread nD τ).2.kind .vmem S32x128 .f32).view.ref.isScScratch = false}
    {h1 : src.view.WordExact} {h2 : dst.view.WordExact} {h3 : DmaTarget.Typed .vmem (.dma semR) (.remote (Dev.tc n : Thread nD τ) dst (.dma semS) hsc)}
    (O : CellTallies nD τ sig Unit)
    {α : Type} {Q : α → sProp 𝕄} {k : PUnit → Prog (TpuEff nD τ sig (Elt F) Λ₀ .tc) α} :
    iprop(recs m ∗ pXs c 1 (xC m c) ∗ (∃ f, pXr (xp c) 1 f) ∗ Ow c (O + tallyAt (dC (xp c) (xsR 1)) () Nx1) ∗ Tk c (xp c) (xsS 1) (xsR 1))
      ⊢ iprop(((Ow c O ∗ Wt c (xsS 1)) -∗ WP c (k ⟨⟩) Q)
          -∗ WP c (.op (.enqueueDma src (.remote (Dev.tc n : Thread nD τ) dst (.dma semS) hsc) (.dma semR) h1 h2 h3) k) Q) := by
  subst hsrc hdst
  unfold Tk Wt
  iintro ⟨#HR, Hs, ⟨%fd, Hd⟩, HO, Ht, Ht', Hat⟩ Hk
  iapply (step_send m c (xp c) n hn (xsS 1) (xsR 1) (by decide) (by decide) hs hr (xC m c) fd Nx1 crd_x1
    amt_xsS1 amt_xsR1 O
    (by rw [set_xs1, pay_xsS]; exact BIBase.Entails.rfl)
    (by
      rw [pay_xsR, xp_xp]
      unfold pXr
      rw [show ((1 : Fin 2).val) = 1 from rfl, ← set_xr1]
      exact Entails.of_eq (pointsTo_congr (write_agree (xM1 (Memref.whole cc0_scratch6)).view fd (xC m c) _ fun x => rfl)))
    (routes_true _ _)) $$ [Hs Hd HO Ht Ht']
  · isplitr; · iexact HR
    isplitl [Hs]; · rw [set_xs1]; unfold pXs; iexact Hs
    isplitl [Hd]; · rw [set_xr1]; unfold pXr; iexact Hd
    isplitl [HO]; · iexact HO
    isplitl [Ht] <;> iassumption
  iintro ⟨HO, Hc⟩
  iapply Hk
  isplitl [HO]; · iexact HO
  rw [amt_xsS1]
  isplitl [Hc] <;> iassumption

end Cert.Run

end
-- ==== Proof.Parts.lean ====
/- The body's parts at the kernel's own buffers, and the offsets and conditions of a step in closed form. -/
module

public import proofs.«01_k».proof.Proof.State

@[expose] public section

noncomputable section

namespace Cert.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.ValueIdx
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

abbrev p1 (i : grid0.Coords) (d0 : Dev nD) (v2 : BitVec 32) (k0_h1 : k0_cond1 i = 1#1) :=
  k0_part1 (F := F) i (Memref.whole main_arg0) (Memref.isWhole_whole _) (Memref.whole main_arg1) (Memref.isWhole_whole _) (Memref.whole main_arg2) (Memref.isWhole_whole _) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 d0 v2 k0_h1
abbrev p2 (i : grid0.Coords) (d0 : Dev nD) (v2 : BitVec 32) (v6 : BitVec 32) (v7 : BitVec 32) (k0_h1 : k0_cond1 i = 1#1) :=
  k0_part2 (F := F) i (Memref.whole main_arg0) (Memref.isWhole_whole _) (Memref.whole main_arg1) (Memref.isWhole_whole _) (Memref.whole main_arg2) (Memref.isWhole_whole _) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 d0 v2 v6 v7 k0_h1
abbrev p3 (i : grid0.Coords) (d0 : Dev nD) (v5 : BitVec 32) (k0_h1 : k0_cond1 i = 1#1) (v195 : Sems sig S_) (v201 : BitVec 32) (c1_i32_173 : BitVec 32) :=
  k0_part3 (F := F) i (Memref.whole main_arg0) (Memref.isWhole_whole _) (Memref.whole main_arg1) (Memref.isWhole_whole _) (Memref.whole main_arg2) (Memref.isWhole_whole _) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 d0 v5 k0_h1 v195 v201 c1_i32_173
abbrev p4 (i : grid0.Coords) (arg0 : BitVec 32) (d0 : Dev nD) (v2 : BitVec 32) (k0_h2 : k0_cond2 i = 1#1) :=
  k0_part4 (F := F) i (Memref.whole main_arg0) (Memref.isWhole_whole _) (Memref.whole main_arg1) (Memref.isWhole_whole _) (Memref.whole main_arg2) (Memref.isWhole_whole _) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 arg0 d0 v2 k0_h2
abbrev p5 (i : grid0.Coords) (v2 : BitVec 32) (v6 : BitVec 32) :=
  k0_part5 (F := F) i (Memref.whole main_arg0) (Memref.isWhole_whole _) (Memref.whole main_arg1) (Memref.isWhole_whole _) (Memref.whole main_arg2) (Memref.isWhole_whole _) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 v2 v6
abbrev p6 (i : grid0.Coords) (v2 : BitVec 32) (v6 : BitVec 32) (v177 : BitVec 32) :=
  k0_part6 (F := F) i (Memref.whole main_arg0) (Memref.isWhole_whole _) (Memref.whole main_arg1) (Memref.isWhole_whole _) (Memref.whole main_arg2) (Memref.isWhole_whole _) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 v2 v6 v177
abbrev p7 (i : grid0.Coords) (v2 : BitVec 32) (v6 : BitVec 32) :=
  k0_part7 (F := F) i (Memref.whole main_arg0) (Memref.isWhole_whole _) (Memref.whole main_arg1) (Memref.isWhole_whole _) (Memref.whole main_arg2) (Memref.isWhole_whole _) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 v2 v6
abbrev p8 (i : grid0.Coords) (v2 : BitVec 32) (v6 : BitVec 32) :=
  k0_part8 (F := F) i (Memref.whole main_arg0) (Memref.isWhole_whole _) (Memref.whole main_arg1) (Memref.isWhole_whole _) (Memref.whole main_arg2) (Memref.isWhole_whole _) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 v2 v6
abbrev p9 (i : grid0.Coords) (v2 : BitVec 32) (v6 : BitVec 32) :=
  k0_part9 (F := F) i (Memref.whole main_arg0) (Memref.isWhole_whole _) (Memref.whole main_arg1) (Memref.isWhole_whole _) (Memref.whole main_arg2) (Memref.isWhole_whole _) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 v2 v6
abbrev p10 (i : grid0.Coords) (v2 : BitVec 32) (v6 : BitVec 32) :=
  k0_part10 (F := F) i (Memref.whole main_arg0) (Memref.isWhole_whole _) (Memref.whole main_arg1) (Memref.isWhole_whole _) (Memref.whole main_arg2) (Memref.isWhole_whole _) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 v2 v6
abbrev p11 (i : grid0.Coords) (v2 : BitVec 32) (v6 : BitVec 32) :=
  k0_part11 (F := F) i (Memref.whole main_arg0) (Memref.isWhole_whole _) (Memref.whole main_arg1) (Memref.isWhole_whole _) (Memref.whole main_arg2) (Memref.isWhole_whole _) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 v2 v6
abbrev p12 (i : grid0.Coords) (v2 : BitVec 32) (v6 : BitVec 32) :=
  k0_part12 (F := F) i (Memref.whole main_arg0) (Memref.isWhole_whole _) (Memref.whole main_arg1) (Memref.isWhole_whole _) (Memref.whole main_arg2) (Memref.isWhole_whole _) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 v2 v6
abbrev p13 (i : grid0.Coords) (v2 : BitVec 32) (v6 : BitVec 32) (v354 : BitVec 32) :=
  k0_part13 (F := F) i (Memref.whole main_arg0) (Memref.isWhole_whole _) (Memref.whole main_arg1) (Memref.isWhole_whole _) (Memref.whole main_arg2) (Memref.isWhole_whole _) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 v2 v6 v354
abbrev p14 (i : grid0.Coords) (v2 : BitVec 32) (v6 : BitVec 32) :=
  k0_part14 (F := F) i (Memref.whole main_arg0) (Memref.isWhole_whole _) (Memref.whole main_arg1) (Memref.isWhole_whole _) (Memref.whole main_arg2) (Memref.isWhole_whole _) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 v2 v6
abbrev p15 (i : grid0.Coords) (v5 : BitVec 32) (v6 : BitVec 32) (v7 : BitVec 32) (v177 : BitVec 32) :=
  k0_part15 (F := F) i (Memref.whole main_arg0) (Memref.isWhole_whole _) (Memref.whole main_arg1) (Memref.isWhole_whole _) (Memref.whole main_arg2) (Memref.isWhole_whole _) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 v5 v6 v7 v177
abbrev p16 (i : grid0.Coords) (d0 : Dev nD) (v5 : BitVec 32) (v7 : BitVec 32) (k0_h4 : k0_cond4 i = 1#1) :=
  k0_part16 (F := F) i (Memref.whole main_arg0) (Memref.isWhole_whole _) (Memref.whole main_arg1) (Memref.isWhole_whole _) (Memref.whole main_arg2) (Memref.isWhole_whole _) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 d0 v5 v7 k0_h4
abbrev p17 (i : grid0.Coords) :=
  k0_part17 (F := F) i (Memref.whole main_arg0) (Memref.isWhole_whole _) (Memref.whole main_arg1) (Memref.isWhole_whole _) (Memref.whole main_arg2) (Memref.isWhole_whole _) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16
abbrev p18 (i : grid0.Coords) (arg0 : BitVec 32) (d0 : Dev nD) (v2 : BitVec 32) (v32 : BitVec 32) :=
  k0_part18 (F := F) i (Memref.whole main_arg0) (Memref.isWhole_whole _) (Memref.whole main_arg1) (Memref.isWhole_whole _) (Memref.whole main_arg2) (Memref.isWhole_whole _) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 arg0 d0 v2 v32
abbrev p19 (i : grid0.Coords) (arg0 : BitVec 32) (d0 : Dev nD) :=
  k0_part19 (F := F) i (Memref.whole main_arg0) (Memref.isWhole_whole _) (Memref.whole main_arg1) (Memref.isWhole_whole _) (Memref.whole main_arg2) (Memref.isWhole_whole _) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 arg0 d0
abbrev p20 (i : grid0.Coords) (arg0 : BitVec 32) (v82 : FVec F S32x128 .f32) (v85 : BitVec 32) (v90 : BitVec 1) (v91 : BitVec 32) :=
  k0_part20 (F := F) i (Memref.whole main_arg0) (Memref.isWhole_whole _) (Memref.whole main_arg1) (Memref.isWhole_whole _) (Memref.whole main_arg2) (Memref.isWhole_whole _) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16 arg0 v82 v85 v90 v91
abbrev theBody (i : grid0.Coords) :=
  cc0_body (F := F) i (Memref.whole main_arg0) (Memref.isWhole_whole _) (Memref.whole main_arg1) (Memref.isWhole_whole _) (Memref.whole main_arg2) (Memref.isWhole_whole _) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16

/-! ## The conditions of a step -/

theorem cond1_pos : ∀ i : grid0.Coords, (i 0).val = 0 → k0_cond1 i = 1#1 := by decide +kernel
theorem cond1_neg : ∀ i : grid0.Coords, (i 0).val ≠ 0 → ¬ k0_cond1 i = 1#1 := by decide +kernel
theorem cond2_pos : ∀ i : grid0.Coords, (i 0).val < 7 → k0_cond2 i = 1#1 := by decide +kernel
theorem cond2_neg : ∀ i : grid0.Coords, (i 0).val = 7 → ¬ k0_cond2 i = 1#1 := by decide +kernel
theorem cond3_pos : ∀ i : grid0.Coords, (i 0).val = 7 → k0_cond3 i = 1#1 := by decide +kernel
theorem cond3_neg : ∀ i : grid0.Coords, (i 0).val < 7 → ¬ k0_cond3 i = 1#1 := by decide +kernel
theorem cond4_pos : ∀ i : grid0.Coords, (i 0).val = 7 → k0_cond4 i = 1#1 := by decide +kernel
theorem cond4_neg : ∀ i : grid0.Coords, (i 0).val < 7 → ¬ k0_cond4 i = 1#1 := by decide +kernel

/-! ## The offsets of a step -/

theorem off4_eq : ∀ i : grid0.Coords, (i 0).val < 7 → k0_off4 i = ![2, ((i 0).val + 1) % 2, 0] := by decide +kernel
theorem off5_eq : ∀ i : grid0.Coords, (i 0).val < 7 → k0_off5 i = ![((i 0).val + 1) % 2, 0, 0] := by decide +kernel
theorem off7_eq : ∀ i : grid0.Coords, (i 0).val < 7 → k0_off7 i = ![0, ((i 0).val + 1) % 2, 0] := by decide +kernel
theorem off8_eq : ∀ i : grid0.Coords, (i 0).val < 7 → k0_off8 i = ![((i 0).val + 1) % 2, 0, 0, 0] := by decide +kernel
theorem off10_eq : ∀ i : grid0.Coords, (i 0).val < 7 → k0_off10 i = ![1, ((i 0).val + 1) % 2, 0] := by decide +kernel
theorem off11_eq : ∀ i : grid0.Coords, (i 0).val < 7 → k0_off11 i = ![0, ((i 0).val + 1) % 2, 1] := by decide +kernel
theorem off12_eq : ∀ i : grid0.Coords, (i 0).val < 7 → k0_off12 i = ![((i 0).val + 1) % 2, 128, 0, 0] := by decide +kernel
theorem off14_eq : ∀ i : grid0.Coords, (i 0).val < 7 → k0_off14 i = ![1, ((i 0).val + 1) % 2, 1] := by decide +kernel
theorem off15_eq : ∀ i : grid0.Coords, k0_off15 i = ![2, (i 0).val % 2, 0] := by decide +kernel
theorem off16_eq : ∀ i : grid0.Coords, k0_off16 i = ![(i 0).val % 2, 0, 0] := by decide +kernel
theorem off18_eq : ∀ i : grid0.Coords, k0_off18 i = ![0, (i 0).val % 2, 0] := by decide +kernel
theorem off19_eq : ∀ i : grid0.Coords, k0_off19 i = ![(i 0).val % 2, 0, 0, 0] := by decide +kernel
theorem off21_eq : ∀ i : grid0.Coords, k0_off21 i = ![1, (i 0).val % 2, 0] := by decide +kernel
theorem off22_eq : ∀ i : grid0.Coords, k0_off22 i = ![0, (i 0).val % 2, 1] := by decide +kernel
theorem off23_eq : ∀ i : grid0.Coords, k0_off23 i = ![(i 0).val % 2, 128, 0, 0] := by decide +kernel
theorem off25_eq : ∀ i : grid0.Coords, k0_off25 i = ![1, (i 0).val % 2, 1] := by decide +kernel
theorem off26_eq : ∀ i : grid0.Coords, k0_off26 i = ![(i 0).val % 2, 0, 0] := by decide +kernel
theorem off27_eq : ∀ i : grid0.Coords, k0_off27 i = ![(i 0).val % 2, 0, 0, 0] := by decide +kernel

end Cert.Run

end
-- ==== Proof.Compute.lean ====
/- The part of a step every step has: the waits for the head's staged copies, the head's partial denominator and output, and
   the copies of both to the `y` neighbour; and the prefetch of the next head. -/
module

public import proofs.«01_k».proof.Proof.Parts

@[expose] public section

noncomputable section

namespace Cert.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.ValueIdx
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## The regions that loads and stores touch -/

theorem zero2 : (![0, 0] : Fin 2 → ℕ) = fun _ => 0 := funext fun a => by fin_cases a <;> rfl
theorem read_w (f : S32x8192.Idx → Elt F .bf16) (hi) :
    (Memref.whole cc0_scratch0 : Memref sig .tc .vmem S32x8192 .bf16).view.readAt (Elt F) (Rect.unit (s := S32x8192) ![0, 0] S32x8192.size hi).toLoadRect f = f :=
  Memref.readAt_unit_zero (Elt F) cc0_scratch0 zero2 hi f
theorem load_q_sub {off : Fin 3 → ℕ} {s : Fin 2} (ho : off = ![s.val, 0, 0]) (hi) :
    (Memref.whole cc0_scratch7 : Memref sig .tc .vmem S2x32x128 .f32).view.setOn (Rect.unit (s := S2x32x128) off S1x32x128.size hi).toLoadRect.set ⊆ qS s.val := by
  subst ho
  intro i hi'
  obtain ⟨j, hj, rfl⟩ := Finset.mem_map.mp hi'
  exact (qset s) ▸ hj
theorem kset_union (s : Fin 2) (hi) : (Rect.unit (s := S2x256x32x128) ![s.val, 0, 0, 0] S1x256x32x128.size hi).set ⊆ kS s.val (0 : Fin 2).val ∪ kS s.val (1 : Fin 2).val := by
  intro i h
  rw [Rect.mem_set_unit] at h
  have h1 : (i 1).val < 256 := (i 1).isLt
  have h0 := h 0
  simp at h0
  simp only [kS, Finset.mem_union, Finset.mem_filter, Finset.mem_univ, true_and]
  have : (i 1).val / 128 = 0 ∨ (i 1).val / 128 = 1 := by omega
  rcases this with h2 | h2
  · exact Or.inl ⟨by omega, h2⟩
  · exact Or.inr ⟨by omega, h2⟩
theorem kS_disj (s : ℕ) : Disjoint (kS s (0 : Fin 2).val) (kS s (1 : Fin 2).val) := by
  rw [Finset.disjoint_left]
  intro i h h'
  have h1 := (Finset.mem_filter.mp h).2.2
  have h2 := (Finset.mem_filter.mp h').2.2
  rw [h1] at h2; exact absurd h2 (by decide)
theorem load_k_sub {off : Fin 4 → ℕ} {s : Fin 2} (ho : off = ![s.val, 0, 0, 0]) (hi) :
    bK.view.setOn (Rect.unit (s := S2x256x32x128) off S1x256x32x128.size hi).toLoadRect.set ⊆ kS s.val (0 : Fin 2).val ∪ kS s.val (1 : Fin 2).val := by
  subst ho
  intro i hi'
  obtain ⟨j, hj, rfl⟩ := Finset.mem_map.mp hi'
  exact kset_union s hi hj
theorem load_v_sub {off : Fin 4 → ℕ} {s : Fin 2} (ho : off = ![s.val, 0, 0, 0]) (hi) :
    bV.view.setOn (Rect.unit (s := S2x256x32x128) off S1x256x32x128.size hi).toLoadRect.set ⊆ kS s.val (0 : Fin 2).val ∪ kS s.val (1 : Fin 2).val := by
  subst ho
  intro i hi'
  obtain ⟨j, hj, rfl⟩ := Finset.mem_map.mp hi'
  exact kset_union s hi hj
theorem load_l_sub {off : Fin 3 → ℕ} {h : Fin 8} (ho : off = ![h.val, 0, 0]) (hi) :
    (Memref.whole cc0_scratch2 : Memref sig .tc .vmem S8x1x32 .f32).view.setOn (Rect.unit (s := S8x1x32) off S1x1x32.size hi).toLoadRect.set ⊆ lS h.val := by
  subst ho
  intro i hi'
  obtain ⟨j, hj, rfl⟩ := Finset.mem_map.mp hi'
  exact (lset h) ▸ hj
theorem load_o_sub {off : Fin 3 → ℕ} {h : Fin 8} (ho : off = ![h.val, 0, 0]) (hi) :
    (Memref.whole cc0_scratch1 : Memref sig .tc .vmem S8x32x128 .f32).view.setOn (Rect.unit (s := S8x32x128) off S1x32x128.size hi).toLoadRect.set ⊆ hS h.val := by
  subst ho
  intro i hi'
  obtain ⟨j, hj, rfl⟩ := Finset.mem_map.mp hi'
  exact (hset h) ▸ hj
theorem store_l_sub {off : Fin 3 → ℕ} {h : Fin 8} (ho : off = ![h.val, 0, 0]) (hi) :
    ((Memref.whole cc0_scratch2 : Memref sig .tc .vmem S8x1x32 .f32).access (Rect.unit (s := S8x1x32) off S1x1x32.size hi)).setOn Finset.univ ⊆ lS h.val := by
  subst ho
  exact (((View.set_slice_whole cc0_scratch2 _).trans (lset h)).le)
theorem store_o_sub {off : Fin 3 → ℕ} {h : Fin 8} (ho : off = ![h.val, 0, 0]) (hi) :
    ((Memref.whole cc0_scratch1 : Memref sig .tc .vmem S8x32x128 .f32).access (Rect.unit (s := S8x32x128) off S1x32x128.size hi)).setOn Finset.univ ⊆ hS h.val := by
  subst ho
  exact (((View.set_slice_whole cc0_scratch1 _).trans (hset h)).le)

/-! ## The prefetch -/

/-- The first copy of the prefetch, of the next head's query. -/
theorem part4 (i : grid0.Coords) (t : ℕ) (hi : (i 0).val = t) (ht : t < 7) (c : Dev nD) (a v : BitVec 32) (h2) {Q : PUnit → sProp 𝕄} :
    qI m c (fs (t + 1)) ⊢ iprop((qF m c (fs (t + 1)) (fh (t + 1)) -∗ Q ⟨⟩) -∗ WP c (p4 i a c v h2) Q) := by
  unfold p4
  rw [k0_part4_eq_skeleton]
  unfold k0_part4_skel
  simp only [Prog.lift, Prog.bind_op, Prog.bind_ret, Prog.pure_eq_ret]
  have hv : (fh (t + 1)).val = t + 1 := fh_val (by omega)
  iintro Hq HQ
  iapply (step_q m c (fs (t + 1)) (fh (t + 1)) (cp_sem 2 (fs (t + 1)) 0 ((off4_eq i (by omega)).trans (by rw [hi]; rfl)) _)
    (qG_eq c (fh (t + 1)) ((k0_off6_eq i c).trans (by rw [hi, hv]; rfl))) (qM_eq (fs (t + 1)) ((off5_eq i (by omega)).trans (by rw [hi]; rfl)))) $$ [Hq]
  · iexact Hq
  iintro Hq
  iapply WP_ret
  iapply HQ; iexact Hq

/-! ## The waits and the head's values -/

theorem part18 (i : grid0.Coords) (t : ℕ) (hi : (i 0).val = t) (c : Dev nD) (O : CellTallies nD τ sig Unit) (hO : Above 0 O) (a v w : BitVec 32) {Q : PUnit → sProp 𝕄} :
    iprop(levAts L lv ∗ Ow c O ∗ qF m c (fs t) (fh t) ∗ kF m c (fs t) 0 (fh t) ∗ vF m c (fs t) 0 (fh t))
      ⊢ iprop(((Ow c O ∗ qD m c (fs t) (fh t) ∗ kD m c (fs t) 0 (fh t) ∗ vD m c (fs t) 0 (fh t)) -∗ Q ⟨⟩) -∗ WP c (p18 i a c v w) Q) := by
  unfold p18
  rw [k0_part18_eq_skeleton]
  unfold k0_part18_skel
  simp only [Prog.lift, Prog.bind_op, Prog.bind_ret, Prog.pure_eq_ret]
  iintro ⟨#Hlev, HO, Hq, Hk, Hv⟩ HQ
  iapply (got_q m c (fs t) (fh t) O hO (cp_sem 2 (fs t) 0 ((off15_eq i).trans (by rw [hi]; rfl)) _) (qM_eq (fs t) ((off16_eq i).trans (by rw [hi]; rfl)))) $$ [HO Hq]
  · isplitr; · iexact Hlev
    isplitl [HO] <;> iassumption
  iintro ⟨HO, Hq⟩
  iapply (got_k m c (fs t) 0 (fh t) O hO (cp_sem 0 (fs t) 0 ((off18_eq i).trans (by rw [hi]; rfl)) _) (kM_eq bK (fs t) 0 ((off19_eq i).trans (by rw [hi]; rfl)))) $$ [HO Hk]
  · isplitr; · iexact Hlev
    isplitl [HO] <;> iassumption
  iintro ⟨HO, Hk⟩
  iapply (got_v m c (fs t) 0 (fh t) O hO (cp_sem 1 (fs t) 0 ((off21_eq i).trans (by rw [hi]; rfl)) _) (kM_eq bV (fs t) 0 ((off19_eq i).trans (by rw [hi]; rfl)))) $$ [HO Hv]
  · isplitr; · iexact Hlev
    isplitl [HO] <;> iassumption
  iintro ⟨HO, Hv⟩
  iapply WP_ret
  iapply HQ
  isplitl [HO]; · iexact HO
  isplitl [Hq]; · iexact Hq
  isplitl [Hk] <;> iassumption

theorem part19 (i : grid0.Coords) (t : ℕ) (hi : (i 0).val = t) (c : Dev nD) (O : CellTallies nD τ sig Unit) (hO : Above 0 O) (a : BitVec 32)
    {Q : (Σ' (v82 : FVec F S32x128 .f32) (v85 : BitVec 32) (v90 : BitVec 1), BitVec 32) → sProp 𝕄} :
    iprop(levAts L lv ∗ Ow c O ∗ qD m c (fs t) (fh t) ∗ kF m c (fs t) 1 (fh t) ∗ vF m c (fs t) 1 (fh t))
      ⊢ iprop((∀ x y z, (Ow c O ∗ qD m c (fs t) (fh t) ∗ kD m c (fs t) 1 (fh t) ∗ vD m c (fs t) 1 (fh t))
          -∗ Q ⟨k0_pay10 (qV (qA m c) c (fh t)), x, y, z⟩) -∗ WP c (p19 i a c) Q) := by
  unfold p19
  rw [k0_part19_eq_skeleton]
  unfold k0_part19_skel
  simp only [Prog.lift, Prog.bind_op, Prog.bind_ret, Prog.pure_eq_ret]
  iintro ⟨#Hlev, HO, Hq, Hk, Hv⟩ HQ
  iapply (got_k m c (fs t) 1 (fh t) O hO (cp_sem 0 (fs t) 1 ((off22_eq i).trans (by rw [hi]; rfl)) _) (kM_eq bK (fs t) 1 ((off23_eq i).trans (by rw [hi]; rfl)))) $$ [HO Hk]
  · isplitr; · iexact Hlev
    isplitl [HO] <;> iassumption
  iintro ⟨HO, Hk⟩
  iapply (got_v m c (fs t) 1 (fh t) O hO (cp_sem 1 (fs t) 1 ((off25_eq i).trans (by rw [hi]; rfl)) _) (kM_eq bV (fs t) 1 ((off23_eq i).trans (by rw [hi]; rfl)))) $$ [HO Hv]
  · isplitr; · iexact Hlev
    isplitl [HO] <;> iassumption
  iintro ⟨HO, Hv⟩
  unfold qD
  icases Hq with ⟨Hs, Hq, Ht⟩
  have ho : k0_off26 i = ![(fs t).val, 0, 0] := (off26_eq i).trans (by rw [hi]; rfl)
  iapply (wp_load 𝒱₀ (c : Thread nD τ) none Set.univ (m := (Memref.whole cc0_scratch7 : Memref sig .tc .vmem S2x32x128 .f32)) (S := qS (fs t).val) (load_q_sub ho _)) $$ [Hq]
  · unfold qP; iexact Hq
  iintro Hq
  rw [read_q (qA m c) c (fh t) (fs t) ho]
  iapply WP_ret
  iapply HQ
  isplitl [HO]; · iexact HO
  isplitl [Hs Hq Ht]
  · isplitl [Hs]; · iexact Hs
    isplitl [Hq]; · unfold qP; iexact Hq
    iexact Ht
  isplitl [Hk] <;> iassumption

theorem part20 (i : grid0.Coords) (t : ℕ) (hi : (i 0).val = t) (c : Dev nD) (a : BitVec 32) (x : BitVec 32) (y : BitVec 1) (z : BitVec 32) {Q : BitVec 32 → sProp 𝕄} :
    iprop(kD m c (fs t) 0 (fh t) ∗ kD m c (fs t) 1 (fh t) ∗ vD m c (fs t) 0 (fh t) ∗ vD m c (fs t) 1 (fh t)
        ∗ (((c : Thread nD τ).loc cc0_scratch0) ↦{fullShare} wkC m c) ∗ (∃ f, pAl c (fh t).val f) ∗ (∃ f, pAo c (fh t).val f))
      ⊢ iprop((∀ r, (kD m c (fs t) 0 (fh t) ∗ kD m c (fs t) 1 (fh t) ∗ vD m c (fs t) 0 (fh t) ∗ vD m c (fs t) 1 (fh t)
        ∗ (((c : Thread nD τ).loc cc0_scratch0) ↦{fullShare} wkC m c) ∗ pAl c (fh t).val (aL m c) ∗ pAo c (fh t).val (aO m c)) -∗ Q r)
        -∗ WP c (p20 i a (k0_pay10 (qV (qA m c) c (fh t))) x y z) Q) := by
  unfold p20
  rw [k0_part20_eq_skeleton]
  unfold k0_part20_skel
  simp only [Prog.lift, Prog.bind_op, Prog.bind_ret, Prog.pure_eq_ret]
  have ht : t < 8 := by rw [← hi]; exact (i 0).isLt
  have hv : (fh t).val = t := fh_val ht
  have ho : k0_off27 i = ![(fs t).val, 0, 0, 0] := (off27_eq i).trans (by rw [hi]; rfl)
  have hl : k0_off28 i = ![(fh t).val, 0, 0] := (k0_off28_eq i).trans (by rw [hi, hv])
  have hoo : k0_off29 i = ![(fh t).val, 0, 0] := (k0_off29_eq i).trans (by rw [hi, hv])
  unfold kD vD kP vP pAl pAo
  iintro ⟨⟨Hk0s, Hk0, Hk0t⟩, ⟨Hk1s, Hk1, Hk1t⟩, ⟨Hv0s, Hv0, Hv0t⟩, ⟨Hv1s, Hv1, Hv1t⟩, Hw, ⟨%fl, Hl⟩, ⟨%fo, Ho⟩⟩ HQ
  ihave Hk := (pointsTo_union (ℓ := (c : Thread nD τ).loc cc0_scratch8) (kS_disj (fs t).val)).2 $$ [Hk0 Hk1]
  · isplitl [Hk0] <;> iassumption
  ihave Hv := (pointsTo_union (ℓ := (c : Thread nD τ).loc cc0_scratch9) (kS_disj (fs t).val)).2 $$ [Hv0 Hv1]
  · isplitl [Hv0] <;> iassumption
  iapply (wp_load 𝒱₀ (c : Thread nD τ) none Set.univ (m := bK) (load_k_sub ho _)) $$ [Hk]
  · iexact Hk
  iintro Hk
  rw [read_k (kA m c) c (fh t) (fs t) ho]
  iapply (wp_load 𝒱₀ (c : Thread nD τ) none Set.univ (m := bV) (load_v_sub ho _)) $$ [Hv]
  · iexact Hv
  iintro Hv
  rw [read_v (vA m c) c (fh t) (fs t) ho]
  iapply (wp_load 𝒱₀ (c : Thread nD τ) none Set.univ (m := (Memref.whole cc0_scratch0 : Memref sig .tc .vmem S32x8192 .bf16)) (Finset.subset_univ _)) $$ [Hw]
  · iexact Hw
  iintro Hw
  rw [read_w]
  iapply (wp_load 𝒱₀ (c : Thread nD τ) none Set.univ (m := (Memref.whole cc0_scratch2 : Memref sig .tc .vmem S8x1x32 .f32)) (load_l_sub hl _)) $$ [Hl]
  · iexact Hl
  iintro Hl
  iapply (wp_store 𝒱₀ (c : Thread nD τ) none Set.univ (m := (Memref.whole cc0_scratch2 : Memref sig .tc .vmem S8x1x32 .f32)) (Mk := Finset.univ) (store_l_sub hl _)) $$ [Hl]
  · iexact Hl
  iintro Hl
  ihave Hl := (Entails.of_eq (pointsTo_congr (store_l m c (fh t) hl _ fl))) $$ Hl
  iapply (wp_load 𝒱₀ (c : Thread nD τ) none Set.univ (m := (Memref.whole cc0_scratch1 : Memref sig .tc .vmem S8x32x128 .f32)) (load_o_sub hoo _)) $$ [Ho]
  · iexact Ho
  iintro Ho
  iapply (wp_store 𝒱₀ (c : Thread nD τ) none Set.univ (m := (Memref.whole cc0_scratch1 : Memref sig .tc .vmem S8x32x128 .f32)) (Mk := Finset.univ) (store_o_sub hoo _)) $$ [Ho]
  · iexact Ho
  iintro Ho
  ihave Ho := (Entails.of_eq (pointsTo_congr (store_o m c (fh t) hoo _ fo))) $$ Ho
  ihave Hk := (pointsTo_union (ℓ := (c : Thread nD τ).loc cc0_scratch8) (kS_disj (fs t).val)).1 $$ Hk
  icases Hk with ⟨Hk0, Hk1⟩
  ihave Hv := (pointsTo_union (ℓ := (c : Thread nD τ).loc cc0_scratch9) (kS_disj (fs t).val)).1 $$ Hv
  icases Hv with ⟨Hv0, Hv1⟩
  iapply WP_ret
  iapply HQ
  isplitl [Hk0s Hk0 Hk0t]
  · isplitl [Hk0s]; · iexact Hk0s
    isplitl [Hk0] <;> iassumption
  isplitl [Hk1s Hk1 Hk1t]
  · isplitl [Hk1s]; · iexact Hk1s
    isplitl [Hk1] <;> iassumption
  isplitl [Hv0s Hv0 Hv0t]
  · isplitl [Hv0s]; · iexact Hv0s
    isplitl [Hv0] <;> iassumption
  isplitl [Hv1s Hv1 Hv1t]
  · isplitl [Hv1s]; · iexact Hv1s
    isplitl [Hv1] <;> iassumption
  isplitl [Hw]; · iexact Hw
  isplitl [Hl] <;> iassumption

end Cert.Run

end
-- ==== Proof.Waits.lean ====
/- The waits for the heads' copies, part by part of the kernel's body. -/
module

public import proofs.«01_k».proof.Proof.Compute

@[expose] public section

noncomputable section

namespace Cert.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.ValueIdx
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## The heads' semaphores by their place in the arrays -/

theorem yoS_sem (h : Fin 8) {off : Fin 1 → ℕ} (ho : off = ![h.val]) (hi) :
    ((cc0_scratch11.slice (Rect.unit (s := S8) off S1.size hi)).squeeze S_ squeezes_S1_S_).sem = yoS h := by
  subst ho; revert h; decide
theorem yoR_sem (h : Fin 8) {off : Fin 1 → ℕ} (ho : off = ![h.val]) (hi) :
    ((cc0_scratch12.slice (Rect.unit (s := S8) off S1.size hi)).squeeze S_ squeezes_S1_S_).sem = yoR h := by
  subst ho; revert h; decide
theorem ylS_sem (h : Fin 8) {off : Fin 1 → ℕ} (ho : off = ![h.val]) (hi) :
    ((cc0_scratch13.slice (Rect.unit (s := S8) off S1.size hi)).squeeze S_ squeezes_S1_S_).sem = ylS h := by
  subst ho; revert h; decide
theorem ylR_sem (h : Fin 8) {off : Fin 1 → ℕ} (ho : off = ![h.val]) (hi) :
    ((cc0_scratch14.slice (Rect.unit (s := S8) off S1.size hi)).squeeze S_ squeezes_S1_S_).sem = ylR h := by
  subst ho; revert h; decide
theorem xsS_sem (w : Fin 2) {off : Fin 1 → ℕ} (ho : off = ![w.val]) (hi) :
    ((cc0_scratch15.slice (Rect.unit (s := S2) off S1.size hi)).squeeze S_ squeezes_S1_S_).sem = xsS w := by
  subst ho; revert w; decide
theorem xsR_sem (w : Fin 2) {off : Fin 1 → ℕ} (ho : off = ![w.val]) (hi) :
    ((cc0_scratch16.slice (Rect.unit (s := S2) off S1.size hi)).squeeze S_ squeezes_S1_S_).sem = xsR w := by
  subst ho; revert w; decide

/-! ## The waits -/

theorem part5 (i : grid0.Coords) (c : Dev nD) (O : CellTallies nD τ sig Unit) (hO : Above 8 O) (v w : BitVec 32) {Q : BitVec 32 → sProp 𝕄} :
    iprop(recs m ∗ levAts L lv ∗ Ow c O ∗ Wt c (yoS 0) ∗ Wt c (yoR 0) ∗ Wt c (ylS 0))
      ⊢ iprop((∀ r, (Ow c O ∗ Dn m c (yoS 0) ∗ Dn m c (yoR 0) ∗ Dn m c (ylS 0)) -∗ Q r) -∗ WP c (p5 i v w) Q) := by
  unfold p5
  rw [k0_part5_eq_skeleton]
  unfold k0_part5_skel
  simp only [Prog.lift, Prog.bind_op, Prog.bind_ret, Prog.pure_eq_ret]
  iintro ⟨#HR, #Hlev, HO, WyoS0, WyoR0, WylS0⟩ HQ
  iapply (step_wt m c (yoS 0) (by decide) O (hO.mono (by rw [lv_yoS]; decide)) (yoS_sem 0 rfl _)
    (dstw := hM (Memref.whole cc0_scratch1) 0) (by rw [amt_yoS])) $$ [HO WyoS0]
  · isplitr; · iexact HR
    isplitr; · iexact Hlev
    isplitl [HO] <;> iassumption
  iintro ⟨HO, DyoS0⟩
  iapply (step_wt m c (yoR 0) (by decide) O (hO.mono (by rw [lv_yoR]; decide)) (yoR_sem 0 rfl _)
    (dstw := hM (Memref.whole cc0_scratch3) 0) (by rw [amt_yoR])) $$ [HO WyoR0]
  · isplitr; · iexact HR
    isplitr; · iexact Hlev
    isplitl [HO] <;> iassumption
  iintro ⟨HO, DyoR0⟩
  iapply (step_wt m c (ylS 0) (by decide) O (hO.mono (by rw [lv_ylS]; decide)) (ylS_sem 0 rfl _)
    (dstw := lM (Memref.whole cc0_scratch2) 0) (by rw [amt_ylS])) $$ [HO WylS0]
  · isplitr; · iexact HR
    isplitr; · iexact Hlev
    isplitl [HO] <;> iassumption
  iintro ⟨HO, DylS0⟩
  iapply WP_ret
  iapply HQ
  isplitl [HO]; · iexact HO
  isplitl [DyoS0]; · iexact DyoS0
  isplitl [DyoR0]; · iexact DyoR0
  iexact DylS0

theorem part6 (i : grid0.Coords) (c : Dev nD) (O : CellTallies nD τ sig Unit) (hO : Above 8 O) (v w x : BitVec 32) {Q : PUnit → sProp 𝕄} :
    iprop(recs m ∗ levAts L lv ∗ Ow c O ∗ Wt c (ylR 0) ∗ Wt c (yoS 1) ∗ Wt c (yoR 1))
      ⊢ iprop(((Ow c O ∗ Dn m c (ylR 0) ∗ Dn m c (yoS 1) ∗ Dn m c (yoR 1)) -∗ Q ⟨⟩) -∗ WP c (p6 i v w x) Q) := by
  unfold p6
  rw [k0_part6_eq_skeleton]
  unfold k0_part6_skel
  simp only [Prog.lift, Prog.bind_op, Prog.bind_ret, Prog.pure_eq_ret]
  iintro ⟨#HR, #Hlev, HO, WylR0, WyoS1, WyoR1⟩ HQ
  iapply (step_wt m c (ylR 0) (by decide) O (hO.mono (by rw [lv_ylR]; decide)) (ylR_sem 0 rfl _)
    (dstw := lM (Memref.whole cc0_scratch4) 0) (by rw [amt_ylR])) $$ [HO WylR0]
  · isplitr; · iexact HR
    isplitr; · iexact Hlev
    isplitl [HO] <;> iassumption
  iintro ⟨HO, DylR0⟩
  iapply (step_wt m c (yoS 1) (by decide) O (hO.mono (by rw [lv_yoS]; decide)) (yoS_sem 1 rfl _)
    (dstw := hM (Memref.whole cc0_scratch1) 1) (by rw [amt_yoS])) $$ [HO WyoS1]
  · isplitr; · iexact HR
    isplitr; · iexact Hlev
    isplitl [HO] <;> iassumption
  iintro ⟨HO, DyoS1⟩
  iapply (step_wt m c (yoR 1) (by decide) O (hO.mono (by rw [lv_yoR]; decide)) (yoR_sem 1 rfl _)
    (dstw := hM (Memref.whole cc0_scratch3) 1) (by rw [amt_yoR])) $$ [HO WyoR1]
  · isplitr; · iexact HR
    isplitr; · iexact Hlev
    isplitl [HO] <;> iassumption
  iintro ⟨HO, DyoR1⟩
  iapply WP_ret
  iapply HQ
  isplitl [HO]; · iexact HO
  isplitl [DylR0]; · iexact DylR0
  isplitl [DyoS1]; · iexact DyoS1
  iexact DyoR1

theorem part7 (i : grid0.Coords) (c : Dev nD) (O : CellTallies nD τ sig Unit) (hO : Above 8 O) (v w : BitVec 32) {Q : PUnit → sProp 𝕄} :
    iprop(recs m ∗ levAts L lv ∗ Ow c O ∗ Wt c (ylS 1) ∗ Wt c (ylR 1) ∗ Wt c (yoS 2))
      ⊢ iprop(((Ow c O ∗ Dn m c (ylS 1) ∗ Dn m c (ylR 1) ∗ Dn m c (yoS 2)) -∗ Q ⟨⟩) -∗ WP c (p7 i v w) Q) := by
  unfold p7
  rw [k0_part7_eq_skeleton]
  unfold k0_part7_skel
  simp only [Prog.lift, Prog.bind_op, Prog.bind_ret, Prog.pure_eq_ret]
  iintro ⟨#HR, #Hlev, HO, WylS1, WylR1, WyoS2⟩ HQ
  iapply (step_wt m c (ylS 1) (by decide) O (hO.mono (by rw [lv_ylS]; decide)) (ylS_sem 1 rfl _)
    (dstw := lM (Memref.whole cc0_scratch2) 1) (by rw [amt_ylS])) $$ [HO WylS1]
  · isplitr; · iexact HR
    isplitr; · iexact Hlev
    isplitl [HO] <;> iassumption
  iintro ⟨HO, DylS1⟩
  iapply (step_wt m c (ylR 1) (by decide) O (hO.mono (by rw [lv_ylR]; decide)) (ylR_sem 1 rfl _)
    (dstw := lM (Memref.whole cc0_scratch4) 1) (by rw [amt_ylR])) $$ [HO WylR1]
  · isplitr; · iexact HR
    isplitr; · iexact Hlev
    isplitl [HO] <;> iassumption
  iintro ⟨HO, DylR1⟩
  iapply (step_wt m c (yoS 2) (by decide) O (hO.mono (by rw [lv_yoS]; decide)) (yoS_sem 2 rfl _)
    (dstw := hM (Memref.whole cc0_scratch1) 2) (by rw [amt_yoS])) $$ [HO WyoS2]
  · isplitr; · iexact HR
    isplitr; · iexact Hlev
    isplitl [HO] <;> iassumption
  iintro ⟨HO, DyoS2⟩
  iapply WP_ret
  iapply HQ
  isplitl [HO]; · iexact HO
  isplitl [DylS1]; · iexact DylS1
  isplitl [DylR1]; · iexact DylR1
  iexact DyoS2

theorem part8 (i : grid0.Coords) (c : Dev nD) (O : CellTallies nD τ sig Unit) (hO : Above 8 O) (v w : BitVec 32) {Q : PUnit → sProp 𝕄} :
    iprop(recs m ∗ levAts L lv ∗ Ow c O ∗ Wt c (yoR 2) ∗ Wt c (ylS 2) ∗ Wt c (ylR 2))
      ⊢ iprop(((Ow c O ∗ Dn m c (yoR 2) ∗ Dn m c (ylS 2) ∗ Dn m c (ylR 2)) -∗ Q ⟨⟩) -∗ WP c (p8 i v w) Q) := by
  unfold p8
  rw [k0_part8_eq_skeleton]
  unfold k0_part8_skel
  simp only [Prog.lift, Prog.bind_op, Prog.bind_ret, Prog.pure_eq_ret]
  iintro ⟨#HR, #Hlev, HO, WyoR2, WylS2, WylR2⟩ HQ
  iapply (step_wt m c (yoR 2) (by decide) O (hO.mono (by rw [lv_yoR]; decide)) (yoR_sem 2 rfl _)
    (dstw := hM (Memref.whole cc0_scratch3) 2) (by rw [amt_yoR])) $$ [HO WyoR2]
  · isplitr; · iexact HR
    isplitr; · iexact Hlev
    isplitl [HO] <;> iassumption
  iintro ⟨HO, DyoR2⟩
  iapply (step_wt m c (ylS 2) (by decide) O (hO.mono (by rw [lv_ylS]; decide)) (ylS_sem 2 rfl _)
    (dstw := lM (Memref.whole cc0_scratch2) 2) (by rw [amt_ylS])) $$ [HO WylS2]
  · isplitr; · iexact HR
    isplitr; · iexact Hlev
    isplitl [HO] <;> iassumption
  iintro ⟨HO, DylS2⟩
  iapply (step_wt m c (ylR 2) (by decide) O (hO.mono (by rw [lv_ylR]; decide)) (ylR_sem 2 rfl _)
    (dstw := lM (Memref.whole cc0_scratch4) 2) (by rw [amt_ylR])) $$ [HO WylR2]
  · isplitr; · iexact HR
    isplitr; · iexact Hlev
    isplitl [HO] <;> iassumption
  iintro ⟨HO, DylR2⟩
  iapply WP_ret
  iapply HQ
  isplitl [HO]; · iexact HO
  isplitl [DyoR2]; · iexact DyoR2
  isplitl [DylS2]; · iexact DylS2
  iexact DylR2

theorem part9 (i : grid0.Coords) (c : Dev nD) (O : CellTallies nD τ sig Unit) (hO : Above 8 O) (v w : BitVec 32) {Q : PUnit → sProp 𝕄} :
    iprop(recs m ∗ levAts L lv ∗ Ow c O ∗ Wt c (yoS 3) ∗ Wt c (yoR 3) ∗ Wt c (ylS 3))
      ⊢ iprop(((Ow c O ∗ Dn m c (yoS 3) ∗ Dn m c (yoR 3) ∗ Dn m c (ylS 3)) -∗ Q ⟨⟩) -∗ WP c (p9 i v w) Q) := by
  unfold p9
  rw [k0_part9_eq_skeleton]
  unfold k0_part9_skel
  simp only [Prog.lift, Prog.bind_op, Prog.bind_ret, Prog.pure_eq_ret]
  iintro ⟨#HR, #Hlev, HO, WyoS3, WyoR3, WylS3⟩ HQ
  iapply (step_wt m c (yoS 3) (by decide) O (hO.mono (by rw [lv_yoS]; decide)) (yoS_sem 3 rfl _)
    (dstw := hM (Memref.whole cc0_scratch1) 3) (by rw [amt_yoS])) $$ [HO WyoS3]
  · isplitr; · iexact HR
    isplitr; · iexact Hlev
    isplitl [HO] <;> iassumption
  iintro ⟨HO, DyoS3⟩
  iapply (step_wt m c (yoR 3) (by decide) O (hO.mono (by rw [lv_yoR]; decide)) (yoR_sem 3 rfl _)
    (dstw := hM (Memref.whole cc0_scratch3) 3) (by rw [amt_yoR])) $$ [HO WyoR3]
  · isplitr; · iexact HR
    isplitr; · iexact Hlev
    isplitl [HO] <;> iassumption
  iintro ⟨HO, DyoR3⟩
  iapply (step_wt m c (ylS 3) (by decide) O (hO.mono (by rw [lv_ylS]; decide)) (ylS_sem 3 rfl _)
    (dstw := lM (Memref.whole cc0_scratch2) 3) (by rw [amt_ylS])) $$ [HO WylS3]
  · isplitr; · iexact HR
    isplitr; · iexact Hlev
    isplitl [HO] <;> iassumption
  iintro ⟨HO, DylS3⟩
  iapply WP_ret
  iapply HQ
  isplitl [HO]; · iexact HO
  isplitl [DyoS3]; · iexact DyoS3
  isplitl [DyoR3]; · iexact DyoR3
  iexact DylS3

theorem part10 (i : grid0.Coords) (c : Dev nD) (O : CellTallies nD τ sig Unit) (hO : Above 8 O) (v w : BitVec 32) {Q : PUnit → sProp 𝕄} :
    iprop(recs m ∗ levAts L lv ∗ Ow c O ∗ Wt c (ylR 3) ∗ Wt c (yoS 4) ∗ Wt c (yoR 4) ∗ Wt c (ylS 4))
      ⊢ iprop(((Ow c O ∗ Dn m c (ylR 3) ∗ Dn m c (yoS 4) ∗ Dn m c (yoR 4) ∗ Dn m c (ylS 4)) -∗ Q ⟨⟩) -∗ WP c (p10 i v w) Q) := by
  unfold p10
  rw [k0_part10_eq_skeleton]
  unfold k0_part10_skel
  simp only [Prog.lift, Prog.bind_op, Prog.bind_ret, Prog.pure_eq_ret]
  iintro ⟨#HR, #Hlev, HO, WylR3, WyoS4, WyoR4, WylS4⟩ HQ
  iapply (step_wt m c (ylR 3) (by decide) O (hO.mono (by rw [lv_ylR]; decide)) (ylR_sem 3 rfl _)
    (dstw := lM (Memref.whole cc0_scratch4) 3) (by rw [amt_ylR])) $$ [HO WylR3]
  · isplitr; · iexact HR
    isplitr; · iexact Hlev
    isplitl [HO] <;> iassumption
  iintro ⟨HO, DylR3⟩
  iapply (step_wt m c (yoS 4) (by decide) O (hO.mono (by rw [lv_yoS]; decide)) (yoS_sem 4 rfl _)
    (dstw := hM (Memref.whole cc0_scratch1) 4) (by rw [amt_yoS])) $$ [HO WyoS4]
  · isplitr; · iexact HR
    isplitr; · iexact Hlev
    isplitl [HO] <;> iassumption
  iintro ⟨HO, DyoS4⟩
  iapply (step_wt m c (yoR 4) (by decide) O (hO.mono (by rw [lv_yoR]; decide)) (yoR_sem 4 rfl _)
    (dstw := hM (Memref.whole cc0_scratch3) 4) (by rw [amt_yoR])) $$ [HO WyoR4]
  · isplitr; · iexact HR
    isplitr; · iexact Hlev
    isplitl [HO] <;> iassumption
  iintro ⟨HO, DyoR4⟩
  iapply (step_wt m c (ylS 4) (by decide) O (hO.mono (by rw [lv_ylS]; decide)) (ylS_sem 4 rfl _)
    (dstw := lM (Memref.whole cc0_scratch2) 4) (by rw [amt_ylS])) $$ [HO WylS4]
  · isplitr; · iexact HR
    isplitr; · iexact Hlev
    isplitl [HO] <;> iassumption
  iintro ⟨HO, DylS4⟩
  iapply WP_ret
  iapply HQ
  isplitl [HO]; · iexact HO
  isplitl [DylR3]; · iexact DylR3
  isplitl [DyoS4]; · iexact DyoS4
  isplitl [DyoR4]; · iexact DyoR4
  iexact DylS4

theorem part11 (i : grid0.Coords) (c : Dev nD) (O : CellTallies nD τ sig Unit) (hO : Above 8 O) (v w : BitVec 32) {Q : PUnit → sProp 𝕄} :
    iprop(recs m ∗ levAts L lv ∗ Ow c O ∗ Wt c (ylR 4) ∗ Wt c (yoS 5) ∗ Wt c (yoR 5))
      ⊢ iprop(((Ow c O ∗ Dn m c (ylR 4) ∗ Dn m c (yoS 5) ∗ Dn m c (yoR 5)) -∗ Q ⟨⟩) -∗ WP c (p11 i v w) Q) := by
  unfold p11
  rw [k0_part11_eq_skeleton]
  unfold k0_part11_skel
  simp only [Prog.lift, Prog.bind_op, Prog.bind_ret, Prog.pure_eq_ret]
  iintro ⟨#HR, #Hlev, HO, WylR4, WyoS5, WyoR5⟩ HQ
  iapply (step_wt m c (ylR 4) (by decide) O (hO.mono (by rw [lv_ylR]; decide)) (ylR_sem 4 rfl _)
    (dstw := lM (Memref.whole cc0_scratch4) 4) (by rw [amt_ylR])) $$ [HO WylR4]
  · isplitr; · iexact HR
    isplitr; · iexact Hlev
    isplitl [HO] <;> iassumption
  iintro ⟨HO, DylR4⟩
  iapply (step_wt m c (yoS 5) (by decide) O (hO.mono (by rw [lv_yoS]; decide)) (yoS_sem 5 rfl _)
    (dstw := hM (Memref.whole cc0_scratch1) 5) (by rw [amt_yoS])) $$ [HO WyoS5]
  · isplitr; · iexact HR
    isplitr; · iexact Hlev
    isplitl [HO] <;> iassumption
  iintro ⟨HO, DyoS5⟩
  iapply (step_wt m c (yoR 5) (by decide) O (hO.mono (by rw [lv_yoR]; decide)) (yoR_sem 5 rfl _)
    (dstw := hM (Memref.whole cc0_scratch3) 5) (by rw [amt_yoR])) $$ [HO WyoR5]
  · isplitr; · iexact HR
    isplitr; · iexact Hlev
    isplitl [HO] <;> iassumption
  iintro ⟨HO, DyoR5⟩
  iapply WP_ret
  iapply HQ
  isplitl [HO]; · iexact HO
  isplitl [DylR4]; · iexact DylR4
  isplitl [DyoS5]; · iexact DyoS5
  iexact DyoR5

theorem part12 (i : grid0.Coords) (c : Dev nD) (O : CellTallies nD τ sig Unit) (hO : Above 8 O) (v w : BitVec 32) {Q : BitVec 32 → sProp 𝕄} :
    iprop(recs m ∗ levAts L lv ∗ Ow c O ∗ Wt c (ylS 5) ∗ Wt c (ylR 5) ∗ Wt c (yoS 6))
      ⊢ iprop((∀ r, (Ow c O ∗ Dn m c (ylS 5) ∗ Dn m c (ylR 5) ∗ Dn m c (yoS 6)) -∗ Q r) -∗ WP c (p12 i v w) Q) := by
  unfold p12
  rw [k0_part12_eq_skeleton]
  unfold k0_part12_skel
  simp only [Prog.lift, Prog.bind_op, Prog.bind_ret, Prog.pure_eq_ret]
  iintro ⟨#HR, #Hlev, HO, WylS5, WylR5, WyoS6⟩ HQ
  iapply (step_wt m c (ylS 5) (by decide) O (hO.mono (by rw [lv_ylS]; decide)) (ylS_sem 5 rfl _)
    (dstw := lM (Memref.whole cc0_scratch2) 5) (by rw [amt_ylS])) $$ [HO WylS5]
  · isplitr; · iexact HR
    isplitr; · iexact Hlev
    isplitl [HO] <;> iassumption
  iintro ⟨HO, DylS5⟩
  iapply (step_wt m c (ylR 5) (by decide) O (hO.mono (by rw [lv_ylR]; decide)) (ylR_sem 5 rfl _)
    (dstw := lM (Memref.whole cc0_scratch4) 5) (by rw [amt_ylR])) $$ [HO WylR5]
  · isplitr; · iexact HR
    isplitr; · iexact Hlev
    isplitl [HO] <;> iassumption
  iintro ⟨HO, DylR5⟩
  iapply (step_wt m c (yoS 6) (by decide) O (hO.mono (by rw [lv_yoS]; decide)) (yoS_sem 6 rfl _)
    (dstw := hM (Memref.whole cc0_scratch1) 6) (by rw [amt_yoS])) $$ [HO WyoS6]
  · isplitr; · iexact HR
    isplitr; · iexact Hlev
    isplitl [HO] <;> iassumption
  iintro ⟨HO, DyoS6⟩
  iapply WP_ret
  iapply HQ
  isplitl [HO]; · iexact HO
  isplitl [DylS5]; · iexact DylS5
  isplitl [DylR5]; · iexact DylR5
  iexact DyoS6

theorem part14 (i : grid0.Coords) (c : Dev nD) (O : CellTallies nD τ sig Unit) (hO : Above 9 O) (v w : BitVec 32) {Q : BitVec 32 → sProp 𝕄} :
    iprop(recs m ∗ levAts L lv ∗ Ow c O ∗ Wt c (yoS 7) ∗ Wt c (yoR 7) ∗ Wt c (ylS 7))
      ⊢ iprop((∀ r, (Ow c O ∗ Dn m c (yoS 7) ∗ Dn m c (yoR 7) ∗ Dn m c (ylS 7)) -∗ Q r) -∗ WP c (p14 i v w) Q) := by
  unfold p14
  rw [k0_part14_eq_skeleton]
  unfold k0_part14_skel
  simp only [Prog.lift, Prog.bind_op, Prog.bind_ret, Prog.pure_eq_ret]
  iintro ⟨#HR, #Hlev, HO, WyoS7, WyoR7, WylS7⟩ HQ
  iapply (step_wt m c (yoS 7) (by decide) O (hO.mono (by rw [lv_yoS]; decide)) (yoS_sem 7 rfl _)
    (dstw := hM (Memref.whole cc0_scratch1) 7) (by rw [amt_yoS])) $$ [HO WyoS7]
  · isplitr; · iexact HR
    isplitr; · iexact Hlev
    isplitl [HO] <;> iassumption
  iintro ⟨HO, DyoS7⟩
  iapply (step_wt m c (yoR 7) (by decide) O (hO.mono (by rw [lv_yoR]; decide)) (yoR_sem 7 rfl _)
    (dstw := hM (Memref.whole cc0_scratch3) 7) (by rw [amt_yoR])) $$ [HO WyoR7]
  · isplitr; · iexact HR
    isplitr; · iexact Hlev
    isplitl [HO] <;> iassumption
  iintro ⟨HO, DyoR7⟩
  iapply (step_wt m c (ylS 7) (by decide) O (hO.mono (by rw [lv_ylS]; decide)) (ylS_sem 7 rfl _)
    (dstw := lM (Memref.whole cc0_scratch2) 7) (by rw [amt_ylS])) $$ [HO WylS7]
  · isplitr; · iexact HR
    isplitr; · iexact Hlev
    isplitl [HO] <;> iassumption
  iintro ⟨HO, DylS7⟩
  iapply WP_ret
  iapply HQ
  isplitl [HO]; · iexact HO
  isplitl [DyoS7]; · iexact DyoS7
  isplitl [DyoR7]; · iexact DyoR7
  iexact DylS7

/-! ## The first seven heads together -/

/-- The parts of the first seven heads are one part. -/
theorem hS_disj (s : Finset ℕ) : ∀ t ∈ s, ∀ t' ∈ s, t ≠ t' → Disjoint (hS t) (hS t') := fun t _ t' _ hne => by
  rw [Finset.disjoint_left]
  intro i h h'
  exact hne ((Finset.mem_filter.mp h).2.symm.trans (Finset.mem_filter.mp h').2)
theorem lS_disj (s : Finset ℕ) : ∀ t ∈ s, ∀ t' ∈ s, t ≠ t' → Disjoint (lS t) (lS t') := fun t _ t' _ hne => by
  rw [Finset.disjoint_left]
  intro i h h'
  exact hne ((Finset.mem_filter.mp h).2.symm.trans (Finset.mem_filter.mp h').2)
abbrev hS7 : Finset S8x32x128.Idx := (Finset.range 7).biUnion hS
abbrev lS7 : Finset S8x1x32.Idx := (Finset.range 7).biUnion lS
theorem bigSep_seven (Φ : ℕ → sProp 𝕄) : bigSep (Finset.range 7) Φ = iprop(Φ 0 ∗ Φ 1 ∗ Φ 2 ∗ Φ 3 ∗ Φ 4 ∗ Φ 5 ∗ Φ 6) := by
  rw [bigSep_eq_bigSepL_of_eq [0, 1, 2, 3, 4, 5, 6] (by decide) (by decide)]; rfl
theorem seven_ao (c : Dev nD) (f : S8x32x128.Idx → Elt F .f32) :
    (((c : Thread nD τ).loc cc0_scratch1) ↦[hS7]{fullShare} f : sProp 𝕄)
      = iprop(pAo c 0 f ∗ pAo c 1 f ∗ pAo c 2 f ∗ pAo c 3 f ∗ pAo c 4 f ∗ pAo c 5 f ∗ pAo c 6 f) :=
  (pointsTo_biUnion (ℓ := (c : Thread nD τ).loc cc0_scratch1) (Finset.range 7) hS (hS_disj _)).trans (bigSep_seven _)
theorem seven_ro (c : Dev nD) (f : S8x32x128.Idx → Elt F .f32) :
    (((c : Thread nD τ).loc cc0_scratch3) ↦[hS7]{fullShare} f : sProp 𝕄)
      = iprop(pRo c 0 f ∗ pRo c 1 f ∗ pRo c 2 f ∗ pRo c 3 f ∗ pRo c 4 f ∗ pRo c 5 f ∗ pRo c 6 f) :=
  (pointsTo_biUnion (ℓ := (c : Thread nD τ).loc cc0_scratch3) (Finset.range 7) hS (hS_disj _)).trans (bigSep_seven _)
theorem seven_al (c : Dev nD) (f : S8x1x32.Idx → Elt F .f32) :
    (((c : Thread nD τ).loc cc0_scratch2) ↦[lS7]{fullShare} f : sProp 𝕄)
      = iprop(pAl c 0 f ∗ pAl c 1 f ∗ pAl c 2 f ∗ pAl c 3 f ∗ pAl c 4 f ∗ pAl c 5 f ∗ pAl c 6 f) :=
  (pointsTo_biUnion (ℓ := (c : Thread nD τ).loc cc0_scratch2) (Finset.range 7) lS (lS_disj _)).trans (bigSep_seven _)
theorem seven_rl (c : Dev nD) (f : S8x1x32.Idx → Elt F .f32) :
    (((c : Thread nD τ).loc cc0_scratch4) ↦[lS7]{fullShare} f : sProp 𝕄)
      = iprop(pRl c 0 f ∗ pRl c 1 f ∗ pRl c 2 f ∗ pRl c 3 f ∗ pRl c 4 f ∗ pRl c 5 f ∗ pRl c 6 f) :=
  (pointsTo_biUnion (ℓ := (c : Thread nD τ).loc cc0_scratch4) (Finset.range 7) lS (lS_disj _)).trans (bigSep_seven _)
theorem load_o7_sub (hi) : (Rect.unit (s := S8x32x128) ![0, 0, 0] S7x32x128.size hi).set ⊆ hS7 := by
  intro i h
  rw [Rect.mem_set_unit] at h
  have h0 := h 0
  simp at h0
  exact Finset.mem_biUnion.mpr ⟨(i 0).val, Finset.mem_range.mpr h0, Finset.mem_filter.mpr ⟨Finset.mem_univ _, rfl⟩⟩
theorem load_l7_sub (hi) : (Rect.unit (s := S8x1x32) ![0, 0, 0] S7x1x32.size hi).set ⊆ lS7 := by
  intro i h
  rw [Rect.mem_set_unit] at h
  have h0 := h 0
  simp at h0
  exact Finset.mem_biUnion.mpr ⟨(i 0).val, Finset.mem_range.mpr h0, Finset.mem_filter.mpr ⟨Finset.mem_univ _, rfl⟩⟩
theorem sub_ao7 (hi) : (Memref.whole cc0_scratch1 : Memref sig .tc .vmem S8x32x128 .f32).view.setOn (Rect.unit (s := S8x32x128) ![0, 0, 0] S7x32x128.size hi).toLoadRect.set
    ⊆ hS7 := by
  intro i hi'
  obtain ⟨j, hj, rfl⟩ := Finset.mem_map.mp hi'
  exact load_o7_sub hi hj
theorem sub_ro7 (hi) : (Memref.whole cc0_scratch3 : Memref sig .tc .vmem S8x32x128 .f32).view.setOn (Rect.unit (s := S8x32x128) ![0, 0, 0] S7x32x128.size hi).toLoadRect.set
    ⊆ hS7 := by
  intro i hi'
  obtain ⟨j, hj, rfl⟩ := Finset.mem_map.mp hi'
  exact load_o7_sub hi hj
theorem sub_al7 (hi) : (Memref.whole cc0_scratch2 : Memref sig .tc .vmem S8x1x32 .f32).view.setOn (Rect.unit (s := S8x1x32) ![0, 0, 0] S7x1x32.size hi).toLoadRect.set
    ⊆ lS7 := by
  intro i hi'
  obtain ⟨j, hj, rfl⟩ := Finset.mem_map.mp hi'
  exact load_l7_sub hi hj
theorem sub_rl7 (hi) : (Memref.whole cc0_scratch4 : Memref sig .tc .vmem S8x1x32 .f32).view.setOn (Rect.unit (s := S8x1x32) ![0, 0, 0] S7x1x32.size hi).toLoadRect.set
    ⊆ lS7 := by
  intro i hi'
  obtain ⟨j, hj, rfl⟩ := Finset.mem_map.mp hi'
  exact load_l7_sub hi hj

/-- The last waits of the first seven heads, then their denominators read. -/
theorem part13 (i : grid0.Coords) (c : Dev nD) (O : CellTallies nD τ sig Unit) (hO : Above 8 O) (v w x : BitVec 32) {Q : FVec F S7x32 .f32 → sProp 𝕄} :
    iprop(recs m ∗ levAts L lv ∗ Ow c O ∗ Wt c (yoR 6) ∗ Wt c (ylS 6) ∗ Wt c (ylR 6) ∗ pAl c 0 (aL m c) ∗ pAl c 1 (aL m c) ∗ pAl c 2 (aL m c) ∗ pAl c 3 (aL m c) ∗ pAl c 4 (aL m c) ∗ pAl c 5 (aL m c))
      ⊢ iprop(((Ow c O ∗ Dn m c (yoR 6) ∗ semVal (dC c (ylS 6)) 0 ∗ Dn m c (ylR 6) ∗ (((c : Thread nD τ).loc cc0_scratch2) ↦[lS7]{fullShare} aL m c))
          -∗ Q (k0_pay6 (l7 (aL m c)))) -∗ WP c (p13 i v w x) Q) := by
  unfold p13
  rw [k0_part13_eq_skeleton]
  unfold k0_part13_skel
  simp only [Prog.lift, Prog.bind_op, Prog.bind_ret, Prog.pure_eq_ret]
  iintro ⟨#HR, #Hlev, HO, WyoR6, WylS6, WylR6, A0, A1, A2, A3, A4, A5⟩ HQ
  iapply (step_wt m c (yoR 6) (by decide) O (hO.mono (by rw [lv_yoR]; decide)) (yoR_sem 6 rfl _)
    (dstw := hM (Memref.whole cc0_scratch3) 6) (by rw [amt_yoR])) $$ [HO WyoR6]
  · isplitr; · iexact HR
    isplitr; · iexact Hlev
    isplitl [HO] <;> iassumption
  iintro ⟨HO, DyoR6⟩
  iapply (step_wt m c (ylS 6) (by decide) O (hO.mono (by rw [lv_ylS]; decide)) (ylS_sem 6 rfl _)
    (dstw := lM (Memref.whole cc0_scratch2) 6) (by rw [amt_ylS])) $$ [HO WylS6]
  · isplitr; · iexact HR
    isplitr; · iexact Hlev
    isplitl [HO] <;> iassumption
  iintro ⟨HO, DylS6⟩
  iapply (step_wt m c (ylR 6) (by decide) O (hO.mono (by rw [lv_ylR]; decide)) (ylR_sem 6 rfl _)
    (dstw := lM (Memref.whole cc0_scratch4) 6) (by rw [amt_ylR])) $$ [HO WylR6]
  · isplitr; · iexact HR
    isplitr; · iexact Hlev
    isplitl [HO] <;> iassumption
  iintro ⟨HO, DylR6⟩
  ihave DylS6 := (show Dn m c (ylS 6) ⊢ iprop(semVal (dC c (ylS 6)) 0 ∗ pAl c 6 (aL m c)) by unfold Dn; rw [pay_ylS]; exact BIBase.Entails.rfl) $$ DylS6
  icases DylS6 with ⟨S6, A6⟩
  ihave HA := (Entails.of_eq (seven_al c (aL m c)).symm) $$ [A0 A1 A2 A3 A4 A5 A6]
  · isplitl [A0]; · iexact A0
    isplitl [A1]; · iexact A1
    isplitl [A2]; · iexact A2
    isplitl [A3]; · iexact A3
    isplitl [A4]; · iexact A4
    isplitl [A5] <;> iassumption
  iapply (wp_load 𝒱₀ (c : Thread nD τ) none Set.univ (m := (Memref.whole cc0_scratch2 : Memref sig .tc .vmem S8x1x32 .f32)) (sub_al7 _)) $$ [HA]
  · iexact HA
  iintro HA
  rw [read_l7]
  iapply WP_ret
  iapply HQ
  isplitl [HO]; · iexact HO
  isplitl [DyoR6]; · iexact DyoR6
  isplitl [S6]; · iexact S6
  isplitl [DylR6] <;> iassumption

end Cert.Run

end
-- ==== Proof.Init.lean ====
/- The first step's own parts: the first copies, the barrier, the weights. -/
module

public import proofs.«01_k».proof.Proof.Waits

@[expose] public section

noncomputable section

namespace Cert.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.ValueIdx
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

theorem read_s0 (f : S32x256.Idx → Elt F .i32) (hi) :
    (Memref.whole cc0_stg0_0 : Memref sig .tc .vmem S32x256 .i32).view.readAt (Elt F) (Rect.unit (s := S32x256) ![0, 0] S32x256.size hi).toLoadRect f = f :=
  Memref.readAt_unit_zero (Elt F) cc0_stg0_0 zero2 hi f
theorem read_s1 (f : S32x1.Idx → Elt F .i32) (hi) :
    (Memref.whole cc0_stg1_0 : Memref sig .tc .vmem S32x1 .i32).view.readAt (Elt F) (Rect.unit (s := S32x1) ![0, 0] S32x1.size hi).toLoadRect f = f :=
  Memref.readAt_unit_zero (Elt F) cc0_stg1_0 zero2 hi f

/-- The query's copy and the first half of the keys' start. -/
theorem part1 (i : grid0.Coords) (c : Dev nD) (v : BitVec 32) (h1) {Q : PUnit → sProp 𝕄} :
    iprop(qI m c 0 ∗ kI m c 0 0) ⊢ iprop(((qF m c 0 0 ∗ kF m c 0 0 0) -∗ Q ⟨⟩) -∗ WP c (p1 i c v h1) Q) := by
  unfold p1
  rw [k0_part1_eq_skeleton]
  unfold k0_part1_skel
  simp only [Prog.lift, Prog.bind_op, Prog.bind_ret, Prog.pure_eq_ret]
  iintro ⟨Hq, Hk⟩ HQ
  iapply (step_q m c 0 0 (cp_sem 2 0 0 rfl _) (qG_eq c 0 (k0_off1_eq c)) (qM_eq 0 rfl)) $$ [Hq]
  · iexact Hq
  iintro Hq
  iapply (step_k m c 0 0 0 (cp_sem 0 0 0 rfl _) (kG_eq _ c 0 0 (k0_off2_eq c)) (kM_eq bK 0 0 rfl)) $$ [Hk]
  · iexact Hk
  iintro Hk
  iapply WP_ret
  iapply HQ
  isplitl [Hq] <;> iassumption

/-- The other halves' copies start; the `y` neighbour is signalled. -/
theorem part2 (i : grid0.Coords) (c : Dev nD) (O : CellTallies nD τ sig Unit) (v w x : BitVec 32) (h1)
    {Q : (Σ' (v195 : Sems sig S_) (v201 : BitVec 32), BitVec 32) → sProp 𝕄} :
    iprop(recs m ∗ vI m c 0 0 ∗ kI m c 0 1 ∗ vI m c 0 1 ∗ Ow c (O + tallyAt (barC (yp c)) () 1) ∗ dutyTok ER (barC (yp c)) 0 false
        ∗ (∃ f, ((c : Thread nD τ).loc cc0_scratch3) ↦{fullShare} f) ∗ (∃ f, ((c : Thread nD τ).loc cc0_scratch4) ↦{fullShare} f))
      ⊢ iprop((∀ r, (vF m c 0 0 0 ∗ kF m c 0 1 0 ∗ vF m c 0 1 0 ∗ Ow c O) -∗ Q ⟨SemArray.scalar (sig.barrier 0 rfl), r, 1#32⟩)
          -∗ WP c (p2 i c v w x h1) Q) := by
  unfold p2
  rw [k0_part2_eq_skeleton]
  unfold k0_part2_skel
  simp only [Prog.lift, Prog.bind_op, Prog.bind_ret, Prog.pure_eq_ret, semSignalWord]
  iintro ⟨#HR, Hv, Hk1, Hv1, HO, Ht, H3, H4⟩ HQ
  iapply (step_v m c 0 0 0 (cp_sem 1 0 0 rfl _) (kG_eq _ c 0 0 (k0_off2_eq c)) (kM_eq bV 0 0 rfl)) $$ [Hv]
  · iexact Hv
  iintro Hv
  iapply (step_k m c 0 1 0 (cp_sem 0 0 1 rfl _) (kG_eq _ c 0 1 (k0_off3_eq c)) (kM_eq bK 0 1 rfl)) $$ [Hk1]
  · iexact Hk1
  iintro Hk1
  iapply (step_v m c 0 1 0 (cp_sem 1 0 1 rfl _) (kG_eq _ c 0 1 (k0_off3_eq c)) (kM_eq bV 0 1 rfl)) $$ [Hv1]
  · iexact Hv1
  iintro Hv1
  iapply (step_sigY m c _ (dev1_eq c _) O (k' := 1) rfl) $$ [HO Ht H3 H4]
  · isplitr; · iexact HR
    isplitl [HO]; · iexact HO
    isplitl [Ht]; · iexact Ht
    isplitl [H3] <;> iassumption
  iintro HO
  iapply WP_ret
  iapply HQ
  isplitl [Hv]; · iexact Hv
  isplitl [Hk1]; · iexact Hk1
  isplitl [Hv1] <;> iassumption

/-- The `x` neighbour is signalled, both neighbours are waited for, the block table and the lengths are read. -/
theorem part3 (i : grid0.Coords) (c : Dev nD) (O : CellTallies nD τ sig Unit) (hO : Above 1 O) (v w x : BitVec 32) (h1)
    {Q : (Σ' (v210 : IVec S32x1x256 1) (v213 : IVec S32x1x256 32) (v227 : FVec F S32x64 .f32) (v241 : FVec F S32x64 .f32), BitVec 32) → sProp 𝕄} :
    iprop(recs m ∗ levAts L lv ∗ Ow c (O + tallyAt (barC (xp c)) () 1) ∗ dutyTok ER (barC (xp c)) 0 true
        ∗ (∃ f, ((c : Thread nD τ).loc cc0_scratch6) ↦{fullShare} f) ∗ cred (tallyAt (barC c) () 2) ∗ atPos ER (barC c) 0 ∅ 0
        ∗ (((c : Thread nD τ).loc cc0_stg0_0) ↦{fullShare} btA m c) ∗ (((c : Thread nD τ).loc cc0_stg1_0) ↦{fullShare} lnA m c))
      ⊢ iprop(((Ow c O ∗ semVal (barC c) 0 ∗ barPay c false ∗ barPay c true
            ∗ (((c : Thread nD τ).loc cc0_stg0_0) ↦{fullShare} btA m c) ∗ (((c : Thread nD τ).loc cc0_stg1_0) ↦{fullShare} lnA m c))
            -∗ Q ⟨k0_pay2 (lnA m c), k0_pay3 (btA m c), k0_pay4 v (lnA m c) (btA m c), k0_pay5 v (lnA m c) (btA m c), Scalar.muli v 256#32⟩)
          -∗ WP c (p3 i c v h1 (SemArray.scalar (sig.barrier 0 rfl)) w x) Q) := by
  unfold p3
  rw [k0_part3_eq_skeleton]
  unfold k0_part3_skel
  simp only [Prog.lift, Prog.bind_op, Prog.bind_ret, Prog.pure_eq_ret, semSignalWord, semWaitWord]
  iintro ⟨#HR, #Hlev, HO, Ht, H6, Hc, Hat, S0, S1⟩ HQ
  iapply (step_sigX m c _ (dev2_eq c _) O (k' := 1) rfl) $$ [HO Ht H6]
  · isplitr; · iexact HR
    isplitl [HO]; · iexact HO
    isplitl [Ht] <;> iassumption
  iintro HO
  iapply (step_bar m c O hO (k' := 2) rfl) $$ [HO Hc Hat]
  · isplitr; · iexact HR
    isplitr; · iexact Hlev
    isplitl [HO]; · iexact HO
    isplitl [Hc] <;> iassumption
  iintro ⟨HO, Hb, Hy, Hx⟩
  iapply (wp_load 𝒱₀ (c : Thread nD τ) none Set.univ (m := (Memref.whole cc0_stg1_0 : Memref sig .tc .vmem S32x1 .i32)) (Finset.subset_univ _)) $$ [S1]
  · iexact S1
  iintro S1
  rw [read_s1]
  iapply (wp_load 𝒱₀ (c : Thread nD τ) none Set.univ (m := (Memref.whole cc0_stg0_0 : Memref sig .tc .vmem S32x256 .i32)) (Finset.subset_univ _)) $$ [S0]
  · iexact S0
  iintro S0
  rw [read_s0]
  iapply WP_ret
  iapply HQ
  isplitl [HO]; · iexact HO
  isplitl [Hb]; · iexact Hb
  isplitl [Hy]; · iexact Hy
  isplitl [Hx]; · iexact Hx
  isplitl [S0] <;> iassumption

end Cert.Run

end
-- ==== Proof.Before.lean ====
/- What a step does before its head: the first step's preparations, and the next head's copies. -/
module

public import proofs.«01_k».proof.Proof.Init

@[expose] public section

noncomputable section

namespace Cert.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.ValueIdx
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

theorem WP_deviceId (c : Dev nD) {α : Type} (k : Dev nD → Prog (TpuEff nD τ sig (Elt F) Λ₀ .tc) α) (Q : α → sProp 𝕄) :
    WP c (.op .deviceId k) Q = WP c (k c) Q := wp_deviceId _ _ _ _
theorem store_w (c : Dev nD) (hi) (f : S32x8192.Idx → Elt F .bf16) :
    ((Memref.whole cc0_scratch0 : Memref sig .tc .vmem S32x8192 .bf16).access (Rect.unit (s := S32x8192) ![0, 0] S32x8192.size hi)).write (Elt F) f
      (k0_pay8 (F := F) c (k0_pay2 (F := F) (lnA m c)) (k0_pay3 (F := F) (btA m c)) (k0_pay4 (F := F) (wy c) (lnA m c) (btA m c))
        (k0_pay5 (F := F) (wy c) (lnA m c) (btA m c)) (Scalar.muli (wy c) 256#32)) Finset.univ = wkC m c :=
  Memref.write_access_unit_zero_univ (Elt F) cc0_scratch0 zero2 hi f _

/-- A step that is neither the first nor the last starts the next head's copies. -/
theorem part17_mid (i : grid0.Coords) (t : ℕ) (hi : (i 0).val = t) (h0 : t ≠ 0) (ht : t < 7) (c : Dev nD)
    {Q : (Σ' (arg0 : BitVec 32) (d0 : Dev nD) (v2 : BitVec 32) (v5 : BitVec 32) (v6 : BitVec 32) (v7 : BitVec 32), BitVec 32) → sProp 𝕄} :
    idle m c (fs (t + 1)) ⊢ iprop((fly m c (fs (t + 1)) (fh (t + 1)) -∗ Q ⟨BitVec.ofNat 32 (i 0).val, c, wx c, wy c, Scalar.subi 1#32 (wy c), Scalar.subi 1#32 (wx c), Scalar.muli (wx c) 8#32⟩) -∗ WP c (p17 i) Q) := by
  unfold p17
  rw [k0_part17_eq_skeleton]
  unfold k0_part17_skel
  simp only [Prog.lift, Prog.bind_op, Prog.bind_ret, Prog.pure_eq_ret]
  rw [WP_deviceId]
  simp only [show Scalar.remsi (Scalar.divsi (Dev.word c) 2#32) 2#32 = wx c from rfl, show Scalar.remsi (Scalar.divsi (Dev.word c) 1#32) 2#32 = wy c from rfl]
  have hv : (fh (t + 1)).val = t + 1 := fh_val (by omega)
  rw [dif_neg (cond1_neg i (by omega)), dif_pos (cond2_pos i (by omega)), dif_neg (cond3_neg i (by omega))]
  try simp only [Prog.bind_op, Prog.bind_ret]
  unfold idle fly
  iintro ⟨Gq, Gk0, Gv0, Gk1, Gv1⟩ HQ
  try simp only [Prog.bind_assoc]
  rw [WP_bind]
  iapply (part4 m i t hi ht c _ _ _) $$ [Gq]
  · iexact Gq
  iintro Gq
  try simp only [Prog.bind_op, Prog.bind_ret]
  iapply (step_k m c (fs (t + 1)) 0 (fh (t + 1)) (cp_sem 0 (fs (t + 1)) 0 ((off7_eq i (by omega)).trans (by rw [hi]; rfl)) _)
    (kG_eq _ c (fh (t + 1)) 0 ((k0_off9_eq i c).trans (by rw [hi, hv]; rfl))) (kM_eq bK (fs (t + 1)) 0 ((off8_eq i (by omega)).trans (by rw [hi]; rfl)))) $$ [Gk0]
  · iexact Gk0
  iintro Gk0
  iapply (step_v m c (fs (t + 1)) 0 (fh (t + 1)) (cp_sem 1 (fs (t + 1)) 0 ((off10_eq i (by omega)).trans (by rw [hi]; rfl)) _)
    (kG_eq _ c (fh (t + 1)) 0 ((k0_off9_eq i c).trans (by rw [hi, hv]; rfl))) (kM_eq bV (fs (t + 1)) 0 ((off8_eq i (by omega)).trans (by rw [hi]; rfl)))) $$ [Gv0]
  · iexact Gv0
  iintro Gv0
  iapply (step_k m c (fs (t + 1)) 1 (fh (t + 1)) (cp_sem 0 (fs (t + 1)) 1 ((off11_eq i (by omega)).trans (by rw [hi]; rfl)) _)
    (kG_eq _ c (fh (t + 1)) 1 ((k0_off13_eq i c).trans (by rw [hi, hv]; rfl))) (kM_eq bK (fs (t + 1)) 1 ((off12_eq i (by omega)).trans (by rw [hi]; rfl)))) $$ [Gk1]
  · iexact Gk1
  iintro Gk1
  iapply (step_v m c (fs (t + 1)) 1 (fh (t + 1)) (cp_sem 1 (fs (t + 1)) 1 ((off14_eq i (by omega)).trans (by rw [hi]; rfl)) _)
    (kG_eq _ c (fh (t + 1)) 1 ((k0_off13_eq i c).trans (by rw [hi, hv]; rfl))) (kM_eq bV (fs (t + 1)) 1 ((off12_eq i (by omega)).trans (by rw [hi]; rfl)))) $$ [Gv1]
  · iexact Gv1
  iintro Gv1
  iapply WP_ret
  iapply HQ
  isplitl [Gq]; · iexact Gq
  isplitl [Gk0]; · iexact Gk0
  isplitl [Gv0]; · iexact Gv0
  isplitl [Gk1] <;> iassumption

/-- The first step: both slots' copies start, the barrier is passed, the weights are written. -/
theorem part17_first (i : grid0.Coords) (hi : (i 0).val = 0) (c : Dev nD)
    {Q : (Σ' (arg0 : BitVec 32) (d0 : Dev nD) (v2 : BitVec 32) (v5 : BitVec 32) (v6 : BitVec 32) (v7 : BitVec 32), BitVec 32) → sProp 𝕄} :
    iprop(recs m ∗ levAts L lv ∗ Ow c (O₀ c) ∗ idle m c 0 ∗ idle m c 1
        ∗ dutyTok ER (barC (yp c)) 0 false ∗ dutyTok ER (barC (xp c)) 0 true ∗ cred (tallyAt (barC c) () 2) ∗ atPos ER (barC c) 0 ∅ 0
        ∗ (∃ f, ((c : Thread nD τ).loc cc0_scratch0) ↦{fullShare} f)
        ∗ (∃ f, ((c : Thread nD τ).loc cc0_scratch3) ↦{fullShare} f) ∗ (∃ f, ((c : Thread nD τ).loc cc0_scratch4) ↦{fullShare} f)
        ∗ (∃ f, ((c : Thread nD τ).loc cc0_scratch6) ↦{fullShare} f)
        ∗ (((c : Thread nD τ).loc cc0_stg0_0) ↦{fullShare} btA m c) ∗ (((c : Thread nD τ).loc cc0_stg1_0) ↦{fullShare} lnA m c))
      ⊢ iprop(((Ow c (OY c 8) ∗ fly m c 0 0 ∗ fly m c 1 1 ∗ semVal (barC c) 0 ∗ barPay c false ∗ barPay c true
            ∗ (((c : Thread nD τ).loc cc0_scratch0) ↦{fullShare} wkC m c)
            ∗ (((c : Thread nD τ).loc cc0_stg0_0) ↦{fullShare} btA m c) ∗ (((c : Thread nD τ).loc cc0_stg1_0) ↦{fullShare} lnA m c))
          -∗ Q ⟨BitVec.ofNat 32 (i 0).val, c, wx c, wy c, Scalar.subi 1#32 (wy c), Scalar.subi 1#32 (wx c), Scalar.muli (wx c) 8#32⟩) -∗ WP c (p17 i) Q) := by
  unfold p17
  rw [k0_part17_eq_skeleton]
  unfold k0_part17_skel
  simp only [Prog.lift, Prog.bind_op, Prog.bind_ret, Prog.pure_eq_ret]
  rw [WP_deviceId]
  simp only [show Scalar.remsi (Scalar.divsi (Dev.word c) 2#32) 2#32 = wx c from rfl, show Scalar.remsi (Scalar.divsi (Dev.word c) 1#32) 2#32 = wy c from rfl]
  have hv : (fh (0 + 1)).val = 0 + 1 := fh_val (by omega)
  rw [dif_pos (cond1_pos i hi), dif_pos (cond2_pos i (by omega)), dif_neg (cond3_neg i (by omega))]
  unfold idle fly
  iintro ⟨#HR, #Hlev, HO, ⟨Hq, Hk0, Hv0, Hk1, Hv1⟩, ⟨Gq, Gk0, Gv0, Gk1, Gv1⟩, Ty, Tx, Hc, Hat, ⟨%fw, Hw⟩, H3, H4, H6, S0, S1⟩ HQ
  try simp only [Prog.bind_assoc]
  rw [WP_bind]
  iapply (part1 m i c _ _) $$ [Hq Hk0]
  · isplitl [Hq] <;> iassumption
  iintro ⟨Hq, Hk0⟩
  rw [WP_bind]
  iapply (part2 m i c (OY c 8 + tallyAt (barC (xp c)) () 1) _ _ _ _) $$ [Hv0 Hk1 Hv1 HO Ty H3 H4]
  · isplitr; · iexact HR
    isplitl [Hv0]; · iexact Hv0
    isplitl [Hk1]; · iexact Hk1
    isplitl [Hv1]; · iexact Hv1
    isplitl [HO]; · iexact HO
    isplitl [Ty]; · iexact Ty
    isplitl [H3] <;> iassumption
  iintro %r ⟨Hv0, Hk1, Hv1, HO⟩
  dsimp only
  try simp only [Prog.bind_assoc]
  rw [WP_bind]
  iapply (part3 m i c (OY c 8) (OY_above c 8 le_rfl) _ _ _ _) $$ [HO Tx H6 Hc Hat S0 S1]
  · isplitr; · iexact HR
    isplitr; · iexact Hlev
    isplitl [HO]; · iexact HO
    isplitl [Tx]; · iexact Tx
    isplitl [H6]; · iexact H6
    isplitl [Hc]; · iexact Hc
    isplitl [Hat]; · iexact Hat
    isplitl [S0] <;> iassumption
  iintro ⟨HO, Hb, Hy, Hx, S0, S1⟩
  dsimp only
  try simp only [Prog.bind_op, Prog.bind_ret]
  iapply (wp_load 𝒱₀ (c : Thread nD τ) none Set.univ (m := (Memref.whole cc0_scratch0 : Memref sig .tc .vmem S32x8192 .bf16)) (Finset.subset_univ _)) $$ [Hw]
  · iexact Hw
  iintro Hw
  iapply (wp_store 𝒱₀ (c : Thread nD τ) none Set.univ (m := (Memref.whole cc0_scratch0 : Memref sig .tc .vmem S32x8192 .bf16)) (Mk := Finset.univ) (Finset.subset_univ _)) $$ [Hw]
  · iexact Hw
  iintro Hw
  rw [store_w m c]
  rw [wp_bind]
  iapply (part4 m i 0 hi (by decide) c _ _ _) $$ [Gq]
  · iexact Gq
  iintro Gq
  try simp only [Prog.bind_op, Prog.bind_ret]
  iapply (step_k m c (fs (0 + 1)) 0 (fh (0 + 1)) (cp_sem 0 (fs (0 + 1)) 0 ((off7_eq i (by omega)).trans (by rw [hi]; rfl)) _)
    (kG_eq _ c (fh (0 + 1)) 0 ((k0_off9_eq i c).trans (by rw [hi, hv]; rfl))) (kM_eq bK (fs (0 + 1)) 0 ((off8_eq i (by omega)).trans (by rw [hi]; rfl)))) $$ [Gk0]
  · iexact Gk0
  iintro Gk0
  iapply (step_v m c (fs (0 + 1)) 0 (fh (0 + 1)) (cp_sem 1 (fs (0 + 1)) 0 ((off10_eq i (by omega)).trans (by rw [hi]; rfl)) _)
    (kG_eq _ c (fh (0 + 1)) 0 ((k0_off9_eq i c).trans (by rw [hi, hv]; rfl))) (kM_eq bV (fs (0 + 1)) 0 ((off8_eq i (by omega)).trans (by rw [hi]; rfl)))) $$ [Gv0]
  · iexact Gv0
  iintro Gv0
  iapply (step_k m c (fs (0 + 1)) 1 (fh (0 + 1)) (cp_sem 0 (fs (0 + 1)) 1 ((off11_eq i (by omega)).trans (by rw [hi]; rfl)) _)
    (kG_eq _ c (fh (0 + 1)) 1 ((k0_off13_eq i c).trans (by rw [hi, hv]; rfl))) (kM_eq bK (fs (0 + 1)) 1 ((off12_eq i (by omega)).trans (by rw [hi]; rfl)))) $$ [Gk1]
  · iexact Gk1
  iintro Gk1
  iapply (step_v m c (fs (0 + 1)) 1 (fh (0 + 1)) (cp_sem 1 (fs (0 + 1)) 1 ((off14_eq i (by omega)).trans (by rw [hi]; rfl)) _)
    (kG_eq _ c (fh (0 + 1)) 1 ((k0_off13_eq i c).trans (by rw [hi, hv]; rfl))) (kM_eq bV (fs (0 + 1)) 1 ((off12_eq i (by omega)).trans (by rw [hi]; rfl)))) $$ [Gv1]
  · iexact Gv1
  iintro Gv1
  iapply WP_ret
  iapply HQ
  isplitl [HO]; · iexact HO
  isplitl [Hq Hk0 Hv0 Hk1 Hv1]
  · isplitl [Hq]; · iexact Hq
    isplitl [Hk0]; · iexact Hk0
    isplitl [Hv0]; · iexact Hv0
    isplitl [Hk1] <;> iassumption
  isplitl [Gq Gk0 Gv0 Gk1 Gv1]
  · isplitl [Gq]; · iexact Gq
    isplitl [Gk0]; · iexact Gk0
    isplitl [Gv0]; · iexact Gv0
    isplitl [Gk1]; · iexact Gk1
    iexact Gv1
  isplitl [Hb]; · iexact Hb
  isplitl [Hy]; · iexact Hy
  isplitl [Hx]; · iexact Hx
  isplitl [Hw]; · iexact Hw
  isplitl [S0] <;> iassumption

end Cert.Run

end
-- ==== Proof.Last.lean ====
/- The last step: the first seven heads' copies waited for, their outputs normalised, and both waves exchanged. -/
module

public import proofs.«01_k».proof.Proof.Before

@[expose] public section

noncomputable section

namespace Cert.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.ValueIdx
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

theorem lv_xsS (c : Dev nD) (w : Fin 2) : lv (dC c (xsS w)) () = 0 := by
  show lvN (47 + w.val) = _; unfold lvN
  rw [if_neg (by omega), if_neg (by omega), if_neg (by omega), if_neg (by omega), if_pos (by omega)]
theorem Dn_yoS (c : Dev nD) (h : Fin 8) : Dn m c (yoS h) = iprop(semVal (dC c (yoS h)) 0 ∗ pAo c h.val (aO m c)) := by
  unfold Dn; rw [pay_yoS]
theorem Dn_yoR (c : Dev nD) (h : Fin 8) : Dn m c (yoR h) = iprop(semVal (dC c (yoR h)) 0 ∗ pRo c h.val (aO m (yp c))) := by
  unfold Dn; rw [pay_yoR]
theorem Dn_ylS (c : Dev nD) (h : Fin 8) : Dn m c (ylS h) = iprop(semVal (dC c (ylS h)) 0 ∗ pAl c h.val (aL m c)) := by
  unfold Dn; rw [pay_ylS]
theorem Dn_ylR (c : Dev nD) (h : Fin 8) : Dn m c (ylR h) = iprop(semVal (dC c (ylR h)) 0 ∗ pRl c h.val (aL m (yp c))) := by
  unfold Dn; rw [pay_ylR]
theorem Dn_xsS (c : Dev nD) (w : Fin 2) : Dn m c (xsS w) = iprop(semVal (dC c (xsS w)) 0 ∗ pXs c w.val (xC m c)) := by
  unfold Dn; rw [pay_xsS]
theorem Dn_xsR (c : Dev nD) (w : Fin 2) : Dn m c (xsR w) = iprop(semVal (dC c (xsR w)) 0 ∗ pXr c w.val (xC m (xp c))) := by
  unfold Dn; rw [pay_xsR]
theorem read_o7r (f : S8x32x128.Idx → Elt F .f32) (hi) :
    (Memref.whole cc0_scratch3 : Memref sig .tc .vmem S8x32x128 .f32).view.readAt (Elt F) (Rect.unit (s := S8x32x128) ![0, 0, 0] S7x32x128.size hi).toLoadRect f = o7 f :=
  read_o7 f hi
theorem read_l7r (f : S8x1x32.Idx → Elt F .f32) (hi) :
    (Memref.whole cc0_scratch4 : Memref sig .tc .vmem S8x1x32 .f32).view.readAt (Elt F) (Rect.unit (s := S8x1x32) ![0, 0, 0] S7x1x32.size hi).toLoadRect f = l7 f :=
  read_l7 f hi
theorem read_o1r (f : S8x32x128.Idx → Elt F .f32) (hi) :
    (Memref.whole cc0_scratch3 : Memref sig .tc .vmem S8x32x128 .f32).view.readAt (Elt F) (Rect.unit (s := S8x32x128) ![7, 0, 0] S1x32x128.size hi).toLoadRect f = o1 f :=
  read_o1 f hi
theorem read_l1r (f : S8x1x32.Idx → Elt F .f32) (hi) :
    (Memref.whole cc0_scratch4 : Memref sig .tc .vmem S8x1x32 .f32).view.readAt (Elt F) (Rect.unit (s := S8x1x32) ![7, 0, 0] S1x1x32.size hi).toLoadRect f = l1 f :=
  read_l1 f hi
theorem load_x0_sub (hi) : (Memref.whole cc0_scratch5 : Memref sig .tc .vmem S32x1024 .f32).view.setOn (Rect.unit (s := S32x1024) ![0, 0] S32x896.size hi).toLoadRect.set ⊆ xS 0 := by
  intro i hi'
  obtain ⟨j, hj, rfl⟩ := Finset.mem_map.mp hi'
  exact (xset0 hi) ▸ hj
theorem store_x0_sub (hi) : ((Memref.whole cc0_scratch5 : Memref sig .tc .vmem S32x1024 .f32).access (Rect.unit (s := S32x1024) ![0, 0] S32x896.size hi)).setOn Finset.univ ⊆ xS 0 :=
  subset_of_eq (((View.set_slice_whole cc0_scratch5 _).trans (xset0 hi)))
theorem load_x1_sub (hi) : (Memref.whole cc0_scratch5 : Memref sig .tc .vmem S32x1024 .f32).view.setOn (Rect.unit (s := S32x1024) ![0, 896] S32x128.size hi).toLoadRect.set ⊆ xS 1 := by
  intro i hi'
  obtain ⟨j, hj, rfl⟩ := Finset.mem_map.mp hi'
  exact (xset1 hi) ▸ hj
theorem store_x1_sub (hi) : ((Memref.whole cc0_scratch5 : Memref sig .tc .vmem S32x1024 .f32).access (Rect.unit (s := S32x1024) ![0, 896] S32x128.size hi)).setOn Finset.univ ⊆ xS 1 :=
  subset_of_eq (((View.set_slice_whole cc0_scratch5 _).trans (xset1 hi)))
theorem sub_ao1 (hi) : (Memref.whole cc0_scratch1 : Memref sig .tc .vmem S8x32x128 .f32).view.setOn (Rect.unit (s := S8x32x128) ![7, 0, 0] S1x32x128.size hi).toLoadRect.set ⊆ hS 7 := by
  intro i hi'
  obtain ⟨j, hj, rfl⟩ := Finset.mem_map.mp hi'
  exact (hset 7) ▸ hj
theorem sub_ro1 (hi) : (Memref.whole cc0_scratch3 : Memref sig .tc .vmem S8x32x128 .f32).view.setOn (Rect.unit (s := S8x32x128) ![7, 0, 0] S1x32x128.size hi).toLoadRect.set ⊆ hS 7 := by
  intro i hi'
  obtain ⟨j, hj, rfl⟩ := Finset.mem_map.mp hi'
  exact (hset 7) ▸ hj
theorem sub_al1 (hi) : (Memref.whole cc0_scratch2 : Memref sig .tc .vmem S8x1x32 .f32).view.setOn (Rect.unit (s := S8x1x32) ![7, 0, 0] S1x1x32.size hi).toLoadRect.set ⊆ lS 7 := by
  intro i hi'
  obtain ⟨j, hj, rfl⟩ := Finset.mem_map.mp hi'
  exact (lset 7) ▸ hj
theorem sub_rl1 (hi) : (Memref.whole cc0_scratch4 : Memref sig .tc .vmem S8x1x32 .f32).view.setOn (Rect.unit (s := S8x1x32) ![7, 0, 0] S1x1x32.size hi).toLoadRect.set ⊆ lS 7 := by
  intro i hi'
  obtain ⟨j, hj, rfl⟩ := Finset.mem_map.mp hi'
  exact (lset 7) ▸ hj

/-- What is owed in the last step once the first wave is on its way. -/
def OZ (c : Dev nD) : CellTallies nD τ sig Unit :=
  tallyAt (dC (xp c) (xsR 1)) () Nx1 + tallyAt (dC (yp c) (ylR 7)) () Nl + tallyAt (dC (yp c) (yoR 7)) () No
theorem OY_one (c : Dev nD) : OY c 1 = OZ c + tallyAt (dC (xp c) (xsR 0)) () Nx0 := by
  show tallyAt (dC (xp c) (xsR 1)) () Nx1 + tallyAt (dC (xp c) (xsR 0)) () Nx0 + tallyAt (dC (yp c) (ylR 7)) () Nl + tallyAt (dC (yp c) (yoR 7)) () No = _
  unfold OZ
  rw [add_right_comm (tallyAt (dC (xp c) (xsR 1)) () Nx1) (tallyAt (dC (xp c) (xsR 0)) () Nx0), add_right_comm _ (tallyAt (dC (xp c) (xsR 0)) () Nx0)]
theorem OZ_above (c : Dev nD) : Above 8 (OZ c) :=
  (((OX1_above c).mono (by decide)).add (Above.tally _ _ _ (by rw [lv_ylR]; decide))).add (Above.tally _ _ _ (by rw [lv_yoR]; decide))

set_option maxHeartbeats 4000000 in
/-- The last step waits for the first seven heads, normalises their outputs and sends them off. -/
theorem part17_last (i : grid0.Coords) (hi : (i 0).val = 7) (c : Dev nD)
    {Q : (Σ' (arg0 : BitVec 32) (d0 : Dev nD) (v2 : BitVec 32) (v5 : BitVec 32) (v6 : BitVec 32) (v7 : BitVec 32), BitVec 32) → sProp 𝕄} :
    iprop(recs m ∗ levAts L lv ∗ Ow c (OY c 1) ∗ (sent c 0 ∗ sent c 1 ∗ sent c 2 ∗ sent c 3 ∗ sent c 4 ∗ sent c 5 ∗ sent c 6)
        ∗ (∃ f, pXs c 0 f) ∗ (∃ f, pXr (xp c) 0 f) ∗ Tk c (xp c) (xsS 0) (xsR 0))
      ⊢ iprop(((Ow c (OZ c) ∗ (done m c 0 ∗ done m c 1 ∗ done m c 2 ∗ done m c 3 ∗ done m c 4 ∗ done m c 5 ∗ done m c 6) ∗ Wt c (xsS 0))
          -∗ Q ⟨BitVec.ofNat 32 (i 0).val, c, wx c, wy c, Scalar.subi 1#32 (wy c), Scalar.subi 1#32 (wx c), Scalar.muli (wx c) 8#32⟩) -∗ WP c (p17 i) Q) := by
  unfold p17
  rw [k0_part17_eq_skeleton]
  unfold k0_part17_skel
  simp only [Prog.lift, Prog.bind_op, Prog.bind_ret, Prog.pure_eq_ret]
  rw [WP_deviceId]
  simp only [show Scalar.remsi (Scalar.divsi (Dev.word c) 2#32) 2#32 = wx c from rfl, show Scalar.remsi (Scalar.divsi (Dev.word c) 1#32) 2#32 = wy c from rfl]
  have hO : Above 8 (OY c 1) := OY_above c 1 (by decide)
  rw [dif_neg (cond1_neg i (by omega)), dif_neg (cond2_neg i (by omega)), dif_pos (cond3_pos i (by omega))]
  try simp only [Prog.bind_op, Prog.bind_ret]
  unfold sent
  iintro ⟨#HR, #Hlev, HO, ⟨⟨WyoS0, WyoR0, WylS0, WylR0⟩, ⟨WyoS1, WyoR1, WylS1, WylR1⟩, ⟨WyoS2, WyoR2, WylS2, WylR2⟩, ⟨WyoS3, WyoR3, WylS3, WylR3⟩, ⟨WyoS4, WyoR4, WylS4, WylR4⟩, ⟨WyoS5, WyoR5, WylS5, WylR5⟩, ⟨WyoS6, WyoR6, WylS6, WylR6⟩⟩, ⟨%fx, Hx⟩, Hr, Ht⟩ HQ
  try simp only [Prog.bind_assoc]
  rw [WP_bind]
  iapply (part5 m i c (OY c 1) hO _ _) $$ [HO WyoS0 WyoR0 WylS0]
  · isplitr; · iexact HR
    isplitr; · iexact Hlev
    isplitl [HO]; · iexact HO
    isplitl [WyoS0]; · iexact WyoS0
    isplitl [WyoR0]; · iexact WyoR0
    iexact WylS0
  iintro %r5 ⟨HO, DyoS0, DyoR0, DylS0⟩
  try simp only [Prog.bind_assoc]
  rw [WP_bind]
  iapply (part6 m i c (OY c 1) hO _ _ _) $$ [HO WylR0 WyoS1 WyoR1]
  · isplitr; · iexact HR
    isplitr; · iexact Hlev
    isplitl [HO]; · iexact HO
    isplitl [WylR0]; · iexact WylR0
    isplitl [WyoS1]; · iexact WyoS1
    iexact WyoR1
  iintro ⟨HO, DylR0, DyoS1, DyoR1⟩
  try simp only [Prog.bind_assoc]
  rw [WP_bind]
  iapply (part7 m i c (OY c 1) hO _ _) $$ [HO WylS1 WylR1 WyoS2]
  · isplitr; · iexact HR
    isplitr; · iexact Hlev
    isplitl [HO]; · iexact HO
    isplitl [WylS1]; · iexact WylS1
    isplitl [WylR1]; · iexact WylR1
    iexact WyoS2
  iintro ⟨HO, DylS1, DylR1, DyoS2⟩
  try simp only [Prog.bind_assoc]
  rw [WP_bind]
  iapply (part8 m i c (OY c 1) hO _ _) $$ [HO WyoR2 WylS2 WylR2]
  · isplitr; · iexact HR
    isplitr; · iexact Hlev
    isplitl [HO]; · iexact HO
    isplitl [WyoR2]; · iexact WyoR2
    isplitl [WylS2]; · iexact WylS2
    iexact WylR2
  iintro ⟨HO, DyoR2, DylS2, DylR2⟩
  try simp only [Prog.bind_assoc]
  rw [WP_bind]
  iapply (part9 m i c (OY c 1) hO _ _) $$ [HO WyoS3 WyoR3 WylS3]
  · isplitr; · iexact HR
    isplitr; · iexact Hlev
    isplitl [HO]; · iexact HO
    isplitl [WyoS3]; · iexact WyoS3
    isplitl [WyoR3]; · iexact WyoR3
    iexact WylS3
  iintro ⟨HO, DyoS3, DyoR3, DylS3⟩
  try simp only [Prog.bind_assoc]
  rw [WP_bind]
  iapply (part10 m i c (OY c 1) hO _ _) $$ [HO WylR3 WyoS4 WyoR4 WylS4]
  · isplitr; · iexact HR
    isplitr; · iexact Hlev
    isplitl [HO]; · iexact HO
    isplitl [WylR3]; · iexact WylR3
    isplitl [WyoS4]; · iexact WyoS4
    isplitl [WyoR4]; · iexact WyoR4
    iexact WylS4
  iintro ⟨HO, DylR3, DyoS4, DyoR4, DylS4⟩
  try simp only [Prog.bind_assoc]
  rw [WP_bind]
  iapply (part11 m i c (OY c 1) hO _ _) $$ [HO WylR4 WyoS5 WyoR5]
  · isplitr; · iexact HR
    isplitr; · iexact Hlev
    isplitl [HO]; · iexact HO
    isplitl [WylR4]; · iexact WylR4
    isplitl [WyoS5]; · iexact WyoS5
    iexact WyoR5
  iintro ⟨HO, DylR4, DyoS5, DyoR5⟩
  try simp only [Prog.bind_assoc]
  rw [WP_bind]
  iapply (part12 m i c (OY c 1) hO _ _) $$ [HO WylS5 WylR5 WyoS6]
  · isplitr; · iexact HR
    isplitr; · iexact Hlev
    isplitl [HO]; · iexact HO
    isplitl [WylS5]; · iexact WylS5
    isplitl [WylR5]; · iexact WylR5
    iexact WyoS6
  iintro %r12 ⟨HO, DylS5, DylR5, DyoS6⟩
  ihave DylS0 := (Entails.of_eq (Dn_ylS m c 0)) $$ DylS0
  icases DylS0 with ⟨SylS0, AylS0⟩
  ihave DylS1 := (Entails.of_eq (Dn_ylS m c 1)) $$ DylS1
  icases DylS1 with ⟨SylS1, AylS1⟩
  ihave DylS2 := (Entails.of_eq (Dn_ylS m c 2)) $$ DylS2
  icases DylS2 with ⟨SylS2, AylS2⟩
  ihave DylS3 := (Entails.of_eq (Dn_ylS m c 3)) $$ DylS3
  icases DylS3 with ⟨SylS3, AylS3⟩
  ihave DylS4 := (Entails.of_eq (Dn_ylS m c 4)) $$ DylS4
  icases DylS4 with ⟨SylS4, AylS4⟩
  ihave DylS5 := (Entails.of_eq (Dn_ylS m c 5)) $$ DylS5
  icases DylS5 with ⟨SylS5, AylS5⟩
  try simp only [Prog.bind_assoc]
  rw [WP_bind]
  iapply (part13 m i c (OY c 1) hO _ _ _) $$ [HO WyoR6 WylS6 WylR6 AylS0 AylS1 AylS2 AylS3 AylS4 AylS5]
  · isplitr; · iexact HR
    isplitr; · iexact Hlev
    isplitl [HO]; · iexact HO
    isplitl [WyoR6]; · iexact WyoR6
    isplitl [WylS6]; · iexact WylS6
    isplitl [WylR6]; · iexact WylR6
    isplitl [AylS0]; · iexact AylS0
    isplitl [AylS1]; · iexact AylS1
    isplitl [AylS2]; · iexact AylS2
    isplitl [AylS3]; · iexact AylS3
    isplitl [AylS4]; · iexact AylS4
    iexact AylS5
  iintro ⟨HO, DyoR6, SylS6, DylR6, Hal⟩
  try simp only [Prog.bind_op, Prog.bind_ret]
  ihave DyoS0 := (Entails.of_eq (Dn_yoS m c 0)) $$ DyoS0
  icases DyoS0 with ⟨SyoS0, AyoS0⟩
  ihave DyoS1 := (Entails.of_eq (Dn_yoS m c 1)) $$ DyoS1
  icases DyoS1 with ⟨SyoS1, AyoS1⟩
  ihave DyoS2 := (Entails.of_eq (Dn_yoS m c 2)) $$ DyoS2
  icases DyoS2 with ⟨SyoS2, AyoS2⟩
  ihave DyoS3 := (Entails.of_eq (Dn_yoS m c 3)) $$ DyoS3
  icases DyoS3 with ⟨SyoS3, AyoS3⟩
  ihave DyoS4 := (Entails.of_eq (Dn_yoS m c 4)) $$ DyoS4
  icases DyoS4 with ⟨SyoS4, AyoS4⟩
  ihave DyoS5 := (Entails.of_eq (Dn_yoS m c 5)) $$ DyoS5
  icases DyoS5 with ⟨SyoS5, AyoS5⟩
  ihave DyoS6 := (Entails.of_eq (Dn_yoS m c 6)) $$ DyoS6
  icases DyoS6 with ⟨SyoS6, AyoS6⟩
  ihave DyoR0 := (Entails.of_eq (Dn_yoR m c 0)) $$ DyoR0
  icases DyoR0 with ⟨SyoR0, AyoR0⟩
  ihave DyoR1 := (Entails.of_eq (Dn_yoR m c 1)) $$ DyoR1
  icases DyoR1 with ⟨SyoR1, AyoR1⟩
  ihave DyoR2 := (Entails.of_eq (Dn_yoR m c 2)) $$ DyoR2
  icases DyoR2 with ⟨SyoR2, AyoR2⟩
  ihave DyoR3 := (Entails.of_eq (Dn_yoR m c 3)) $$ DyoR3
  icases DyoR3 with ⟨SyoR3, AyoR3⟩
  ihave DyoR4 := (Entails.of_eq (Dn_yoR m c 4)) $$ DyoR4
  icases DyoR4 with ⟨SyoR4, AyoR4⟩
  ihave DyoR5 := (Entails.of_eq (Dn_yoR m c 5)) $$ DyoR5
  icases DyoR5 with ⟨SyoR5, AyoR5⟩
  ihave DyoR6 := (Entails.of_eq (Dn_yoR m c 6)) $$ DyoR6
  icases DyoR6 with ⟨SyoR6, AyoR6⟩
  ihave DylR0 := (Entails.of_eq (Dn_ylR m c 0)) $$ DylR0
  icases DylR0 with ⟨SylR0, AylR0⟩
  ihave DylR1 := (Entails.of_eq (Dn_ylR m c 1)) $$ DylR1
  icases DylR1 with ⟨SylR1, AylR1⟩
  ihave DylR2 := (Entails.of_eq (Dn_ylR m c 2)) $$ DylR2
  icases DylR2 with ⟨SylR2, AylR2⟩
  ihave DylR3 := (Entails.of_eq (Dn_ylR m c 3)) $$ DylR3
  icases DylR3 with ⟨SylR3, AylR3⟩
  ihave DylR4 := (Entails.of_eq (Dn_ylR m c 4)) $$ DylR4
  icases DylR4 with ⟨SylR4, AylR4⟩
  ihave DylR5 := (Entails.of_eq (Dn_ylR m c 5)) $$ DylR5
  icases DylR5 with ⟨SylR5, AylR5⟩
  ihave DylR6 := (Entails.of_eq (Dn_ylR m c 6)) $$ DylR6
  icases DylR6 with ⟨SylR6, AylR6⟩
  ihave Hao := (Entails.of_eq (seven_ao c (aO m c)).symm) $$ [AyoS0 AyoS1 AyoS2 AyoS3 AyoS4 AyoS5 AyoS6]
  · isplitl [AyoS0]; · iexact AyoS0
    isplitl [AyoS1]; · iexact AyoS1
    isplitl [AyoS2]; · iexact AyoS2
    isplitl [AyoS3]; · iexact AyoS3
    isplitl [AyoS4]; · iexact AyoS4
    isplitl [AyoS5]; · iexact AyoS5
    iexact AyoS6
  ihave Hro := (Entails.of_eq (seven_ro c (aO m (yp c))).symm) $$ [AyoR0 AyoR1 AyoR2 AyoR3 AyoR4 AyoR5 AyoR6]
  · isplitl [AyoR0]; · iexact AyoR0
    isplitl [AyoR1]; · iexact AyoR1
    isplitl [AyoR2]; · iexact AyoR2
    isplitl [AyoR3]; · iexact AyoR3
    isplitl [AyoR4]; · iexact AyoR4
    isplitl [AyoR5]; · iexact AyoR5
    iexact AyoR6
  ihave Hrl := (Entails.of_eq (seven_rl c (aL m (yp c))).symm) $$ [AylR0 AylR1 AylR2 AylR3 AylR4 AylR5 AylR6]
  · isplitl [AylR0]; · iexact AylR0
    isplitl [AylR1]; · iexact AylR1
    isplitl [AylR2]; · iexact AylR2
    isplitl [AylR3]; · iexact AylR3
    isplitl [AylR4]; · iexact AylR4
    isplitl [AylR5]; · iexact AylR5
    iexact AylR6
  iapply (wp_load 𝒱₀ (c : Thread nD τ) none Set.univ (m := (Memref.whole cc0_scratch4 : Memref sig .tc .vmem S8x1x32 .f32)) (sub_rl7 _)) $$ [Hrl]
  · iexact Hrl
  iintro Hrl
  rw [read_l7r]
  iapply (wp_load 𝒱₀ (c : Thread nD τ) none Set.univ (m := (Memref.whole cc0_scratch1 : Memref sig .tc .vmem S8x32x128 .f32)) (sub_ao7 _)) $$ [Hao]
  · iexact Hao
  iintro Hao
  rw [read_o7]
  iapply (wp_load 𝒱₀ (c : Thread nD τ) none Set.univ (m := (Memref.whole cc0_scratch3 : Memref sig .tc .vmem S8x32x128 .f32)) (sub_ro7 _)) $$ [Hro]
  · iexact Hro
  iintro Hro
  rw [read_o7r]
  unfold pXs
  iapply (wp_load 𝒱₀ (c : Thread nD τ) none Set.univ (m := (Memref.whole cc0_scratch5 : Memref sig .tc .vmem S32x1024 .f32)) (load_x0_sub _)) $$ [Hx]
  · iexact Hx
  iintro Hx
  skip
  iapply (wp_store 𝒱₀ (c : Thread nD τ) none Set.univ (m := (Memref.whole cc0_scratch5 : Memref sig .tc .vmem S32x1024 .f32)) (Mk := Finset.univ) (store_x0_sub _)) $$ [Hx]
  · iexact Hx
  iintro Hx
  ihave Hx := (Entails.of_eq (pointsTo_congr (store_x0 m c _ fx))) $$ Hx
  rw [OY_one]
  iapply (step_sendX0 m c _ (dev3_eq c _) (xsS_sem 0 rfl _) (xsR_sem 0 rfl _) rfl rfl (OZ c)) $$ [HO Hx Hr Ht]
  · isplitr; · iexact HR
    isplitl [Hx]; · unfold pXs; iexact Hx
    isplitl [Hr]; · iexact Hr
    isplitl [HO] <;> iassumption
  iintro ⟨HO, Wx⟩
  ihave Hao := (Entails.of_eq (seven_ao c (aO m c))) $$ Hao
  icases Hao with ⟨AyoS0, AyoS1, AyoS2, AyoS3, AyoS4, AyoS5, AyoS6⟩
  ihave Hro := (Entails.of_eq (seven_ro c (aO m (yp c)))) $$ Hro
  icases Hro with ⟨AyoR0, AyoR1, AyoR2, AyoR3, AyoR4, AyoR5, AyoR6⟩
  ihave Hrl := (Entails.of_eq (seven_rl c (aL m (yp c)))) $$ Hrl
  icases Hrl with ⟨AylR0, AylR1, AylR2, AylR3, AylR4, AylR5, AylR6⟩
  ihave Hal := (Entails.of_eq (seven_al c (aL m c))) $$ Hal
  icases Hal with ⟨AylS0, AylS1, AylS2, AylS3, AylS4, AylS5, AylS6⟩
  iapply WP_ret
  iapply HQ
  isplitl [HO]; · iexact HO
  isplitr [Wx]; swap; · iexact Wx
  unfold done
  rw [Dn_yoS m c 0, Dn_yoR m c 0, Dn_ylS m c 0, Dn_ylR m c 0, Dn_yoS m c 1, Dn_yoR m c 1, Dn_ylS m c 1, Dn_ylR m c 1, Dn_yoS m c 2, Dn_yoR m c 2, Dn_ylS m c 2, Dn_ylR m c 2, Dn_yoS m c 3, Dn_yoR m c 3, Dn_ylS m c 3, Dn_ylR m c 3, Dn_yoS m c 4, Dn_yoR m c 4, Dn_ylS m c 4, Dn_ylR m c 4, Dn_yoS m c 5, Dn_yoR m c 5, Dn_ylS m c 5, Dn_ylR m c 5, Dn_yoS m c 6, Dn_yoR m c 6, Dn_ylS m c 6, Dn_ylR m c 6]
  isplitl [SyoS0 AyoS0 SyoR0 AyoR0 SylS0 AylS0 SylR0 AylR0]
  · isplitl [SyoS0 AyoS0]; · (isplitl [SyoS0]; · iexact SyoS0); iexact AyoS0
    isplitl [SyoR0 AyoR0]; · (isplitl [SyoR0]; · iexact SyoR0); iexact AyoR0
    isplitl [SylS0 AylS0]; · (isplitl [SylS0]; · iexact SylS0); iexact AylS0
    isplitl [SylR0]; · iexact SylR0
    iexact AylR0
  isplitl [SyoS1 AyoS1 SyoR1 AyoR1 SylS1 AylS1 SylR1 AylR1]
  · isplitl [SyoS1 AyoS1]; · (isplitl [SyoS1]; · iexact SyoS1); iexact AyoS1
    isplitl [SyoR1 AyoR1]; · (isplitl [SyoR1]; · iexact SyoR1); iexact AyoR1
    isplitl [SylS1 AylS1]; · (isplitl [SylS1]; · iexact SylS1); iexact AylS1
    isplitl [SylR1]; · iexact SylR1
    iexact AylR1
  isplitl [SyoS2 AyoS2 SyoR2 AyoR2 SylS2 AylS2 SylR2 AylR2]
  · isplitl [SyoS2 AyoS2]; · (isplitl [SyoS2]; · iexact SyoS2); iexact AyoS2
    isplitl [SyoR2 AyoR2]; · (isplitl [SyoR2]; · iexact SyoR2); iexact AyoR2
    isplitl [SylS2 AylS2]; · (isplitl [SylS2]; · iexact SylS2); iexact AylS2
    isplitl [SylR2]; · iexact SylR2
    iexact AylR2
  isplitl [SyoS3 AyoS3 SyoR3 AyoR3 SylS3 AylS3 SylR3 AylR3]
  · isplitl [SyoS3 AyoS3]; · (isplitl [SyoS3]; · iexact SyoS3); iexact AyoS3
    isplitl [SyoR3 AyoR3]; · (isplitl [SyoR3]; · iexact SyoR3); iexact AyoR3
    isplitl [SylS3 AylS3]; · (isplitl [SylS3]; · iexact SylS3); iexact AylS3
    isplitl [SylR3]; · iexact SylR3
    iexact AylR3
  isplitl [SyoS4 AyoS4 SyoR4 AyoR4 SylS4 AylS4 SylR4 AylR4]
  · isplitl [SyoS4 AyoS4]; · (isplitl [SyoS4]; · iexact SyoS4); iexact AyoS4
    isplitl [SyoR4 AyoR4]; · (isplitl [SyoR4]; · iexact SyoR4); iexact AyoR4
    isplitl [SylS4 AylS4]; · (isplitl [SylS4]; · iexact SylS4); iexact AylS4
    isplitl [SylR4]; · iexact SylR4
    iexact AylR4
  isplitl [SyoS5 AyoS5 SyoR5 AyoR5 SylS5 AylS5 SylR5 AylR5]
  · isplitl [SyoS5 AyoS5]; · (isplitl [SyoS5]; · iexact SyoS5); iexact AyoS5
    isplitl [SyoR5 AyoR5]; · (isplitl [SyoR5]; · iexact SyoR5); iexact AyoR5
    isplitl [SylS5 AylS5]; · (isplitl [SylS5]; · iexact SylS5); iexact AylS5
    isplitl [SylR5]; · iexact SylR5
    iexact AylR5
  isplitl [SyoS6 AyoS6]; · (isplitl [SyoS6]; · iexact SyoS6); iexact AyoS6
  isplitl [SyoR6 AyoR6]; · (isplitl [SyoR6]; · iexact SyoR6); iexact AyoR6
  isplitl [SylS6 AylS6]; · (isplitl [SylS6]; · iexact SylS6); iexact AylS6
  isplitl [SylR6]; · iexact SylR6
  iexact AylR6

/-- The last head's outputs normalised. -/
theorem part15 (i : grid0.Coords) (c : Dev nD) (O : CellTallies nD τ sig Unit) (hO : Above 9 O) (v w x y : BitVec 32) {Q : PUnit → sProp 𝕄} :
    iprop(recs m ∗ levAts L lv ∗ Ow c O ∗ Wt c (ylR 7) ∗ Dn m c (yoS 7) ∗ Dn m c (yoR 7) ∗ Dn m c (ylS 7) ∗ (∃ f, pXs c 1 f))
      ⊢ iprop(((Ow c O ∗ done m c 7 ∗ pXs c 1 (xC m c)) -∗ Q ⟨⟩) -∗ WP c (p15 i v w x y) Q) := by
  unfold p15
  rw [k0_part15_eq_skeleton]
  unfold k0_part15_skel
  simp only [Prog.lift, Prog.bind_op, Prog.bind_ret, Prog.pure_eq_ret]
  iintro ⟨#HR, #Hlev, HO, WylR7, DyoS7, DyoR7, DylS7, ⟨%fx, Hx⟩⟩ HQ
  iapply (step_wt m c (ylR 7) (by decide) O (hO.mono (by rw [lv_ylR]; decide)) (ylR_sem 7 rfl _)
    (dstw := lM (Memref.whole cc0_scratch4) 7) (by rw [amt_ylR])) $$ [HO WylR7]
  · isplitr; · iexact HR
    isplitr; · iexact Hlev
    isplitl [HO] <;> iassumption
  iintro ⟨HO, DylR7⟩
  ihave DyoS7 := (Entails.of_eq (Dn_yoS m c 7)) $$ DyoS7
  icases DyoS7 with ⟨SyoS7, AyoS7⟩
  ihave DyoR7 := (Entails.of_eq (Dn_yoR m c 7)) $$ DyoR7
  icases DyoR7 with ⟨SyoR7, AyoR7⟩
  ihave DylS7 := (Entails.of_eq (Dn_ylS m c 7)) $$ DylS7
  icases DylS7 with ⟨SylS7, AylS7⟩
  ihave DylR7 := (Entails.of_eq (Dn_ylR m c 7)) $$ DylR7
  icases DylR7 with ⟨SylR7, AylR7⟩
  unfold pAo pRo pAl pRl pXs
  iapply (wp_load 𝒱₀ (c : Thread nD τ) none Set.univ (m := (Memref.whole cc0_scratch2 : Memref sig .tc .vmem S8x1x32 .f32)) (sub_al1 _)) $$ [AylS7]
  · iexact AylS7
  iintro AylS7
  rw [read_l1]
  iapply (wp_load 𝒱₀ (c : Thread nD τ) none Set.univ (m := (Memref.whole cc0_scratch4 : Memref sig .tc .vmem S8x1x32 .f32)) (sub_rl1 _)) $$ [AylR7]
  · iexact AylR7
  iintro AylR7
  rw [read_l1r]
  iapply (wp_load 𝒱₀ (c : Thread nD τ) none Set.univ (m := (Memref.whole cc0_scratch1 : Memref sig .tc .vmem S8x32x128 .f32)) (sub_ao1 _)) $$ [AyoS7]
  · iexact AyoS7
  iintro AyoS7
  rw [read_o1]
  iapply (wp_load 𝒱₀ (c : Thread nD τ) none Set.univ (m := (Memref.whole cc0_scratch3 : Memref sig .tc .vmem S8x32x128 .f32)) (sub_ro1 _)) $$ [AyoR7]
  · iexact AyoR7
  iintro AyoR7
  rw [read_o1r]
  iapply (wp_load 𝒱₀ (c : Thread nD τ) none Set.univ (m := (Memref.whole cc0_scratch5 : Memref sig .tc .vmem S32x1024 .f32)) (load_x1_sub _)) $$ [Hx]
  · iexact Hx
  iintro Hx
  skip
  iapply (wp_store 𝒱₀ (c : Thread nD τ) none Set.univ (m := (Memref.whole cc0_scratch5 : Memref sig .tc .vmem S32x1024 .f32)) (Mk := Finset.univ) (store_x1_sub _)) $$ [Hx]
  · iexact Hx
  iintro Hx
  ihave Hx := (Entails.of_eq (pointsTo_congr (store_x1 m c _ fx))) $$ Hx
  iapply WP_ret
  iapply HQ
  isplitl [HO]; · iexact HO
  isplitr [Hx]; swap; · iexact Hx
  unfold done
  rw [Dn_yoS, Dn_yoR, Dn_ylS, Dn_ylR]
  unfold pAo pRo pAl pRl
  isplitl [SyoS7 AyoS7]; · (isplitl [SyoS7]; · iexact SyoS7); iexact AyoS7
  isplitl [SyoR7 AyoR7]; · (isplitl [SyoR7]; · iexact SyoR7); iexact AyoR7
  isplitl [SylS7 AylS7]; · (isplitl [SylS7]; · iexact SylS7); iexact AylS7
  isplitl [SylR7]; · iexact SylR7
  iexact AylR7

/-- The second wave is sent; the waits for the waves, but the last. -/
theorem part16 (i : grid0.Coords) (c : Dev nD) (v w : BitVec 32) (h4) {Q : PUnit → sProp 𝕄} :
    iprop(recs m ∗ levAts L lv ∗ Ow c (tallyAt (dC (xp c) (xsR 1)) () Nx1) ∗ pXs c 1 (xC m c) ∗ (∃ f, pXr (xp c) 1 f) ∗ Tk c (xp c) (xsS 1) (xsR 1)
        ∗ Wt c (xsS 0) ∗ Wt c (xsR 0))
      ⊢ iprop(((Ow c 0 ∗ Dn m c (xsS 0) ∗ Dn m c (xsR 0) ∗ Dn m c (xsS 1)) -∗ Q ⟨⟩) -∗ WP c (p16 i c v w h4) Q) := by
  unfold p16
  rw [k0_part16_eq_skeleton]
  unfold k0_part16_skel
  simp only [Prog.lift, Prog.bind_op, Prog.bind_ret, Prog.pure_eq_ret]
  iintro ⟨#HR, #Hlev, HO, Hx, Hr, Ht, WxsS0, WxsR0⟩ HQ
  ihave HO := (Entails.of_eq (congrArg (Ow c) (zero_add (tallyAt (dC (xp c) (xsR 1)) () Nx1)).symm)) $$ HO
  iapply (step_sendX1 m c _ (dev6_eq c _) (xsS_sem 1 rfl _) (xsR_sem 1 rfl _) rfl rfl 0) $$ [HO Hx Hr Ht]
  · isplitr; · iexact HR
    isplitl [Hx]; · iexact Hx
    isplitl [Hr]; · iexact Hr
    isplitl [HO] <;> iassumption
  iintro ⟨HO, WxsS1⟩
  iapply (step_wt m c (xsS 0) (by decide) 0 (Above.zero _) (xsS_sem 0 rfl _)
    (dstw := xM0 (Memref.whole cc0_scratch5)) amt_xsS0.symm) $$ [HO WxsS0]
  · isplitr; · iexact HR
    isplitr; · iexact Hlev
    isplitl [HO] <;> iassumption
  iintro ⟨HO, DxsS0⟩
  iapply (step_wt m c (xsR 0) (by decide) 0 (Above.zero _) (xsR_sem 0 rfl _)
    (dstw := xM0 (Memref.whole cc0_scratch6)) (crd_x0.trans amt_xsR0.symm)) $$ [HO WxsR0]
  · isplitr; · iexact HR
    isplitr; · iexact Hlev
    isplitl [HO] <;> iassumption
  iintro ⟨HO, DxsR0⟩
  iapply (step_wt m c (xsS 1) (by decide) 0 (Above.zero _) (xsS_sem 1 rfl _)
    (dstw := xM1 (Memref.whole cc0_scratch5)) amt_xsS1.symm) $$ [HO WxsS1]
  · isplitr; · iexact HR
    isplitr; · iexact Hlev
    isplitl [HO] <;> iassumption
  iintro ⟨HO, DxsS1⟩
  iapply WP_ret
  iapply HQ
  isplitl [HO]; · iexact HO
  isplitl [DxsS0]; · iexact DxsS0
  isplitl [DxsR0] <;> iassumption

end Cert.Run

end
-- ==== Proof.Slices.lean ====
/- Whole buffers as their parts. -/
module

public import proofs.«01_k».proof.Proof.Last

@[expose] public section

noncomputable section

namespace Cert.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.ValueIdx
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## Whole buffers as the heads' parts, and as the two waves -/

theorem hS_univ : (Finset.univ : Finset S8x32x128.Idx) = Finset.univ.biUnion fun h : Fin 8 => hS h.val := by
  refine (Finset.eq_univ_iff_forall.mpr fun i => ?_).symm
  exact Finset.mem_biUnion.mpr ⟨(i 0 : Fin 8), Finset.mem_univ _, Finset.mem_filter.mpr ⟨Finset.mem_univ _, rfl⟩⟩
theorem lS_univ : (Finset.univ : Finset S8x1x32.Idx) = Finset.univ.biUnion fun h : Fin 8 => lS h.val := by
  refine (Finset.eq_univ_iff_forall.mpr fun i => ?_).symm
  exact Finset.mem_biUnion.mpr ⟨(i 0 : Fin 8), Finset.mem_univ _, Finset.mem_filter.mpr ⟨Finset.mem_univ _, rfl⟩⟩
theorem xS_univ : (Finset.univ : Finset S32x1024.Idx) = Finset.univ.biUnion fun w : Fin 2 => xS w.val := by
  refine (Finset.eq_univ_iff_forall.mpr fun i => ?_).symm
  have h : (i 1).val < 1024 := (i 1).isLt
  exact Finset.mem_biUnion.mpr ⟨⟨(i 1).val / 896, by omega⟩, Finset.mem_univ _, Finset.mem_filter.mpr ⟨Finset.mem_univ _, rfl⟩⟩
theorem hSv_disj : ∀ t ∈ (Finset.univ : Finset (Fin 8)), ∀ t' ∈ (Finset.univ : Finset (Fin 8)), t ≠ t' → Disjoint (hS t.val) (hS t'.val) :=
  fun t _ t' _ hne => hS_disj {t.val, t'.val} _ (by simp) _ (by simp) fun h => hne (Fin.ext h)
theorem lSv_disj : ∀ t ∈ (Finset.univ : Finset (Fin 8)), ∀ t' ∈ (Finset.univ : Finset (Fin 8)), t ≠ t' → Disjoint (lS t.val) (lS t'.val) :=
  fun t _ t' _ hne => lS_disj {t.val, t'.val} _ (by simp) _ (by simp) fun h => hne (Fin.ext h)
theorem xSv_disj : ∀ t ∈ (Finset.univ : Finset (Fin 2)), ∀ t' ∈ (Finset.univ : Finset (Fin 2)), t ≠ t' → Disjoint (xS t.val) (xS t'.val) :=
  fun t _ t' _ hne => by
    rw [Finset.disjoint_left]
    intro i h h'
    exact hne (Fin.ext ((Finset.mem_filter.mp h).2.symm.trans (Finset.mem_filter.mp h').2))
omit [FloatOps F] in
theorem whole_ao (c : Dev nD) (f : S8x32x128.Idx → Elt F .f32) :
    (((c : Thread nD τ).loc cc0_scratch1) ↦{fullShare} f : sProp 𝕄) = bigSep Finset.univ fun h : Fin 8 => pAo c h.val f := by
  unfold pAo
  exact (congrArg (fun S => (((c : Thread nD τ).loc cc0_scratch1) ↦[S]{fullShare} f : sProp 𝕄)) hS_univ).trans
    (pointsTo_biUnion (ℓ := (c : Thread nD τ).loc cc0_scratch1) Finset.univ (fun h : Fin 8 => hS h.val) hSv_disj)
omit [FloatOps F] in
theorem parts_ao (c : Dev nD) : (iprop(∃ f, ((c : Thread nD τ).loc cc0_scratch1) ↦{fullShare} f) : sProp 𝕄) ⊢ bigSep Finset.univ fun h : Fin 8 => iprop(∃ f, pAo c h.val f) := by
  iintro ⟨%f, H⟩
  ihave H := (Entails.of_eq (whole_ao c f)) $$ H
  have h : (bigSep Finset.univ fun h : Fin 8 => (pAo c h.val f : sProp 𝕄)) ⊢ bigSep Finset.univ fun h : Fin 8 => iprop(∃ f, pAo c h.val f) :=
    bigSep_mono fun h _ => (show (pAo c h.val f : sProp 𝕄) ⊢ iprop(∃ f, pAo c h.val f) from by iintro H; iexists f; iexact H)
  iapply h $$ H
omit [FloatOps F] in
theorem whole_ro (c : Dev nD) (f : S8x32x128.Idx → Elt F .f32) :
    (((c : Thread nD τ).loc cc0_scratch3) ↦{fullShare} f : sProp 𝕄) = bigSep Finset.univ fun h : Fin 8 => pRo c h.val f := by
  unfold pRo
  exact (congrArg (fun S => (((c : Thread nD τ).loc cc0_scratch3) ↦[S]{fullShare} f : sProp 𝕄)) hS_univ).trans
    (pointsTo_biUnion (ℓ := (c : Thread nD τ).loc cc0_scratch3) Finset.univ (fun h : Fin 8 => hS h.val) hSv_disj)
omit [FloatOps F] in
theorem parts_ro (c : Dev nD) : (iprop(∃ f, ((c : Thread nD τ).loc cc0_scratch3) ↦{fullShare} f) : sProp 𝕄) ⊢ bigSep Finset.univ fun h : Fin 8 => iprop(∃ f, pRo c h.val f) := by
  iintro ⟨%f, H⟩
  ihave H := (Entails.of_eq (whole_ro c f)) $$ H
  have h : (bigSep Finset.univ fun h : Fin 8 => (pRo c h.val f : sProp 𝕄)) ⊢ bigSep Finset.univ fun h : Fin 8 => iprop(∃ f, pRo c h.val f) :=
    bigSep_mono fun h _ => (show (pRo c h.val f : sProp 𝕄) ⊢ iprop(∃ f, pRo c h.val f) from by iintro H; iexists f; iexact H)
  iapply h $$ H
omit [FloatOps F] in
theorem whole_al (c : Dev nD) (f : S8x1x32.Idx → Elt F .f32) :
    (((c : Thread nD τ).loc cc0_scratch2) ↦{fullShare} f : sProp 𝕄) = bigSep Finset.univ fun h : Fin 8 => pAl c h.val f := by
  unfold pAl
  exact (congrArg (fun S => (((c : Thread nD τ).loc cc0_scratch2) ↦[S]{fullShare} f : sProp 𝕄)) lS_univ).trans
    (pointsTo_biUnion (ℓ := (c : Thread nD τ).loc cc0_scratch2) Finset.univ (fun h : Fin 8 => lS h.val) lSv_disj)
omit [FloatOps F] in
theorem parts_al (c : Dev nD) : (iprop(∃ f, ((c : Thread nD τ).loc cc0_scratch2) ↦{fullShare} f) : sProp 𝕄) ⊢ bigSep Finset.univ fun h : Fin 8 => iprop(∃ f, pAl c h.val f) := by
  iintro ⟨%f, H⟩
  ihave H := (Entails.of_eq (whole_al c f)) $$ H
  have h : (bigSep Finset.univ fun h : Fin 8 => (pAl c h.val f : sProp 𝕄)) ⊢ bigSep Finset.univ fun h : Fin 8 => iprop(∃ f, pAl c h.val f) :=
    bigSep_mono fun h _ => (show (pAl c h.val f : sProp 𝕄) ⊢ iprop(∃ f, pAl c h.val f) from by iintro H; iexists f; iexact H)
  iapply h $$ H
omit [FloatOps F] in
theorem whole_rl (c : Dev nD) (f : S8x1x32.Idx → Elt F .f32) :
    (((c : Thread nD τ).loc cc0_scratch4) ↦{fullShare} f : sProp 𝕄) = bigSep Finset.univ fun h : Fin 8 => pRl c h.val f := by
  unfold pRl
  exact (congrArg (fun S => (((c : Thread nD τ).loc cc0_scratch4) ↦[S]{fullShare} f : sProp 𝕄)) lS_univ).trans
    (pointsTo_biUnion (ℓ := (c : Thread nD τ).loc cc0_scratch4) Finset.univ (fun h : Fin 8 => lS h.val) lSv_disj)
omit [FloatOps F] in
theorem parts_rl (c : Dev nD) : (iprop(∃ f, ((c : Thread nD τ).loc cc0_scratch4) ↦{fullShare} f) : sProp 𝕄) ⊢ bigSep Finset.univ fun h : Fin 8 => iprop(∃ f, pRl c h.val f) := by
  iintro ⟨%f, H⟩
  ihave H := (Entails.of_eq (whole_rl c f)) $$ H
  have h : (bigSep Finset.univ fun h : Fin 8 => (pRl c h.val f : sProp 𝕄)) ⊢ bigSep Finset.univ fun h : Fin 8 => iprop(∃ f, pRl c h.val f) :=
    bigSep_mono fun h _ => (show (pRl c h.val f : sProp 𝕄) ⊢ iprop(∃ f, pRl c h.val f) from by iintro H; iexists f; iexact H)
  iapply h $$ H
omit [FloatOps F] in
theorem whole_xs (c : Dev nD) (f : S32x1024.Idx → Elt F .f32) :
    (((c : Thread nD τ).loc cc0_scratch5) ↦{fullShare} f : sProp 𝕄) = bigSep Finset.univ fun h : Fin 2 => pXs c h.val f := by
  unfold pXs
  exact (congrArg (fun S => (((c : Thread nD τ).loc cc0_scratch5) ↦[S]{fullShare} f : sProp 𝕄)) xS_univ).trans
    (pointsTo_biUnion (ℓ := (c : Thread nD τ).loc cc0_scratch5) Finset.univ (fun h : Fin 2 => xS h.val) xSv_disj)
omit [FloatOps F] in
theorem parts_xs (c : Dev nD) : (iprop(∃ f, ((c : Thread nD τ).loc cc0_scratch5) ↦{fullShare} f) : sProp 𝕄) ⊢ bigSep Finset.univ fun h : Fin 2 => iprop(∃ f, pXs c h.val f) := by
  iintro ⟨%f, H⟩
  ihave H := (Entails.of_eq (whole_xs c f)) $$ H
  have h : (bigSep Finset.univ fun h : Fin 2 => (pXs c h.val f : sProp 𝕄)) ⊢ bigSep Finset.univ fun h : Fin 2 => iprop(∃ f, pXs c h.val f) :=
    bigSep_mono fun h _ => (show (pXs c h.val f : sProp 𝕄) ⊢ iprop(∃ f, pXs c h.val f) from by iintro H; iexists f; iexact H)
  iapply h $$ H
omit [FloatOps F] in
theorem whole_xr (c : Dev nD) (f : S32x1024.Idx → Elt F .f32) :
    (((c : Thread nD τ).loc cc0_scratch6) ↦{fullShare} f : sProp 𝕄) = bigSep Finset.univ fun h : Fin 2 => pXr c h.val f := by
  unfold pXr
  exact (congrArg (fun S => (((c : Thread nD τ).loc cc0_scratch6) ↦[S]{fullShare} f : sProp 𝕄)) xS_univ).trans
    (pointsTo_biUnion (ℓ := (c : Thread nD τ).loc cc0_scratch6) Finset.univ (fun h : Fin 2 => xS h.val) xSv_disj)
omit [FloatOps F] in
theorem parts_xr (c : Dev nD) : (iprop(∃ f, ((c : Thread nD τ).loc cc0_scratch6) ↦{fullShare} f) : sProp 𝕄) ⊢ bigSep Finset.univ fun h : Fin 2 => iprop(∃ f, pXr c h.val f) := by
  iintro ⟨%f, H⟩
  ihave H := (Entails.of_eq (whole_xr c f)) $$ H
  have h : (bigSep Finset.univ fun h : Fin 2 => (pXr c h.val f : sProp 𝕄)) ⊢ bigSep Finset.univ fun h : Fin 2 => iprop(∃ f, pXr c h.val f) :=
    bigSep_mono fun h _ => (show (pXr c h.val f : sProp 𝕄) ⊢ iprop(∃ f, pXr c h.val f) from by iintro H; iexists f; iexact H)
  iapply h $$ H

/-- The buffers' parts and the tokens make up the heads, and the waves. -/
theorem heads_intro (c : Dev nD) :
    iprop((∃ f, ((c : Thread nD τ).loc cc0_scratch1) ↦{fullShare} f) ∗ (∃ f, ((c : Thread nD τ).loc cc0_scratch2) ↦{fullShare} f)
        ∗ barPay c false ∗ bigSep Finset.univ (pre c)) ⊢ heads (F := F) c 0 := by
  unfold heads barPay
  rw [if_neg (by decide)]
  have he : (bigSep Finset.univ fun h : Fin 8 => if h.val < 0 then sent (F := F) c h else todo c h)
      = iprop((bigSep Finset.univ fun h : Fin 8 => iprop(∃ f, pAo c h.val f)) ∗ (bigSep Finset.univ fun h : Fin 8 => iprop(∃ f, pAl c h.val f))
        ∗ (bigSep Finset.univ fun h : Fin 8 => iprop(∃ f, pRo (yp c) h.val f)) ∗ (bigSep Finset.univ fun h : Fin 8 => iprop(∃ f, pRl (yp c) h.val f))
        ∗ bigSep Finset.univ (pre c)) := by
    rw [← bigSep_sep', ← bigSep_sep', ← bigSep_sep', ← bigSep_sep']
    exact bigSep_congr fun h _ => if_neg (by omega)
  rw [he]
  iintro ⟨H1, H2, ⟨H3, H4⟩, Hp⟩
  isplitl [H1]; · iapply (parts_ao c) $$ H1
  isplitl [H2]; · iapply (parts_al c) $$ H2
  isplitl [H3]; · iapply (parts_ro (yp c)) $$ H3
  isplitl [H4]; · iapply (parts_rl (yp c)) $$ H4
  iexact Hp
theorem xtodo_intro (c : Dev nD) :
    iprop((∃ f, ((c : Thread nD τ).loc cc0_scratch5) ↦{fullShare} f) ∗ barPay c true ∗ xpre c) ⊢ xtodo (F := F) c := by
  unfold xtodo barPay
  rw [if_pos rfl]
  iintro ⟨H1, H2, Hp⟩
  ihave H1 := (show (iprop(∃ f, ((c : Dev nD) : Thread nD τ).loc cc0_scratch5 ↦{fullShare} f) : sProp 𝕄) ⊢ iprop((∃ f, pXs c 0 f) ∗ (∃ f, pXs c 1 f)) from BIBase.Entails.trans (parts_xs c) (Entails.of_eq (bigSep_fin_two _))) $$ H1
  ihave H2 := (show (iprop(∃ f, (((xp c) : Dev nD) : Thread nD τ).loc cc0_scratch6 ↦{fullShare} f) : sProp 𝕄) ⊢ iprop((∃ f, pXr (xp c) 0 f) ∗ (∃ f, pXr (xp c) 1 f)) from BIBase.Entails.trans (parts_xr (xp c)) (Entails.of_eq (bigSep_fin_two _))) $$ H2
  icases H1 with ⟨H1, H1'⟩
  icases H2 with ⟨H2, H2'⟩
  isplitl [H1]; · iexact H1
  isplitl [H1']; · iexact H1'
  isplitl [H2]; · iexact H2
  isplitl [H2'] <;> iassumption
theorem join_xs (c : Dev nD) (f : S32x1024.Idx → Elt F .f32) : (((c : Thread nD τ).loc cc0_scratch5) ↦{fullShare} f : sProp 𝕄) = iprop(pXs c 0 f ∗ pXs c 1 f) :=
  (whole_xs c f).trans (bigSep_fin_two _)
theorem join_xr (c : Dev nD) (f : S32x1024.Idx → Elt F .f32) : (((c : Thread nD τ).loc cc0_scratch6) ↦{fullShare} f : sProp 𝕄) = iprop(pXr c 0 f ∗ pXr c 1 f) :=
  (whole_xr c f).trans (bigSep_fin_two _)

end Cert.Run

end
-- ==== Proof.Step.lean ====
/- One step of the kernel's loop on one device: the first, one between, the last. -/
module

public import proofs.«01_k».proof.Proof.Slices

@[expose] public section

noncomputable section

namespace Cert.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.ValueIdx
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

theorem OY_step (c : Dev nD) {t : ℕ} (ht : t < 8) :
    OY c (8 - t) = OY c (8 - (t + 1)) + tallyAt (dC (yp c) (ylR (fh t))) () Nl + tallyAt (dC (yp c) (yoR (fh t))) () No := by
  obtain ⟨n, hn⟩ : ∃ n, 8 - t = n + 1 := ⟨7 - t, by omega⟩
  have hf : (⟨7 - n, by omega⟩ : Fin 8) = fh t := Fin.ext (by rw [fh_val ht]; show 7 - n = t; omega)
  rw [hn, show 8 - (t + 1) = n by omega]
  show OY c n + tallyAt (dC (yp c) (ylR ⟨7 - n, _⟩)) () Nl + tallyAt (dC (yp c) (yoR ⟨7 - n, _⟩)) () No = _
  rw [hf]
theorem OY_above0 (c : Dev nD) (t : ℕ) : Above 0 (OY c (8 - t)) := (OY_above c (8 - t) (by omega)).mono (by omega)

set_option maxHeartbeats 4000000 in
/-- A step between. -/
theorem body_mid (i : grid0.Coords) (t : ℕ) (hi : (i 0).val = t) (h0 : t ≠ 0) (ht : t < 7) (c : Dev nD) {Q : PUnit → sProp 𝕄} :
    iprop(recs m ∗ levAts L lv ∗ Ow c (OY c (8 - t)) ∗ (((c : Thread nD τ).loc cc0_scratch0) ↦{fullShare} wkC m c) ∗ heads c t ∗ fly m c (fs t) (fh t) ∗ idle m c (fs (t + 1)))
      ⊢ iprop(((Ow c (OY c (8 - (t + 1))) ∗ (((c : Thread nD τ).loc cc0_scratch0) ↦{fullShare} wkC m c) ∗ heads c (t + 1) ∗ fly m c (fs (t + 1)) (fh (t + 1)) ∗ idle m c (fs t)) -∗ Q ⟨⟩)
          -∗ WP c (theBody i) Q) := by
  unfold theBody
  rw [cc0_body_eq_skeleton]
  unfold cc0_body_skel
  simp only [Prog.lift, Prog.bind_op, Prog.bind_ret, Prog.pure_eq_ret]
  have hv' : (fh t).val = t := fh_val (by omega)
  iintro ⟨#HR, #Hlev, HO, Hw, Hh, Hf, Hi⟩ HQ
  rw [WP_bind]
  iapply (part17_mid m i t hi h0 ht c) $$ [Hi]
  · iexact Hi
  iintro Hn
  unfold fly
  icases Hf with ⟨Hq, Hk0, Hv0, Hk1, Hv1⟩
  ihave Hh := (heads_take c (by omega)) $$ Hh
  unfold todo
  icases Hh with ⟨⟨Ao, Al, Ro, Rl, Hp⟩, HhK⟩
  dsimp only
  try simp only [Prog.bind_assoc]
  rw [WP_bind]
  iapply (part18 m i t hi c (OY c (8 - t)) (OY_above0 c t) _ _ _) $$ [HO Hq Hk0 Hv0]
  · isplitr; · iexact Hlev
    isplitl [HO]; · iexact HO
    isplitl [Hq]; · iexact Hq
    isplitl [Hk0]; · iexact Hk0
    iexact Hv0
  iintro ⟨HO, Hq, Hk0, Hv0⟩
  rw [WP_bind]
  iapply (part19 m i t hi c (OY c (8 - t)) (OY_above0 c t) _) $$ [HO Hq Hk1 Hv1]
  · isplitr; · iexact Hlev
    isplitl [HO]; · iexact HO
    isplitl [Hq]; · iexact Hq
    isplitl [Hk1]; · iexact Hk1
    iexact Hv1
  iintro %x %y %z ⟨HO, Hq, Hk1, Hv1⟩
  dsimp only
  rw [WP_bind]
  iapply (part20 m i t hi c _ x y z) $$ [Hk0 Hk1 Hv0 Hv1 Hw Al Ao]
  · isplitl [Hk0]; · iexact Hk0
    isplitl [Hk1]; · iexact Hk1
    isplitl [Hv0]; · iexact Hv0
    isplitl [Hv1]; · iexact Hv1
    isplitl [Hw]; · iexact Hw
    isplitl [Al]; · iexact Al
    iexact Ao
  iintro %r ⟨Hk0, Hk1, Hv0, Hv1, Hw, Al, Ao⟩
  unfold pre
  icases Hp with ⟨To, Tl, Wro, Wrl⟩
  ihave HO := (Entails.of_eq (congrArg (Ow c) (OY_step c (by omega)))) $$ HO
  iapply (step_sendO m c _ (dev4_eq c _) (fh t) (yoS_sem (fh t) ((k0_off30_eq i).trans (by rw [hi, hv'])) _) (yoR_sem (fh t) ((k0_off30_eq i).trans (by rw [hi, hv'])) _)
    (hM_eq _ (fh t) ((k0_off31_eq i).trans (by rw [hi, hv']))) (hM_eq _ (fh t) ((k0_off31_eq i).trans (by rw [hi, hv']))) (OY c (8 - (t + 1)) + tallyAt (dC (yp c) (ylR (fh t))) () Nl)) $$ [HO Ao Ro To]
  · isplitr; · iexact HR
    isplitl [Ao]; · iexact Ao
    isplitl [Ro]; · iexact Ro
    isplitl [HO]; · iexact HO
    iexact To
  iintro ⟨HO, Wso⟩
  iapply (step_sendL m c _ (dev5_eq c _) (fh t) (ylS_sem (fh t) ((k0_off30_eq i).trans (by rw [hi, hv'])) _) (ylR_sem (fh t) ((k0_off30_eq i).trans (by rw [hi, hv'])) _)
    (lM_eq _ (fh t) ((k0_off32_eq i).trans (by rw [hi, hv']))) (lM_eq _ (fh t) ((k0_off32_eq i).trans (by rw [hi, hv']))) (OY c (8 - (t + 1)))) $$ [HO Al Rl Tl]
  · isplitr; · iexact HR
    isplitl [Al]; · iexact Al
    isplitl [Rl]; · iexact Rl
    isplitl [HO]; · iexact HO
    iexact Tl
  iintro ⟨HO, Wsl⟩
  rw [dif_neg (cond4_neg i (by omega))]
  try simp only [Prog.bind_ret, Prog.bind_op]
  iapply WP_ret
  iapply HQ
  ihave Hi := (landed_idle m c _ _) $$ [Hq Hk0 Hv0 Hk1 Hv1]
  · isplitl [Hq]; · iexact Hq
    isplitl [Hk0]; · iexact Hk0
    isplitl [Hv0]; · iexact Hv0
    isplitl [Hk1]; · iexact Hk1
    iexact Hv1
  ihave Hh := HhK $$ [Wso Wsl Wro Wrl]
  · unfold sent
    isplitl [Wso]; · iexact Wso
    isplitl [Wro]; · iexact Wro
    isplitl [Wsl]; · iexact Wsl
    iexact Wrl
  isplitl [HO]; · iexact HO
  isplitl [Hw]; · iexact Hw
  isplitl [Hh]; · iexact Hh
  isplitl [Hn]; · iexact Hn
  iexact Hi

set_option maxHeartbeats 4000000 in
/-- The first step. -/
theorem body_first (i : grid0.Coords) (hi : (i 0).val = 0) (c : Dev nD) {Q : PUnit → sProp 𝕄} :
    iprop(recs m ∗ levAts L lv ∗ Ow c (O₀ c) ∗ idle m c 0 ∗ idle m c 1
        ∗ dutyTok ER (barC (yp c)) 0 false ∗ dutyTok ER (barC (xp c)) 0 true ∗ cred (tallyAt (barC c) () 2) ∗ atPos ER (barC c) 0 ∅ 0
        ∗ (∃ f, ((c : Thread nD τ).loc cc0_scratch0) ↦{fullShare} f)
        ∗ (∃ f, ((c : Thread nD τ).loc cc0_scratch1) ↦{fullShare} f) ∗ (∃ f, ((c : Thread nD τ).loc cc0_scratch2) ↦{fullShare} f)
        ∗ (∃ f, ((c : Thread nD τ).loc cc0_scratch3) ↦{fullShare} f) ∗ (∃ f, ((c : Thread nD τ).loc cc0_scratch4) ↦{fullShare} f)
        ∗ (∃ f, ((c : Thread nD τ).loc cc0_scratch5) ↦{fullShare} f) ∗ (∃ f, ((c : Thread nD τ).loc cc0_scratch6) ↦{fullShare} f)
        ∗ bigSep Finset.univ (pre c) ∗ xpre c
        ∗ (((c : Thread nD τ).loc cc0_stg0_0) ↦{fullShare} btA m c) ∗ (((c : Thread nD τ).loc cc0_stg1_0) ↦{fullShare} lnA m c))
      ⊢ iprop(((Ow c (OY c 7) ∗ semVal (barC c) 0 ∗ (((c : Thread nD τ).loc cc0_scratch0) ↦{fullShare} wkC m c) ∗ heads c 1 ∗ xtodo c ∗ fly m c 1 1 ∗ idle m c 0 ∗ (((c : Thread nD τ).loc cc0_stg0_0) ↦{fullShare} btA m c) ∗ (((c : Thread nD τ).loc cc0_stg1_0) ↦{fullShare} lnA m c)) -∗ Q ⟨⟩)
          -∗ WP c (theBody i) Q) := by
  unfold theBody
  rw [cc0_body_eq_skeleton]
  unfold cc0_body_skel
  simp only [Prog.lift, Prog.bind_op, Prog.bind_ret, Prog.pure_eq_ret]
  have hv' : (fh 0).val = 0 := fh_val (by omega)
  iintro ⟨#HR, #Hlev, HO, Hi0, Hi1, Ty, Tx, Hc, Hat, Hw, H1, H2, H3, H4, H5, H6, Hpre, Hxp, S0, S1⟩ HQ
  rw [WP_bind]
  iapply (part17_first m i hi c) $$ [HO Hi0 Hi1 Ty Tx Hc Hat Hw H3 H4 H6 S0 S1]
  · isplitr; · iexact HR
    isplitr; · iexact Hlev
    isplitl [HO]; · iexact HO
    isplitl [Hi0]; · iexact Hi0
    isplitl [Hi1]; · iexact Hi1
    isplitl [Ty]; · iexact Ty
    isplitl [Tx]; · iexact Tx
    isplitl [Hc]; · iexact Hc
    isplitl [Hat]; · iexact Hat
    isplitl [Hw]; · iexact Hw
    isplitl [H3]; · iexact H3
    isplitl [H4]; · iexact H4
    isplitl [H6]; · iexact H6
    isplitl [S0]; · iexact S0
    iexact S1
  iintro ⟨HO, Hf, Hn, Hb, Hy, Hx, Hw, S0, S1⟩
  ihave Hh := (heads_intro c) $$ [H1 H2 Hy Hpre]
  · isplitl [H1]; · iexact H1
    isplitl [H2]; · iexact H2
    isplitl [Hy]; · iexact Hy
    iexact Hpre
  ihave Hx := (xtodo_intro c) $$ [H5 Hx Hxp]
  · isplitl [H5]; · iexact H5
    isplitl [Hx]; · iexact Hx
    iexact Hxp
  unfold fly
  icases Hf with ⟨Hq, Hk0, Hv0, Hk1, Hv1⟩
  ihave Hh := (heads_take c (t := 0) (by omega)) $$ Hh
  unfold todo
  icases Hh with ⟨⟨Ao, Al, Ro, Rl, Hp⟩, HhK⟩
  dsimp only
  try simp only [Prog.bind_assoc]
  rw [WP_bind]
  iapply (part18 m i 0 hi c (OY c 8) (OY_above0 c 0) _ _ _) $$ [HO Hq Hk0 Hv0]
  · isplitr; · iexact Hlev
    isplitl [HO]; · iexact HO
    isplitl [Hq]; · iexact Hq
    isplitl [Hk0]; · iexact Hk0
    iexact Hv0
  iintro ⟨HO, Hq, Hk0, Hv0⟩
  rw [WP_bind]
  iapply (part19 m i 0 hi c (OY c 8) (OY_above0 c 0) _) $$ [HO Hq Hk1 Hv1]
  · isplitr; · iexact Hlev
    isplitl [HO]; · iexact HO
    isplitl [Hq]; · iexact Hq
    isplitl [Hk1]; · iexact Hk1
    iexact Hv1
  iintro %x %y %z ⟨HO, Hq, Hk1, Hv1⟩
  dsimp only
  rw [WP_bind]
  iapply (part20 m i 0 hi c _ x y z) $$ [Hk0 Hk1 Hv0 Hv1 Hw Al Ao]
  · isplitl [Hk0]; · iexact Hk0
    isplitl [Hk1]; · iexact Hk1
    isplitl [Hv0]; · iexact Hv0
    isplitl [Hv1]; · iexact Hv1
    isplitl [Hw]; · iexact Hw
    isplitl [Al]; · iexact Al
    iexact Ao
  iintro %r ⟨Hk0, Hk1, Hv0, Hv1, Hw, Al, Ao⟩
  unfold pre
  icases Hp with ⟨To, Tl, Wro, Wrl⟩
  ihave HO := (Entails.of_eq (congrArg (Ow c) (show OY c 8 = _ from OY_step c (t := 0) (by omega)))) $$ HO
  iapply (step_sendO m c _ (dev4_eq c _) (fh 0) (yoS_sem (fh 0) ((k0_off30_eq i).trans (by rw [hi, hv'])) _) (yoR_sem (fh 0) ((k0_off30_eq i).trans (by rw [hi, hv'])) _)
    (hM_eq _ (fh 0) ((k0_off31_eq i).trans (by rw [hi, hv']))) (hM_eq _ (fh 0) ((k0_off31_eq i).trans (by rw [hi, hv']))) (OY c 7 + tallyAt (dC (yp c) (ylR (fh 0))) () Nl)) $$ [HO Ao Ro To]
  · isplitr; · iexact HR
    isplitl [Ao]; · iexact Ao
    isplitl [Ro]; · iexact Ro
    isplitl [HO]; · iexact HO
    iexact To
  iintro ⟨HO, Wso⟩
  iapply (step_sendL m c _ (dev5_eq c _) (fh 0) (ylS_sem (fh 0) ((k0_off30_eq i).trans (by rw [hi, hv'])) _) (ylR_sem (fh 0) ((k0_off30_eq i).trans (by rw [hi, hv'])) _)
    (lM_eq _ (fh 0) ((k0_off32_eq i).trans (by rw [hi, hv']))) (lM_eq _ (fh 0) ((k0_off32_eq i).trans (by rw [hi, hv']))) (OY c 7)) $$ [HO Al Rl Tl]
  · isplitr; · iexact HR
    isplitl [Al]; · iexact Al
    isplitl [Rl]; · iexact Rl
    isplitl [HO]; · iexact HO
    iexact Tl
  iintro ⟨HO, Wsl⟩
  rw [dif_neg (cond4_neg i (by omega))]
  try simp only [Prog.bind_ret, Prog.bind_op]
  iapply WP_ret
  iapply HQ
  ihave Hi := (landed_idle m c _ _) $$ [Hq Hk0 Hv0 Hk1 Hv1]
  · isplitl [Hq]; · iexact Hq
    isplitl [Hk0]; · iexact Hk0
    isplitl [Hv0]; · iexact Hv0
    isplitl [Hk1]; · iexact Hk1
    iexact Hv1
  ihave Hh := HhK $$ [Wso Wsl Wro Wrl]
  · unfold sent
    isplitl [Wso]; · iexact Wso
    isplitl [Wro]; · iexact Wro
    isplitl [Wsl]; · iexact Wsl
    iexact Wrl
  isplitl [HO]; · iexact HO
  isplitl [Hb]; · iexact Hb
  isplitl [Hw]; · iexact Hw
  isplitl [Hh]; · iexact Hh
  isplitl [Hx]; · iexact Hx
  isplitl [Hn]; · iexact Hn
  isplitl [Hi]; · iexact Hi
  isplitl [S0]; · iexact S0
  iexact S1

theorem read_x5 (f : S32x1024.Idx → Elt F .f32) (hi) :
    (Memref.whole cc0_scratch5 : Memref sig .tc .vmem S32x1024 .f32).view.readAt (Elt F) (Rect.unit (s := S32x1024) ![0, 0] S32x1024.size hi).toLoadRect f = f :=
  Memref.readAt_unit_zero (Elt F) cc0_scratch5 zero2 hi f
theorem read_x6 (f : S32x1024.Idx → Elt F .f32) (hi) :
    (Memref.whole cc0_scratch6 : Memref sig .tc .vmem S32x1024 .f32).view.readAt (Elt F) (Rect.unit (s := S32x1024) ![0, 0] S32x1024.size hi).toLoadRect f = f :=
  Memref.readAt_unit_zero (Elt F) cc0_scratch6 zero2 hi f
theorem store_out (c : Dev nD) (hi) (f : S32x2048.Idx → Elt F .f32) :
    ((Memref.whole cc0_stg2_0 : Memref sig .tc .vmem S32x2048 .f32).access (Rect.unit (s := S32x2048) ![0, 0] S32x2048.size hi)).write (Elt F) f
      (k0_pay1 (wx c) (xC m c) (xC m (xp c))) Finset.univ = outC m c :=
  Memref.write_access_unit_zero_univ (Elt F) cc0_stg2_0 zero2 hi f _

set_option maxHeartbeats 4000000 in
/-- The last step. -/
theorem body_last (i : grid0.Coords) (hi : (i 0).val = 7) (c : Dev nD) {Q : PUnit → sProp 𝕄} :
    iprop(recs m ∗ levAts L lv ∗ Ow c (OY c 1) ∗ (((c : Thread nD τ).loc cc0_scratch0) ↦{fullShare} wkC m c) ∗ heads c 7 ∗ xtodo c ∗ fly m c (fs 7) (fh 7)
        ∗ (∃ f, ((c : Thread nD τ).loc cc0_stg2_0) ↦{fullShare} f))
      ⊢ iprop(((Ow c 0 ∗ (((c : Thread nD τ).loc cc0_scratch0) ↦{fullShare} wkC m c) ∗ bigSep Finset.univ (done m c) ∗ xdone m c ∗ idle m c (fs 7)
          ∗ (((c : Thread nD τ).loc cc0_stg2_0) ↦{fullShare} outC m c)) -∗ Q ⟨⟩)
          -∗ WP c (theBody i) Q) := by
  unfold theBody
  rw [cc0_body_eq_skeleton]
  unfold cc0_body_skel
  simp only [Prog.lift, Prog.bind_op, Prog.bind_ret, Prog.pure_eq_ret]
  have hv' : (fh 7).val = 7 := fh_val (by omega)
  iintro ⟨#HR, #Hlev, HO, Hw, Hh, Hx, Hf, ⟨%fo, Hout⟩⟩ HQ
  ihave Hh := (Entails.of_eq (heads_seven c)) $$ Hh
  icases Hh with ⟨Hs0, Hs1, Hs2, Hs3, Hs4, Hs5, Hs6, Ht7⟩
  unfold xtodo xpre
  icases Hx with ⟨X0, X1, R0, R1, T0, T1, W0, W1⟩
  rw [WP_bind]
  iapply (part17_last m i hi c) $$ [HO Hs0 Hs1 Hs2 Hs3 Hs4 Hs5 Hs6 X0 R0 T0]
  · isplitr; · iexact HR
    isplitr; · iexact Hlev
    isplitl [HO]; · iexact HO
    isplitl [Hs0 Hs1 Hs2 Hs3 Hs4 Hs5 Hs6]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      iexact Hs6
    isplitl [X0]; · iexact X0
    isplitl [R0]; · iexact R0
    iexact T0
  iintro ⟨HO, ⟨Hs0, Hs1, Hs2, Hs3, Hs4, Hs5, Hs6⟩, Wx0⟩
  unfold fly
  icases Hf with ⟨Hq, Hk0, Hv0, Hk1, Hv1⟩
  unfold todo
  icases Ht7 with ⟨Ao, Al, Ro, Rl, Hp⟩
  dsimp only
  try simp only [Prog.bind_assoc]
  rw [WP_bind]
  iapply (part18 m i 7 hi c (OZ c) ((OZ_above c).mono (by decide)) _ _ _) $$ [HO Hq Hk0 Hv0]
  · isplitr; · iexact Hlev
    isplitl [HO]; · iexact HO
    isplitl [Hq]; · iexact Hq
    isplitl [Hk0]; · iexact Hk0
    iexact Hv0
  iintro ⟨HO, Hq, Hk0, Hv0⟩
  rw [WP_bind]
  iapply (part19 m i 7 hi c (OZ c) ((OZ_above c).mono (by decide)) _) $$ [HO Hq Hk1 Hv1]
  · isplitr; · iexact Hlev
    isplitl [HO]; · iexact HO
    isplitl [Hq]; · iexact Hq
    isplitl [Hk1]; · iexact Hk1
    iexact Hv1
  iintro %x %y %z ⟨HO, Hq, Hk1, Hv1⟩
  dsimp only
  rw [WP_bind]
  iapply (part20 m i 7 hi c _ x y z) $$ [Hk0 Hk1 Hv0 Hv1 Hw Al Ao]
  · isplitl [Hk0]; · iexact Hk0
    isplitl [Hk1]; · iexact Hk1
    isplitl [Hv0]; · iexact Hv0
    isplitl [Hv1]; · iexact Hv1
    isplitl [Hw]; · iexact Hw
    isplitl [Al]; · iexact Al
    iexact Ao
  iintro %r ⟨Hk0, Hk1, Hv0, Hv1, Hw, Al, Ao⟩
  unfold pre
  icases Hp with ⟨To, Tl, Wro, Wrl⟩
  ihave HO := (Entails.of_eq (congrArg (Ow c) (show OZ c = _ from rfl))) $$ HO
  iapply (step_sendO m c _ (dev4_eq c _) (fh 7) (yoS_sem (fh 7) ((k0_off30_eq i).trans (by rw [hi, hv'])) _) (yoR_sem (fh 7) ((k0_off30_eq i).trans (by rw [hi, hv'])) _)
    (hM_eq _ (fh 7) ((k0_off31_eq i).trans (by rw [hi, hv']))) (hM_eq _ (fh 7) ((k0_off31_eq i).trans (by rw [hi, hv']))) (tallyAt (dC (xp c) (xsR 1)) () Nx1 + tallyAt (dC (yp c) (ylR (fh 7))) () Nl)) $$ [HO Ao Ro To]
  · isplitr; · iexact HR
    isplitl [Ao]; · iexact Ao
    isplitl [Ro]; · iexact Ro
    isplitl [HO]; · iexact HO
    iexact To
  iintro ⟨HO, Wso⟩
  iapply (step_sendL m c _ (dev5_eq c _) (fh 7) (ylS_sem (fh 7) ((k0_off30_eq i).trans (by rw [hi, hv'])) _) (ylR_sem (fh 7) ((k0_off30_eq i).trans (by rw [hi, hv'])) _)
    (lM_eq _ (fh 7) ((k0_off32_eq i).trans (by rw [hi, hv']))) (lM_eq _ (fh 7) ((k0_off32_eq i).trans (by rw [hi, hv']))) (tallyAt (dC (xp c) (xsR 1)) () Nx1)) $$ [HO Al Rl Tl]
  · isplitr; · iexact HR
    isplitl [Al]; · iexact Al
    isplitl [Rl]; · iexact Rl
    isplitl [HO]; · iexact HO
    iexact Tl
  iintro ⟨HO, Wsl⟩
  ihave Hs7 := (show iprop(Wt c (yoS 7) ∗ Wt c (yoR 7) ∗ Wt c (ylS 7) ∗ Wt c (ylR 7)) ⊢ iprop(Wt c (yoS 7) ∗ Wt c (yoR 7) ∗ Wt c (ylS 7) ∗ Wt c (ylR 7)) from BIBase.Entails.rfl) $$ [Wso Wro Wsl Wrl]
  · isplitl [Wso]; · iexact Wso
    isplitl [Wro]; · iexact Wro
    isplitl [Wsl]; · iexact Wsl
    iexact Wrl
  icases Hs7 with ⟨Wso, Wro, Wsl, Wrl⟩
  rw [dif_pos (cond4_pos i hi)]
  try simp only [Prog.bind_assoc]
  rw [WP_bind]
  iapply (part14 m i c (tallyAt (dC (xp c) (xsR 1)) () Nx1) ((OX1_above c).mono (by decide)) _ _) $$ [HO Wso Wro Wsl]
  · isplitr; · iexact HR
    isplitr; · iexact Hlev
    isplitl [HO]; · iexact HO
    isplitl [Wso]; · iexact Wso
    isplitl [Wro]; · iexact Wro
    iexact Wsl
  iintro %r' ⟨HO, Wso, Wro, Wsl⟩
  try simp only [Prog.bind_assoc]
  rw [WP_bind]
  iapply (part15 m i c (tallyAt (dC (xp c) (xsR 1)) () Nx1) ((OX1_above c).mono (by decide)) _ _ _ _) $$ [HO Wrl Wso Wro Wsl X1]
  · isplitr; · iexact HR
    isplitr; · iexact Hlev
    isplitl [HO]; · iexact HO
    isplitl [Wrl]; · iexact Wrl
    isplitl [Wso]; · iexact Wso
    isplitl [Wro]; · iexact Wro
    isplitl [Wsl]; · iexact Wsl
    iexact X1
  iintro ⟨HO, Hs7, X1⟩
  try simp only [Prog.bind_assoc]
  rw [WP_bind]
  iapply (part16 m i c _ _ _) $$ [HO X1 R1 T1 Wx0 W0]
  · isplitr; · iexact HR
    isplitr; · iexact Hlev
    isplitl [HO]; · iexact HO
    isplitl [X1]; · iexact X1
    isplitl [R1]; · iexact R1
    isplitl [T1]; · iexact T1
    isplitl [Wx0]; · iexact Wx0
    iexact W0
  iintro ⟨HO, D0, E0, D1⟩
  try simp only [Prog.bind_op, Prog.bind_ret]
  iapply (step_wt m c (xsR 1) (by decide) 0 (Above.zero _) (xsR_sem 1 rfl _)
    (dstw := xM1 (Memref.whole cc0_scratch6)) (crd_x1.trans amt_xsR1.symm)) $$ [HO W1]
  · isplitr; · iexact HR
    isplitr; · iexact Hlev
    isplitl [HO] <;> iassumption
  iintro ⟨HO, E1⟩
  ihave D0 := (Entails.of_eq (Dn_xsS m c 0)) $$ D0
  icases D0 with ⟨SD0, D0⟩
  ihave D1 := (Entails.of_eq (Dn_xsS m c 1)) $$ D1
  icases D1 with ⟨SD1, D1⟩
  ihave E0 := (Entails.of_eq (Dn_xsR m c 0)) $$ E0
  icases E0 with ⟨SE0, E0⟩
  ihave E1 := (Entails.of_eq (Dn_xsR m c 1)) $$ E1
  icases E1 with ⟨SE1, E1⟩
  ihave D := (Entails.of_eq (join_xs c (xC m c)).symm) $$ [D0 D1]
  · isplitl [D0]; · iexact D0
    iexact D1
  ihave E := (Entails.of_eq (join_xr c (xC m (xp c))).symm) $$ [E0 E1]
  · isplitl [E0]; · iexact E0
    iexact E1
  iapply (wp_load 𝒱₀ (c : Thread nD τ) none Set.univ (m := (Memref.whole cc0_scratch5 : Memref sig .tc .vmem S32x1024 .f32)) (Finset.subset_univ _)) $$ [D]
  · iexact D
  iintro D
  rw [read_x5]
  iapply (wp_load 𝒱₀ (c : Thread nD τ) none Set.univ (m := (Memref.whole cc0_scratch6 : Memref sig .tc .vmem S32x1024 .f32)) (Finset.subset_univ _)) $$ [E]
  · iexact E
  iintro E
  rw [read_x6]
  iapply (wp_load 𝒱₀ (c : Thread nD τ) none Set.univ (m := (Memref.whole cc0_stg2_0 : Memref sig .tc .vmem S32x2048 .f32)) (Finset.subset_univ _)) $$ [Hout]
  · iexact Hout
  iintro Hout
  iapply (wp_store 𝒱₀ (c : Thread nD τ) none Set.univ (m := (Memref.whole cc0_stg2_0 : Memref sig .tc .vmem S32x2048 .f32)) (Mk := Finset.univ) (Finset.subset_univ _)) $$ [Hout]
  · iexact Hout
  iintro Hout
  rw [store_out m c]
  ihave D := (Entails.of_eq (join_xs c (xC m c))) $$ D
  icases D with ⟨D0, D1⟩
  ihave E := (Entails.of_eq (join_xr c (xC m (xp c)))) $$ E
  icases E with ⟨E0, E1⟩
  try simp only [Prog.bind_op, Prog.bind_ret]
  iapply WP_ret
  iapply HQ
  ihave Hi := (landed_idle m c _ _) $$ [Hq Hk0 Hv0 Hk1 Hv1]
  · isplitl [Hq]; · iexact Hq
    isplitl [Hk0]; · iexact Hk0
    isplitl [Hv0]; · iexact Hv0
    isplitl [Hk1]; · iexact Hk1
    iexact Hv1
  isplitl [HO]; · iexact HO
  isplitl [Hw]; · iexact Hw
  isplitl [Hs0 Hs1 Hs2 Hs3 Hs4 Hs5 Hs6 Hs7]
  · rw [show (bigSep Finset.univ (done m c) : sProp 𝕄)
      = iprop(done m c 0 ∗ done m c 1 ∗ done m c 2 ∗ done m c 3 ∗ done m c 4 ∗ done m c 5 ∗ done m c 6 ∗ done m c 7)
      from (bigSep_univ_eq_bigSepL ([0, 1, 2, 3, 4, 5, 6, 7] : List (Fin 8)) (by decide) (by decide) (done m c)).trans rfl]
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    iexact Hs7
  isplitr [Hi Hout]; swap
  · isplitl [Hi]; · iexact Hi
    iexact Hout
  unfold xdone
  rw [Dn_xsS, Dn_xsS, Dn_xsR, Dn_xsR]
  isplitl [SD0 D0]; · (isplitl [SD0]; · iexact SD0); iexact D0
  isplitl [SE0 E0]; · (isplitl [SE0]; · iexact SE0); iexact E0
  isplitl [SD1 D1]; · (isplitl [SD1]; · iexact SD1); iexact D1
  isplitl [SE1]; · iexact SE1
  iexact E1

end Cert.Run

end
-- ==== Proof.Phase.lean ====
/- What a device holds before each step of the loop, and the step from each such state to the next. -/
module

public import proofs.«01_k».proof.Proof.Step
public import proofs.«01_k».proof.Proof.Gen.KernelIdeal.Frame
public import Idealize.ShloMosaic.Lib.Pipeline.ValueKit.Geometry

@[expose] public section

noncomputable section

namespace Cert.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.ValueIdx
open Idealize.ShloMosaic.Pipeline (Dat Cfg Window BodyObligation cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-- The shares of the arguments no copy uses, and the two copy semaphores no copy uses. -/
def spare (c : Dev nD) : sProp 𝕄 :=
  iprop((((c : Thread nD τ).loc main_arg0) ↦{shareDrop fullShare 2} qA m c) ∗ (((c : Thread nD τ).loc main_arg1) ↦{shareDrop fullShare 4} kA m c)
    ∗ (((c : Thread nD τ).loc main_arg2) ↦{shareDrop fullShare 4} vA m c) ∗ semVal (dC c (cpS 2 0 1)) 0 ∗ semVal (dC c (cpS 2 1 1)) 0)
/-- Before the first step. -/
def phiF (c : Dev nD) : sProp 𝕄 :=
  iprop(recs m ∗ levAts L lv ∗ spare m c ∗ idle m c 0 ∗ idle m c 1
    ∗ dutyTok ER (barC (yp c)) 0 false ∗ dutyTok ER (barC (xp c)) 0 true ∗ cred (tallyAt (barC c) () 2) ∗ atPos ER (barC c) 0 ∅ 0
    ∗ (bigSep Finset.univ (pre c) ∗ xpre c) ∗ (∃ f, ((c : Thread nD τ).loc cc0_scratch0) ↦{fullShare} f) ∗ (∃ f, ((c : Thread nD τ).loc cc0_scratch1) ↦{fullShare} f) ∗ (∃ f, ((c : Thread nD τ).loc cc0_scratch2) ↦{fullShare} f) ∗ (∃ f, ((c : Thread nD τ).loc cc0_scratch3) ↦{fullShare} f) ∗ (∃ f, ((c : Thread nD τ).loc cc0_scratch4) ↦{fullShare} f) ∗ (∃ f, ((c : Thread nD τ).loc cc0_scratch5) ↦{fullShare} f) ∗ (∃ f, ((c : Thread nD τ).loc cc0_scratch6) ↦{fullShare} f))
/-- Before step `t`, between. -/
def phiM (c : Dev nD) (t : ℕ) : sProp 𝕄 :=
  iprop(recs m ∗ levAts L lv ∗ spare m c ∗ semVal (barC c) 0 ∗ (((c : Thread nD τ).loc cc0_scratch0) ↦{fullShare} wkC m c) ∗ heads c t ∗ xtodo c ∗ fly m c (fs t) (fh t) ∗ idle m c (fs (t + 1)))
/-- After the last step. -/
def phiL (c : Dev nD) : sProp 𝕄 :=
  iprop(spare m c ∗ semVal (barC c) 0 ∗ (((c : Thread nD τ).loc cc0_scratch0) ↦{fullShare} wkC m c) ∗ bigSep Finset.univ (done m c) ∗ xdone m c ∗ idle m c 1 ∗ idle m c 0)
def phi (c : Dev nD) : ℕ → sProp 𝕄
  | 0 => phiF m c
  | n + 1 => if n + 1 = 8 then phiL m c else phiM m c (n + 1)
def owedN (c : Dev nD) : ℕ → CellTallies nD τ sig Unit
  | 0 => O₀ c
  | n + 1 => if n + 1 = 8 then 0 else OY c (8 - (n + 1))

theorem phi_succ (c : Dev nD) (n : ℕ) : phi m c (n + 1) = if n + 1 = 8 then phiL m c else phiM m c (n + 1) := rfl
theorem owedN_succ (c : Dev nD) (n : ℕ) : owedN c (n + 1) = if n + 1 = 8 then 0 else OY c (8 - (n + 1)) := rfl
theorem phi_eight (c : Dev nD) : phi m c 8 = phiL m c := (phi_succ m c 7).trans (if_pos (by decide))
theorem owedN_eight (c : Dev nD) : owedN c 8 = 0 := (owedN_succ c 7).trans (if_pos (by decide))

/-- A step but the last. -/
theorem step_lt (i : grid0.Coords) (t : ℕ) (hi : (i 0).val = t) (ht : t < 7) (c : Dev nD) {Q : PUnit → sProp 𝕄} :
    iprop(phi m c t ∗ Ow c (owedN c t) ∗ (((c : Thread nD τ).loc cc0_stg0_0) ↦{fullShare} btA m c) ∗ (((c : Thread nD τ).loc cc0_stg1_0) ↦{fullShare} lnA m c))
      ⊢ iprop(((phi m c (t + 1) ∗ Ow c (owedN c (t + 1)) ∗ (((c : Thread nD τ).loc cc0_stg0_0) ↦{fullShare} btA m c) ∗ (((c : Thread nD τ).loc cc0_stg1_0) ↦{fullShare} lnA m c)) -∗ Q ⟨⟩) -∗ WP c (theBody i) Q) := by
  rw [show phi m c (t + 1) = phiM m c (t + 1) from if_neg (by omega), show owedN c (t + 1) = OY c (8 - (t + 1)) from if_neg (by omega)]
  cases t with
  | zero =>
    rw [show phi m c 0 = phiF m c from rfl, show owedN c 0 = O₀ c from rfl]
    unfold phiF phiM
    iintro ⟨⟨#HR, #Hlev, Hsp, Hi0, Hi1, Ty, Tx, Hc, Hat, ⟨Hp, Hxp⟩, H0, H1, H2, H3, H4, H5, H6⟩, HO, S0, S1⟩ HQ
    iapply (body_first m i hi c) $$ [Hi0 Hi1 Ty Tx Hc Hat Hp Hxp H0 H1 H2 H3 H4 H5 H6 HO S0 S1]
    · isplitr; · iexact HR
      isplitr; · iexact Hlev
      isplitl [HO]; · iexact HO
      isplitl [Hi0]; · iexact Hi0
      isplitl [Hi1]; · iexact Hi1
      isplitl [Ty]; · iexact Ty
      isplitl [Tx]; · iexact Tx
      isplitl [Hc]; · iexact Hc
      isplitl [Hat]; · iexact Hat
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [Hp]; · iexact Hp
      isplitl [Hxp]; · iexact Hxp
      isplitl [S0]; · iexact S0
      iexact S1
    iintro ⟨HO, Hb, Hw, Hh, Hx, Hf, Hi, S0, S1⟩
    iapply HQ
    isplitr [HO S0 S1]; swap
    · isplitl [HO]; · iexact HO
      isplitl [S0]; · iexact S0
      iexact S1
    isplitr; · iexact HR
    isplitr; · iexact Hlev
    isplitl [Hsp]; · iexact Hsp
    isplitl [Hb]; · iexact Hb
    isplitl [Hw]; · iexact Hw
    isplitl [Hh]; · iexact Hh
    isplitl [Hx]; · iexact Hx
    isplitl [Hf]; · iexact Hf
    iexact Hi
  | succ n =>
    rw [show phi m c (n + 1) = phiM m c (n + 1) from if_neg (by omega), show owedN c (n + 1) = OY c (8 - (n + 1)) from if_neg (by omega)]
    unfold phiM
    iintro ⟨⟨#HR, #Hlev, Hsp, Hb, Hw, Hh, Hx, Hf, Hi⟩, HO, S0, S1⟩ HQ
    iapply (body_mid m i (n + 1) hi (by omega) ht c) $$ [HO Hw Hh Hf Hi]
    · isplitr; · iexact HR
      isplitr; · iexact Hlev
      isplitl [HO]; · iexact HO
      isplitl [Hw]; · iexact Hw
      isplitl [Hh]; · iexact Hh
      isplitl [Hf]; · iexact Hf
      iexact Hi
    iintro ⟨HO, Hw, Hh, Hf, Hi⟩
    iapply HQ
    isplitr [HO S0 S1]; swap
    · isplitl [HO]; · iexact HO
      isplitl [S0]; · iexact S0
      iexact S1
    isplitr; · iexact HR
    isplitr; · iexact Hlev
    isplitl [Hsp]; · iexact Hsp
    isplitl [Hb]; · iexact Hb
    isplitl [Hw]; · iexact Hw
    isplitl [Hh]; · iexact Hh
    isplitl [Hx]; · iexact Hx
    isplitl [Hf]; · iexact Hf
    ihave Hi := (Entails.of_eq (congrArg (idle m c) (fs_succ_succ (n + 1)).symm)) $$ Hi
    iexact Hi

/-- The last step. -/
theorem step_last (i : grid0.Coords) (hi : (i 0).val = 7) (c : Dev nD) {Q : PUnit → sProp 𝕄} :
    iprop(phi m c 7 ∗ Ow c (owedN c 7) ∗ (∃ f, ((c : Thread nD τ).loc cc0_stg2_0) ↦{fullShare} f))
      ⊢ iprop(((phi m c 8 ∗ Ow c (owedN c 8) ∗ (((c : Thread nD τ).loc cc0_stg2_0) ↦{fullShare} outC m c)) -∗ Q ⟨⟩) -∗ WP c (theBody i) Q) := by
  rw [phi_eight m c, owedN_eight c, (phi_succ m c 6).trans (if_neg (by decide)),
    (owedN_succ c 6).trans (if_neg (by decide))]
  unfold phiM phiL
  iintro ⟨⟨#HR, #Hlev, Hsp, Hb, Hw, Hh, Hx, Hf, Hi⟩, HO, Hout⟩ HQ
  iapply (body_last m i hi c) $$ [HO Hw Hh Hx Hf Hout]
  · isplitr; · iexact HR
    isplitr; · iexact Hlev
    isplitl [HO]; · iexact HO
    isplitl [Hw]; · iexact Hw
    isplitl [Hh]; · iexact Hh
    isplitl [Hx]; · iexact Hx
    isplitl [Hf]; · iexact Hf
    iexact Hout
  iintro ⟨HO, Hw, Hd, Hx, Hi', Hout⟩
  iapply HQ
  isplitr [HO Hout]; swap
  · isplitl [HO]; · iexact HO
    iexact Hout
  isplitl [Hsp]; · iexact Hsp
  isplitl [Hb]; · iexact Hb
  isplitl [Hw]; · iexact Hw
  isplitl [Hd]; · iexact Hd
  isplitl [Hx]; · iexact Hx
  isplitl [Hi']; · iexact Hi'
  iexact Hi

/-! ## The proof data -/

omit [FloatOps F] in
theorem owns_whole_eq (c : Dev nD) (b : Ref sig .tc) (X : b.ty.shape.Idx → Elt F b.ty.elt) :
    (owns (c : Thread nD τ) (Memref.whole b) fullShare X : sProp 𝕄) = iprop(∃ f, ⌜f = X⌝ ∗ ((c : Thread nD τ).loc b ↦{fullShare} f)) := by
  unfold owns; simp only [Memref.view_whole, View.read_whole, View.set_whole]

/-- The proof data: the arrays as launched, the two staged tables left as fetched, the result left at `outC` by the last
    step. -/
def dats (_ : Fin 1) (c : Dev nD) : Dat τ (Elt F) Unit ℕ UU ℕ cfg0 c where
  A w := m ((cfg0.win w).arr.view.loc (c : Thread nD τ))
  after w _ := match w with
    | ⟨0, _⟩ => btA m c
    | ⟨1, _⟩ => lnA m c
    | ⟨2, _⟩ => outC m c
  Φ t := phi m c t.val
  q _ := fullShare
  owed t := owedN c t.val

theorem iblk0 (c : Dev nD) (t : Fin cfg0.N) : iblk m c 0 t = btA m c := by
  funext j
  unfold iblk
  show btA m c (((cfg0.win 0).blk t).view.emb j) = btA m c j
  refine congrArg (btA m c) (funext fun a => Fin.ext ?_)
  fin_cases a
  · blk_simp; rw [show win0_0.index t 0 = 0 from rfl, Nat.zero_mul, Nat.zero_add]
  · blk_simp; rw [show win0_0.index t 1 = 0 from rfl, Nat.zero_mul, Nat.zero_add]
theorem iblk1 (c : Dev nD) (t : Fin cfg0.N) : iblk m c 1 t = lnA m c := by
  funext j
  unfold iblk
  show lnA m c (((cfg0.win 1).blk t).view.emb j) = lnA m c j
  refine congrArg (lnA m c) (funext fun a => Fin.ext ?_)
  fin_cases a
  · blk_simp; rw [show win0_1.index t 0 = 0 from rfl, Nat.zero_mul, Nat.zero_add]
  · blk_simp; rfl

theorem before0 (c : Dev nD) (t : Fin cfg0.N) (d) : (dats m 0 c).before 0 t d = btA m c :=
  (((dats m 0 c).before_in_eq_fetched 0 rfl (fun _ => rfl) (fun _ _ _ => rfl) (fun t => (iblk0 m c t).symm) t d).trans rfl).trans (iblk0 m c t)
theorem before1 (c : Dev nD) (t : Fin cfg0.N) (d) : (dats m 0 c).before 1 t d = lnA m c :=
  (((dats m 0 c).before_in_eq_fetched 1 rfl (fun _ => rfl) (fun _ _ _ => rfl) (fun t => (iblk1 m c t).symm) t d).trans rfl).trans (iblk1 m c t)

theorem coord_val : ∀ t : Fin grid0.N, ((grid0.coords t) 0).val = t.val := by decide +kernel

theorem slots_eq (t : Fin cfg0.N) : cfg0.slots t = cfg0.slots t0_0 :=
  funext fun w => by fin_cases w <;> exact Subsingleton.elim (α := Fin 1) _ _

theorem cond_owes (c : Dev nD) (O : CellTallies nD τ sig Unit) (B) (hB : ∀ p, p ∈ B) : Ow c O ⊢ (Pipeline.owesWithin (Name := ℕ) (U := UU) (Lvl := ℕ) (Val := Elt F) c O B : sProp 𝕄) := by
  unfold Ow Pipeline.owesWithin
  iintro ⟨%W, H⟩
  iexists W
  isplitr; · ipureintro; exact fun p _ => hB p
  iexact H
theorem owes_cond (c : Dev nD) (O : CellTallies nD τ sig Unit) (B) : (Pipeline.owesWithin (Name := ℕ) (U := UU) (Lvl := ℕ) (Val := Elt F) c O B : sProp 𝕄) ⊢ Ow c O := by
  unfold Ow Pipeline.owesWithin
  iintro ⟨%W, -, H⟩
  iexists W
  iexact H

omit [FloatOps F] in
theorem stg_of (c : Dev nD) (b : Ref sig .tc) (X : b.ty.shape.Idx → Elt F b.ty.elt) :
    (owns (c : Thread nD τ) (Memref.whole b) fullShare X : sProp 𝕄) ⊢ ((c : Thread nD τ).loc b ↦{fullShare} X) := by
  rw [owns_whole_eq]
  iintro ⟨%f, %h, H⟩
  subst h
  iexact H
omit [FloatOps F] in
theorem stg_to (c : Dev nD) (b : Ref sig .tc) (X : b.ty.shape.Idx → Elt F b.ty.elt) :
    ((c : Thread nD τ).loc b ↦{fullShare} X : sProp 𝕄) ⊢ owns (c : Thread nD τ) (Memref.whole b) fullShare X := by
  rw [owns_whole_eq]
  iintro H
  iexists X
  isplitr; · ipureintro; rfl
  iexact H
theorem got0 (c : Dev nD) (t : Fin cfg0.N) :
    (iprop(∃ d, owns (c : Thread nD τ) (Memref.whole cc0_stg0_0) fullShare ((dats m 0 c).before 0 t d)) : sProp 𝕄) ⊢ (((c : Thread nD τ).loc cc0_stg0_0) ↦{fullShare} btA m c) := by
  iintro ⟨%d, H⟩
  rw [← before0 m c t d]
  iapply (stg_of c cc0_stg0_0 _); iexact H
theorem got1 (c : Dev nD) (t : Fin cfg0.N) :
    (iprop(∃ d, owns (c : Thread nD τ) (Memref.whole cc0_stg1_0) fullShare ((dats m 0 c).before 1 t d)) : sProp 𝕄) ⊢ (((c : Thread nD τ).loc cc0_stg1_0) ↦{fullShare} lnA m c) := by
  iintro ⟨%d, H⟩
  rw [← before1 m c t d]
  iapply (stg_of c cc0_stg1_0 _); iexact H

/-- What the library hands a step. -/
theorem step_in (c : Dev nD) (t : Fin cfg0.N) (Z : sProp 𝕄) :
    iprop((dats m 0 c).Φ t.castSucc ∗ (dats m 0 c).owesAt () t.castSucc ∗ (∃ d, owns (c : Thread nD τ) (Memref.whole cc0_stg0_0) fullShare ((dats m 0 c).before 0 t d))
        ∗ (∃ d, owns (c : Thread nD τ) (Memref.whole cc0_stg1_0) fullShare ((dats m 0 c).before 1 t d)) ∗ Z)
      ⊢ iprop(phi m c t.val ∗ Ow c (owedN c t.val) ∗ (((c : Thread nD τ).loc cc0_stg0_0) ↦{fullShare} btA m c) ∗ (((c : Thread nD τ).loc cc0_stg1_0) ↦{fullShare} lnA m c) ∗ Z) := by
  rw [show (dats m 0 c).Φ t.castSucc = phi m c t.val from rfl]
  exact BI.sep_mono (BI.Entails.refl _) (BI.sep_mono (owes_cond c _ _) (BI.sep_mono (got0 m c t) (BI.sep_mono (got1 m c t) (BI.Entails.refl _))))
/-- What it wants back. -/
theorem step_out (c : Dev nD) (t : Fin cfg0.N) (Z : sProp 𝕄) :
    iprop(phi m c (t.val + 1) ∗ Ow c (owedN c (t.val + 1)) ∗ (((c : Thread nD τ).loc cc0_stg0_0) ↦{fullShare} btA m c) ∗ (((c : Thread nD τ).loc cc0_stg1_0) ↦{fullShare} lnA m c) ∗ Z)
      ⊢ iprop((dats m 0 c).Φ t.succ ∗ (dats m 0 c).owesAt () t.succ ∗ (owns (c : Thread nD τ) (Memref.whole cc0_stg0_0) fullShare ((dats m 0 c).after 0 t))
        ∗ (owns (c : Thread nD τ) (Memref.whole cc0_stg1_0) fullShare ((dats m 0 c).after 1 t)) ∗ Z) := by
  rw [show (dats m 0 c).Φ t.succ = phi m c (t.val + 1) from rfl]
  exact BI.sep_mono (BI.Entails.refl _) (BI.sep_mono (cond_owes c _ _ fun _ => Or.inl trivial) (BI.sep_mono (stg_to c cc0_stg0_0 _) (BI.sep_mono (stg_to c cc0_stg1_0 _) (BI.Entails.refl _))))

/-- The library's body obligation. -/
theorem body_obligation (c : Dev nD) : BodyObligation (dats m 0 c) (defs₀ (F := F)) 𝒱₀ () Set.univ := fun t => by
  have ht : t.val < 8 := lt_of_lt_of_eq t.isLt N_0
  have hv : ((grid0.coords t) 0).val = t.val := coord_val t
  rw [slots_eq t]
  rw [bigSep_W0, bigSep_W0]
  refine BIBase.Entails.trans (step_in m c t _) ?_
  by_cases h7 : t.val = 7
  · have hid : k0_cond4 (grid0.coords t) = 1#1 := cond4_pos _ (hv.trans h7)
    have hid' : cfg0.idle 2 (cfg0.grid.coords t) = false := by
      show (!(k0_cond4 (grid0.coords t) == 1#1)) = false
      rw [hid]; rfl
    simp only [hid']
    refine BIBase.Entails.trans (Q := WP c (theBody (grid0.coords t)) fun _ => _) ?_ (wp_mono _ _ _ fun _ => step_out m c t _)
    iintro ⟨HP, HO, H0, H1, ⟨%d, H2⟩⟩
    rw [h7]
    iapply (step_last m (grid0.coords t) (hv.trans h7) c) $$ [HP HO H2]
    · isplitl [HP]; · iexact HP
      isplitl [HO]; · iexact HO
      iexists _; iapply (stg_of c cc0_stg2_0 _); iexact H2
    iintro ⟨HP, HO, H2⟩
    isplitl [HP]; · iexact HP
    isplitl [HO]; · iexact HO
    isplitl [H0]; · iexact H0
    isplitl [H1]; · iexact H1
    rw [show idle0 2 (grid0.coords t) = false from hid']
    iapply (stg_to c cc0_stg2_0 _); iexact H2
  · have hid : ¬ k0_cond4 (grid0.coords t) = 1#1 := cond4_neg _ (by rw [hv]; omega)
    have hid' : cfg0.idle 2 (cfg0.grid.coords t) = true := by
      show (!(k0_cond4 (grid0.coords t) == 1#1)) = true
      rw [beq_eq_false_iff_ne.mpr hid]; rfl
    have hfl : (cfg0.win 2).flush t = false := by
      rw [Bool.eq_false_iff]; intro h; have := (flush0_2 t).mp h; omega
    simp only [hid', hfl]
    refine BIBase.Entails.trans (Q := WP c (theBody (grid0.coords t)) fun _ => _) ?_ (wp_mono _ _ _ fun _ => step_out m c t _)
    iintro ⟨HP, HO, H0, H1, H2⟩
    iapply (step_lt m (grid0.coords t) t.val hv (by omega) c) $$ [HP HO H0 H1]
    · isplitl [HP]; · iexact HP
      isplitl [HO]; · iexact HO
      isplitl [H0]; · iexact H0
      iexact H1
    iintro ⟨HP, HO, H0, H1⟩
    isplitl [HP]; · iexact HP
    isplitl [HO]; · iexact HO
    isplitl [H0]; · iexact H0
    isplitl [H1]; · iexact H1
    rw [show idle0 2 (grid0.coords t) = true from hid']
    iexact H2

end Cert.Run

end
-- ==== Proof.Deal.lean ====
/- Dealing the protocol to the devices at the start: the cells, the tokens of their duties, and what each device is owed. -/
module

public import proofs.«01_k».proof.Proof.Phase

@[expose] public section

noncomputable section

namespace Cert.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.ValueIdx
open Idealize.ShloMosaic.Pipeline (Dat Cfg Window BodyObligation cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## The cells of a device, family by family -/

/-- Something of every semaphore of the protocol but the barrier. -/
def dmas (Ψ : DmaSem sig → sProp 𝕄) : sProp 𝕄 :=
  iprop((bigSep Finset.univ fun h : Fin 8 => Ψ (yoS h)) ∗ (bigSep Finset.univ fun h : Fin 8 => Ψ (yoR h))
    ∗ (bigSep Finset.univ fun h : Fin 8 => Ψ (ylS h)) ∗ (bigSep Finset.univ fun h : Fin 8 => Ψ (ylR h))
    ∗ (bigSep Finset.univ fun w : Fin 2 => Ψ (xsS w)) ∗ bigSep Finset.univ fun w : Fin 2 => Ψ (xsR w))

omit [FloatOps F] in
theorem bigSep_fin_add (a b : ℕ) (Φ : Fin (a + b) → sProp 𝕄) :
    bigSep Finset.univ Φ = iprop((bigSep Finset.univ fun i : Fin a => Φ (Fin.castAdd b i)) ∗ bigSep Finset.univ fun i : Fin b => Φ (Fin.natAdd a i)) := by
  rw [bigSep_univ_equiv finSumFinEquiv Φ, bigSep_univ_sum]
  simp only [finSumFinEquiv_apply_left, finSumFinEquiv_apply_right]
  rfl
omit [FloatOps F] in
theorem split_at (n a b : ℕ) (hn : n + (a + b) ≤ 51) (Ψ : DmaSem sig → sProp 𝕄) :
    (bigSep Finset.univ fun j : Fin (a + b) => Ψ (⟨n + j.val, by omega⟩ : Fin 51))
      = iprop((bigSep Finset.univ fun j : Fin a => Ψ (⟨n + j.val, by omega⟩ : Fin 51))
        ∗ bigSep Finset.univ fun j : Fin b => Ψ (⟨n + a + j.val, by omega⟩ : Fin 51)) := by
  rw [bigSep_fin_add a b]
  refine congrArg _ (bigSep_congr fun j _ => congrArg Ψ (Fin.ext ?_))
  show n + (a + j.val) = n + a + j.val
  omega
omit [FloatOps F] in
theorem dmas_eq (Ψ : DmaSem sig → sProp 𝕄) : (bigSep Finset.univ fun j : Fin 36 => Ψ (⟨15 + j.val, by omega⟩ : Fin 51)) = dmas Ψ := by
  unfold dmas
  refine (split_at 15 8 28 (by omega) Ψ).trans (congrArg _ ?_)
  refine (split_at 23 8 20 (by omega) Ψ).trans (congrArg _ ?_)
  refine (split_at 31 8 12 (by omega) Ψ).trans (congrArg _ ?_)
  refine (split_at 39 8 4 (by omega) Ψ).trans (congrArg _ ?_)
  exact split_at 47 2 2 (by omega) Ψ
omit [FloatOps F] in
theorem cells_eq (c : Dev nD) (Ψ : GSem nD τ sig → sProp 𝕄) :
    (bigSep Finset.univ fun k : Fin 37 => Ψ (kcell (c, k))) = iprop(Ψ (barC c) ∗ dmas fun s => Ψ (dC c s)) := by
  rw [← dmas_eq]
  refine (bigSep_fin_add 1 36 fun k : Fin 37 => Ψ (kcell (c, k))).trans ?_
  refine congrArg₂ _ ?_ (bigSep_congr fun j _ => congrArg Ψ ?_)
  · rw [bigSep_univ_eq_bigSepL ([0] : List (Fin 1)) (by decide) (by decide)]; rfl
  · unfold kcell
    refine (dif_neg (show ¬ (1 + j.val = 0) by omega)).trans (congrArg (dC c) (Fin.ext ?_))
    show 14 + (1 + j.val) = 15 + j.val
    omega
omit [FloatOps F] in
theorem dmas_sep (Φ Ψ : DmaSem sig → sProp 𝕄) : dmas (fun s => iprop(Φ s ∗ Ψ s)) = iprop(dmas Φ ∗ dmas Ψ) := by
  rw [← dmas_eq, ← dmas_eq, ← dmas_eq, bigSep_sep']

/-! ## The kernel's own semaphores -/

/-- The kernel's own semaphores: twelve for the copies, then the protocol's. -/
def osem : Fin 48 → SemLoc sig := fun j => .dma (⟨3 + j.val, by omega⟩ : Fin 51)
/-- The copies' semaphores at zero. -/
def cps (c : Dev nD) : sProp 𝕄 := bigSep Finset.univ fun j : Fin 12 => semVal (dC c (⟨3 + j.val, by omega⟩ : Fin 51)) 0

set_option maxRecDepth 8000 in
theorem ownSemFacts : Pipeline.OwnSemFacts cfg0.spec osem := by decide

omit [FloatOps F] in
theorem ownSems0_eq (c : Dev nD) : (Pipeline.ownSems0 (Ix := Unit) (Name := ℕ) (U := UU) (Lvl := ℕ) (Val := Elt F) (τ := τ) osem c : sProp 𝕄)
    = iprop(cps c ∗ dmas fun s => semVal (dC c s) 0) := by
  unfold cps
  rw [← dmas_eq]
  exact split_at 3 12 36 (by omega) fun s => semVal (dC c s) 0
omit [FloatOps F] in
theorem unscopedSems0_eq (c : Dev nD) : (unscopedSems0 c : sProp 𝕄) = semVal (barC c) 0 := by
  unfold unscopedSems0; rw [bigSep_eq_bigSepL_of_eq [SemLoc.reg barS] (by decide) (by decide)]; rfl

/-! ## Funding the protocol -/

theorem kcell_injective : Function.Injective kcell := by
  rintro ⟨c, k⟩ ⟨c', k'⟩ h
  unfold kcell at h
  dsimp only at h
  split at h <;> split at h
  · have h1 : c = c' := congrArg (fun g : GSem nD τ sig => g.1.1) h
    have h2 : k = k' := Fin.ext (by omega)
    rw [h1, h2]
  · cases congrArg Prod.snd h
  · cases congrArg Prod.snd h
  · have h1 : c = c' := congrArg (fun g : GSem nD τ sig => g.1.1) h
    have h2 : 14 + k.val = 14 + k'.val := congrArg Fin.val (SemLoc.dma.inj (congrArg Prod.snd h))
    have h3 : k = k' := Fin.ext (by omega)
    rw [h1, h3]
def pcells : Finset (GSem nD τ sig) := Finset.univ.map ⟨kcell, kcell_injective⟩

/-- The duties of a device's own cells: one of each cell, and the barrier's second. -/
def tokOf : Dev nD × (Unit ⊕ Fin 37) → GSem nD τ sig × ℕ × Bool
  | (c, .inl _) => (barC c, 0, true)
  | (c, .inr k) => (kcell (c, k), 0, false)
theorem tokOf_injective : Function.Injective tokOf := by
  rintro ⟨c, j | j⟩ ⟨c', j' | j'⟩ h
  · have h1 : c = c' := congrArg (fun x : GSem nD τ sig × ℕ × Bool => x.1.1.1) h
    rw [h1]
  · cases congrArg (fun x : GSem nD τ sig × ℕ × Bool => x.2.2) h
  · cases congrArg (fun x : GSem nD τ sig × ℕ × Bool => x.2.2) h
  · have h1 : (c, j) = (c', j') := kcell_injective (congrArg (fun x : GSem nD τ sig × ℕ × Bool => x.1) h)
    cases h1
    rfl
def ptoks : Finset (GSem nD τ sig × ℕ × Bool) := Finset.univ.map ⟨tokOf, tokOf_injective⟩

/-- The tokens of device `c`'s own cells. -/
def toks (c : Dev nD) : sProp 𝕄 :=
  iprop(dutyTok ER (barC c) 0 true ∗ dutyTok ER (barC c) 0 false ∗ dmas fun s => dutyTok ER (dC c s) 0 false)

/-- What the start gives device `c`. -/
def G (c : Dev nD) : sProp 𝕄 :=
  iprop((bigSep Finset.univ fun k : Fin 37 => roundState ER (rd m) (kcell (c, k)) 0)
    ∗ (bigSep Finset.univ fun k : Fin 37 => atPos ER (kcell (c, k)) 0 ∅ 0) ∗ (bigSep Finset.univ fun k : Fin 37 => reached ER (kcell (c, k)) 0) ∗ toks c)

theorem fund : BI.own (ER (initOf pcells ptoks)) ⊢ (|==> bigSep Finset.univ (G m) : sProp 𝕄) := by
  have hX (Φ : GSem nD τ sig → sProp 𝕄) : bigSep pcells Φ = bigSep Finset.univ fun c : Dev nD => bigSep Finset.univ fun k : Fin 37 => Φ (kcell (c, k)) := by
    unfold pcells; rw [bigSep_map, bigSep_univ_prod]; rfl
  have hT : bigSep ptoks (fun x => (dutyTok ER x.1 x.2.1 x.2.2 : sProp 𝕄)) = bigSep Finset.univ fun c : Dev nD => toks c := by
    unfold ptoks; rw [bigSep_map, bigSep_univ_prod]
    refine bigSep_congr fun c _ => ?_
    rw [bigSep_univ_sum]
    unfold toks
    refine congrArg₂ _ ?_ (cells_eq c fun g => dutyTok ER g 0 false)
    rw [bigSep_univ_eq_bigSepL ([()] : List Unit) (by decide) (by decide)]; rfl
  iintro HX
  imod (Rounds.fund ER (rd m) pcells ptoks) $$ HX with ⟨Hst, Hr, Hat, Htok⟩
  imodintro
  ihave Hst := (Entails.of_eq (hX fun g => roundState ER (rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat]; · iexact Hat
  isplitl [Hr]; · iexact Hr
  iexact Htok

/-! ## Each device's share -/

/-- The tokens of the duties device `c` pays. -/
def payToks (c : Dev nD) : sProp 𝕄 :=
  iprop(dutyTok ER (barC (xp c)) 0 true ∗ dutyTok ER (barC (yp c)) 0 false
    ∗ (bigSep Finset.univ fun h : Fin 8 => dutyTok ER (dC c (yoS h)) 0 false) ∗ (bigSep Finset.univ fun h : Fin 8 => dutyTok ER (dC (yp c) (yoR h)) 0 false)
    ∗ (bigSep Finset.univ fun h : Fin 8 => dutyTok ER (dC c (ylS h)) 0 false) ∗ (bigSep Finset.univ fun h : Fin 8 => dutyTok ER (dC (yp c) (ylR h)) 0 false)
    ∗ (bigSep Finset.univ fun w : Fin 2 => dutyTok ER (dC c (xsS w)) 0 false) ∗ (bigSep Finset.univ fun w : Fin 2 => dutyTok ER (dC (xp c) (xsR w)) 0 false))
def ypE : Dev nD ≃ Dev nD := ⟨yp, yp, yp_yp, yp_yp⟩
def xpE : Dev nD ≃ Dev nD := ⟨xp, xp, xp_xp, xp_xp⟩

omit [FloatOps F] in
theorem toks_around : (bigSep Finset.univ fun c : Dev nD => (toks c : sProp 𝕄)) ⊢ bigSep Finset.univ fun c : Dev nD => payToks c := by
  unfold toks payToks dmas
  simp only [bigSep_sep']
  rw [bigSep_univ_equiv xpE (fun c : Dev nD => (dutyTok ER (barC c) 0 true : sProp 𝕄)),
    bigSep_univ_equiv ypE (fun c : Dev nD => (dutyTok ER (barC c) 0 false : sProp 𝕄)),
    bigSep_univ_equiv ypE (fun c : Dev nD => (bigSep Finset.univ fun h : Fin 8 => dutyTok ER (dC c (yoR h)) 0 false : sProp 𝕄)),
    bigSep_univ_equiv ypE (fun c : Dev nD => (bigSep Finset.univ fun h : Fin 8 => dutyTok ER (dC c (ylR h)) 0 false : sProp 𝕄)),
    bigSep_univ_equiv xpE (fun c : Dev nD => (bigSep Finset.univ fun w : Fin 2 => dutyTok ER (dC c (xsR w)) 0 false : sProp 𝕄))]
  exact BI.Entails.refl _

/-- The positions of device `c`. -/
def poss (c : Dev nD) : sProp 𝕄 := iprop(atPos ER (barC c) 0 ∅ 0 ∗ dmas fun s => atPos ER (dC c s) 0 ∅ 0)
/-- What a device has of the protocol: the cells' records, its copies' semaphores, its positions, its tokens. -/
def G' (c : Dev nD) : sProp 𝕄 := iprop(recs m ∗ cps c ∗ poss c ∗ payToks c)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (rd m) κ (kcell (c, k))))
          ∗ (bigSep Finset.univ fun k => reached ER (kcell (c, k)) 0) ∗ cps c ∗ poss c ∗ toks c) := by
  rw [ownSems0_eq, unscopedSems0_eq]
  unfold G poss
  iintro ⟨⟨Hc, Hd⟩, Hb, Hst, Hat, Hr, Htok⟩
  ihave Hv := (Entails.of_eq (cells_eq c fun g => semVal g 0).symm) $$ [Hb Hd]
  · isplitl [Hb] <;> iassumption
  imod (show iprop((bigSep Finset.univ fun k : Fin 37 => semVal (kcell (c, k)) 0) ∗ bigSep Finset.univ fun k : Fin 37 => roundState ER (rd m) (kcell (c, k)) 0)
      ⊢ (|={Set.univ}=> bigSep Finset.univ fun k => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  isplitl [Hr]; · iexact Hr
  isplitl [Hc]; · iexact Hc
  isplitl [Hat]; · ihave Hat := (Entails.of_eq (cells_eq c fun g => atPos ER g 0 ∅ 0)) $$ Hat
                   iexact Hat
  iexact Htok

omit [FloatOps F] in
theorem bigSep_persist {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  BIBase.Entails.trans (BI.sep_mono (BI.bigSep_of_persistent S R) (BI.Entails.refl _))
    (BIBase.Entails.trans (Entails.of_eq (bigSep_sep' S (fun _ => R) Φ).symm) (bigSep_mono h))

theorem regroup :
    (bigSep Finset.univ fun c : Dev nD => iprop((bigSep Finset.univ fun k => iprop(∃ κ : ℕ, cellInv ER (rd m) κ (kcell (c, k))))
          ∗ (bigSep Finset.univ fun k => reached ER (kcell (c, k)) 0) ∗ cps c ∗ poss c ∗ toks c) : sProp 𝕄)
      ⊢ bigSep Finset.univ (G' m) := by
  rw [bigSep_sep', bigSep_sep', bigSep_sep', bigSep_sep', ← bigSep_univ_prod (fun ck : Dev nD × Fin 37 => iprop(∃ κ : ℕ, cellInv ER (rd m) κ (kcell ck))),
    ← bigSep_univ_prod (fun ck : Dev nD × Fin 37 => (reached ER (kcell ck) 0 : sProp 𝕄))]
  iintro ⟨HI, #HR, Hc, Hp, Htok⟩
  ihave HK := (BI.bigSep_exists_pi Finset.univ (fun (ck : Dev nD × Fin 37) (κ : ℕ) => (cellInv ER (rd m) κ (kcell ck) : sProp 𝕄))) $$ HI
  icases HK with ⟨%K, #HI⟩
  ihave Htk := (toks_around (F := F)) $$ Htok
  iapply (bigSep_persist (R := recs m) (Φ := fun c => iprop(cps c ∗ poss c ∗ payToks c)) fun c _ => BI.Entails.refl _)
  isplitr
  · unfold recs
    iexists K
    iapply (Entails.of_eq (bigSep_sep' (Finset.univ : Finset (Dev nD × Fin 37)) (fun ck => cellInv ER (rd m) (K ck) (kcell ck)) (fun ck => reached ER (kcell ck) 0)).symm)
    isplitl; · iexact HI
    iexact HR
  · ihave H := (Entails.of_eq (show iprop((bigSep Finset.univ fun c : Dev nD => cps c) ∗ (bigSep Finset.univ fun c : Dev nD => poss c) ∗ (bigSep Finset.univ fun c : Dev nD => payToks c))
        = (bigSep Finset.univ fun c : Dev nD => iprop(cps c ∗ poss c ∗ payToks c) : sProp 𝕄) from by rw [bigSep_sep', bigSep_sep'])) $$ [Hc Hp Htk]
    · isplitl [Hc]; · iexact Hc
      isplitl [Hp] <;> iassumption
    iexact H

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## What a device is owed at the start -/

omit [FloatOps F] in
/-- If every device owes `n` units of semaphore `s` of its neighbour, each is owed `n` of its own. -/
theorem owed_one (p : Dev nD → Dev nD) (hp : ∀ c, p (p c) = c) (s : SemLoc sig) (n : ℕ) (c : Dev nD) :
    (Pipeline.launchCred (fun d => tallyAt ((p d : Thread nD τ), s) () n) c : sProp 𝕄) ⊢ cred (tallyAt ((c : Thread nD τ), s) () n) := by
  refine (Pipeline.launchCred_elim _ c s).trans (Entails.of_eq (congrArg cred ?_))
  unfold tallyAt; refine congrArg _ (Finsupp.ext fun u => ?_); cases u
  have h : ∀ d : Dev nD, (tallyAt ((p d : Thread nD τ), s) () n : CellTallies nD τ sig Unit) ((c : Thread nD τ), s) () = if d = p c then n else 0 := fun d => by
    rw [tallyAt_apply]
    by_cases h : d = p c
    · subst h; rw [hp, if_pos ⟨rfl, rfl⟩, if_pos rfl]
    · rw [if_neg (fun ⟨h1, _⟩ => h (by
        have : c = p d := congrArg (fun g : GSem nD τ sig => g.1.1) h1
        rw [this, hp])), if_neg h]
  rw [Finsupp.single_eq_same, Pipeline.launchCredit_owing]
  refine (Finset.sum_congr rfl fun d _ => h d).trans ?_
  rw [Finset.sum_ite_eq' Finset.univ (p c) fun _ => n, if_pos (Finset.mem_univ _)]

omit [FloatOps F] in
theorem owed_step (c : Dev nD) (n : ℕ) : (Pipeline.launchCred (fun d => OY d (n + 1)) c : sProp 𝕄)
    ⊢ iprop(Pipeline.launchCred (fun d => OY d n) c ∗ cred (tallyAt (dC c (ylR ⟨7 - n, by omega⟩)) () Nl) ∗ cred (tallyAt (dC c (yoR ⟨7 - n, by omega⟩)) () No)) := by
  rw [show (fun d : Dev nD => OY d (n + 1)) = fun d => OY d n + tallyAt (dC (yp d) (ylR ⟨7 - n, by omega⟩)) () Nl + tallyAt (dC (yp d) (yoR ⟨7 - n, by omega⟩)) () No from rfl,
    Pipeline.launchCred_add, Pipeline.launchCred_add]
  iintro ⟨⟨H, H1⟩, H2⟩
  ihave H1 := (owed_one yp yp_yp (.dma (ylR ⟨7 - n, _⟩)) Nl c) $$ H1
  ihave H2 := (owed_one yp yp_yp (.dma (yoR ⟨7 - n, _⟩)) No c) $$ H2
  isplitl [H]; · iexact H
  isplitl [H1] <;> iassumption

/-- What device `c` is owed. -/
def creds (c : Dev nD) : sProp 𝕄 :=
  iprop(cred (tallyAt (barC c) () 2)
    ∗ (bigSep Finset.univ fun h : Fin 8 => cred (tallyAt (dC c (yoR h)) () (amtN (yoR h).val)))
    ∗ (bigSep Finset.univ fun h : Fin 8 => cred (tallyAt (dC c (ylR h)) () (amtN (ylR h).val)))
    ∗ (bigSep Finset.univ fun w : Fin 2 => cred (tallyAt (dC c (xsR w)) () (amtN (xsR w).val))))

omit [FloatOps F] in
theorem creds_intro (c : Dev nD) : (Pipeline.launchCred O₀ c : sProp 𝕄) ⊢ creds c := by
  unfold creds
  rw [show (O₀ : Dev nD → CellTallies nD τ sig Unit) = fun d => OY d 8 + tallyAt (barC (xp d)) () 1 + tallyAt (barC (yp d)) () 1 from rfl,
    Pipeline.launchCred_add, Pipeline.launchCred_add]
  rw [bigSep_univ_eq_bigSepL ([0, 1, 2, 3, 4, 5, 6, 7] : List (Fin 8)) (by decide) (by decide) (fun h : Fin 8 => (cred (tallyAt (dC c (yoR h)) () (amtN (yoR h).val)) : sProp 𝕄)),
    bigSep_univ_eq_bigSepL ([0, 1, 2, 3, 4, 5, 6, 7] : List (Fin 8)) (by decide) (by decide) (fun h : Fin 8 => (cred (tallyAt (dC c (ylR h)) () (amtN (ylR h).val)) : sProp 𝕄)),
    bigSep_univ_eq_bigSepL ([0, 1] : List (Fin 2)) (by decide) (by decide) (fun w : Fin 2 => (cred (tallyAt (dC c (xsR w)) () (amtN (xsR w).val)) : sProp 𝕄))]
  have hb : iprop(cred (tallyAt (barC c) () 1) ∗ cred (tallyAt (barC c) () 1)) ⊢ (cred (tallyAt (barC c) () 2) : sProp 𝕄) :=
    (cred_add _ _).2.trans (Entails.of_eq (congrArg cred (tallyAt_add _ _ _ _)))
  iintro ⟨⟨H, HBx⟩, HBy⟩
  ihave HBx := (owed_one xp xp_xp (.reg barS) 1 c) $$ HBx
  ihave HBy := (owed_one yp yp_yp (.reg barS) 1 c) $$ HBy
  ihave HB := hb $$ [HBx HBy]
  · isplitl [HBx] <;> iassumption
  isplitl [HB]; · iexact HB
  ihave H := (show (Pipeline.launchCred (fun d => OY d 8) c : sProp 𝕄) ⊢ iprop(Pipeline.launchCred (fun d => OY d 7) c ∗ cred (tallyAt (dC c (ylR 0)) () Nl) ∗ cred (tallyAt (dC c (yoR 0)) () No)) from owed_step c 7) $$ H
  icases H with ⟨H, L0, O0⟩
  ihave H := (show (Pipeline.launchCred (fun d => OY d 7) c : sProp 𝕄) ⊢ iprop(Pipeline.launchCred (fun d => OY d 6) c ∗ cred (tallyAt (dC c (ylR 1)) () Nl) ∗ cred (tallyAt (dC c (yoR 1)) () No)) from owed_step c 6) $$ H
  icases H with ⟨H, L1, O1⟩
  ihave H := (show (Pipeline.launchCred (fun d => OY d 6) c : sProp 𝕄) ⊢ iprop(Pipeline.launchCred (fun d => OY d 5) c ∗ cred (tallyAt (dC c (ylR 2)) () Nl) ∗ cred (tallyAt (dC c (yoR 2)) () No)) from owed_step c 5) $$ H
  icases H with ⟨H, L2, O2⟩
  ihave H := (show (Pipeline.launchCred (fun d => OY d 5) c : sProp 𝕄) ⊢ iprop(Pipeline.launchCred (fun d => OY d 4) c ∗ cred (tallyAt (dC c (ylR 3)) () Nl) ∗ cred (tallyAt (dC c (yoR 3)) () No)) from owed_step c 4) $$ H
  icases H with ⟨H, L3, O3⟩
  ihave H := (show (Pipeline.launchCred (fun d => OY d 4) c : sProp 𝕄) ⊢ iprop(Pipeline.launchCred (fun d => OY d 3) c ∗ cred (tallyAt (dC c (ylR 4)) () Nl) ∗ cred (tallyAt (dC c (yoR 4)) () No)) from owed_step c 3) $$ H
  icases H with ⟨H, L4, O4⟩
  ihave H := (show (Pipeline.launchCred (fun d => OY d 3) c : sProp 𝕄) ⊢ iprop(Pipeline.launchCred (fun d => OY d 2) c ∗ cred (tallyAt (dC c (ylR 5)) () Nl) ∗ cred (tallyAt (dC c (yoR 5)) () No)) from owed_step c 2) $$ H
  icases H with ⟨H, L5, O5⟩
  ihave H := (show (Pipeline.launchCred (fun d => OY d 2) c : sProp 𝕄) ⊢ iprop(Pipeline.launchCred (fun d => OY d 1) c ∗ cred (tallyAt (dC c (ylR 6)) () Nl) ∗ cred (tallyAt (dC c (yoR 6)) () No)) from owed_step c 1) $$ H
  icases H with ⟨H, L6, O6⟩
  ihave H := (show (Pipeline.launchCred (fun d => OY d 1) c : sProp 𝕄) ⊢ iprop(Pipeline.launchCred (fun d => OY d 0) c ∗ cred (tallyAt (dC c (ylR 7)) () Nl) ∗ cred (tallyAt (dC c (yoR 7)) () No)) from owed_step c 0) $$ H
  icases H with ⟨H, L7, O7⟩
  ihave H := (show (Pipeline.launchCred (fun d => OY d 0) c : sProp 𝕄)
      ⊢ iprop(Pipeline.launchCred (fun d => tallyAt (dC (xp d) (xsR 1)) () Nx1) c ∗ Pipeline.launchCred (fun d => tallyAt (dC (xp d) (xsR 0)) () Nx0) c) from
        Entails.of_eq (Pipeline.launchCred_add (fun d => tallyAt (dC (xp d) (xsR 1)) () Nx1) (fun d => tallyAt (dC (xp d) (xsR 0)) () Nx0) c)) $$ H
  icases H with ⟨X1, X0⟩
  ihave X1 := (owed_one xp xp_xp (.dma (xsR 1)) Nx1 c) $$ X1
  ihave X0 := (owed_one xp xp_xp (.dma (xsR 0)) Nx0 c) $$ X0
  have ho : iprop(cred (tallyAt (dC c (yoR 0)) () No) ∗ cred (tallyAt (dC c (yoR 1)) () No) ∗ cred (tallyAt (dC c (yoR 2)) () No) ∗ cred (tallyAt (dC c (yoR 3)) () No) ∗ cred (tallyAt (dC c (yoR 4)) () No) ∗ cred (tallyAt (dC c (yoR 5)) () No) ∗ cred (tallyAt (dC c (yoR 6)) () No) ∗ cred (tallyAt (dC c (yoR 7)) () No)) ⊢ (bigSepL ([0, 1, 2, 3, 4, 5, 6, 7] : List (Fin 8)) fun h => cred (tallyAt (dC c (yoR h)) () (amtN (yoR h).val)) : sProp 𝕄) := BI.Entails.refl _
  have hl : iprop(cred (tallyAt (dC c (ylR 0)) () Nl) ∗ cred (tallyAt (dC c (ylR 1)) () Nl) ∗ cred (tallyAt (dC c (ylR 2)) () Nl) ∗ cred (tallyAt (dC c (ylR 3)) () Nl) ∗ cred (tallyAt (dC c (ylR 4)) () Nl) ∗ cred (tallyAt (dC c (ylR 5)) () Nl) ∗ cred (tallyAt (dC c (ylR 6)) () Nl) ∗ cred (tallyAt (dC c (ylR 7)) () Nl)) ⊢ (bigSepL ([0, 1, 2, 3, 4, 5, 6, 7] : List (Fin 8)) fun h => cred (tallyAt (dC c (ylR h)) () (amtN (ylR h).val)) : sProp 𝕄) := BI.Entails.refl _
  have hx : iprop(cred (tallyAt (dC c (xsR 0)) () Nx0) ∗ cred (tallyAt (dC c (xsR 1)) () Nx1)) ⊢ (bigSepL ([0, 1] : List (Fin 2)) fun w => cred (tallyAt (dC c (xsR w)) () (amtN (xsR w).val)) : sProp 𝕄) := BI.Entails.refl _
  isplitl [O0 O1 O2 O3 O4 O5 O6 O7]
  · iapply ho
    isplitl [O0]; · iexact O0
    isplitl [O1]; · iexact O1
    isplitl [O2]; · iexact O2
    isplitl [O3]; · iexact O3
    isplitl [O4]; · iexact O4
    isplitl [O5]; · iexact O5
    isplitl [O6]; · iexact O6
    iexact O7
  isplitl [L0 L1 L2 L3 L4 L5 L6 L7]
  · iapply hl
    isplitl [L0]; · iexact L0
    isplitl [L1]; · iexact L1
    isplitl [L2]; · iexact L2
    isplitl [L3]; · iexact L3
    isplitl [L4]; · iexact L4
    isplitl [L5]; · iexact L5
    isplitl [L6]; · iexact L6
    iexact L7
  iapply hx
  isplitl [X0] <;> iassumption

end Cert.Run

end
-- ==== Proof.Launch.lean ====
/- The ends of the run, what a device holds when the kernel starts and what it leaves; and the run of the whole mesh. -/
module

public import proofs.«01_k».proof.Proof.Deal
public import Idealize.ShloMosaic.Lib.Pipeline.CollectiveSegs

@[expose] public section

noncomputable section

namespace Cert.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.ValueIdx
open Idealize.ShloMosaic.Pipeline (Dat Cfg Window BodyObligation cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## The staging buffers' halves and quarters -/

theorem qS_univ : (Finset.univ : Finset S2x32x128.Idx) = Finset.univ.biUnion fun s : Fin 2 => qS s.val := by
  refine (Finset.eq_univ_iff_forall.mpr fun i => ?_).symm
  exact Finset.mem_biUnion.mpr ⟨(i 0 : Fin 2), Finset.mem_univ _, Finset.mem_filter.mpr ⟨Finset.mem_univ _, rfl⟩⟩
theorem kS_univ : (Finset.univ : Finset S2x256x32x128.Idx) = Finset.univ.biUnion fun p : Fin 2 × Fin 2 => kS p.1.val p.2.val := by
  refine (Finset.eq_univ_iff_forall.mpr fun i => ?_).symm
  have h : (i 1).val < 256 := (i 1).isLt
  exact Finset.mem_biUnion.mpr ⟨((i 0 : Fin 2), ⟨(i 1).val / 128, by omega⟩), Finset.mem_univ _, Finset.mem_filter.mpr ⟨Finset.mem_univ _, rfl, rfl⟩⟩
theorem qSv_disj : ∀ t ∈ (Finset.univ : Finset (Fin 2)), ∀ t' ∈ (Finset.univ : Finset (Fin 2)), t ≠ t' → Disjoint (qS t.val) (qS t'.val) :=
  fun t _ t' _ hne => by
    rw [Finset.disjoint_left]
    intro i h h'
    exact hne (Fin.ext ((Finset.mem_filter.mp h).2.symm.trans (Finset.mem_filter.mp h').2))
theorem kSv_disj : ∀ t ∈ (Finset.univ : Finset (Fin 2 × Fin 2)), ∀ t' ∈ (Finset.univ : Finset (Fin 2 × Fin 2)), t ≠ t' →
    Disjoint (kS t.1.val t.2.val) (kS t'.1.val t'.2.val) :=
  fun t _ t' _ hne => by
    rw [Finset.disjoint_left]
    intro i h h'
    exact hne (Prod.ext (Fin.ext ((Finset.mem_filter.mp h).2.1.symm.trans (Finset.mem_filter.mp h').2.1))
      (Fin.ext ((Finset.mem_filter.mp h).2.2.symm.trans (Finset.mem_filter.mp h').2.2)))

omit [FloatOps F] in
theorem bigSep_quarters (Φ : Fin 2 × Fin 2 → sProp 𝕄) : bigSep Finset.univ Φ = iprop((Φ (0, 0) ∗ Φ (0, 1)) ∗ (Φ (1, 0) ∗ Φ (1, 1))) := by
  rw [bigSep_univ_prod, bigSep_fin_two, bigSep_fin_two, bigSep_fin_two]; rfl
omit [FloatOps F] in
theorem two (Φ : Fin 2 → sProp 𝕄) : bigSep Finset.univ Φ = iprop(Φ 0 ∗ Φ 1) := bigSep_fin_two Φ

omit [FloatOps F] in
/-- A buffer cut into parts, whatever it holds; -/
theorem cut_parts {ℓ : Loc nD τ sig} {T : Type} [Fintype T] [DecidableEq T] (K : T → Finset (Idx ℓ)) (hu : (Finset.univ : Finset (Idx ℓ)) = Finset.univ.biUnion K)
    (hd : ∀ t ∈ (Finset.univ : Finset T), ∀ t' ∈ (Finset.univ : Finset T), t ≠ t' → Disjoint (K t) (K t')) :
    (iprop(∃ f : Buf (Elt F) ℓ, ℓ ↦{fullShare} f) : sProp 𝕄) ⊢ bigSep Finset.univ fun t => iprop(∃ f : Buf (Elt F) ℓ, ℓ ↦[K t]{fullShare} f) := by
  iintro ⟨%f, H⟩
  have h1 : (ℓ ↦{fullShare} f : sProp 𝕄) = bigSep Finset.univ fun t => ℓ ↦[K t]{fullShare} f :=
    (congrArg (fun S => (ℓ ↦[S]{fullShare} f : sProp 𝕄)) hu).trans (pointsTo_biUnion Finset.univ K hd)
  have h2 : (bigSep Finset.univ fun t => (ℓ ↦[K t]{fullShare} f : sProp 𝕄)) ⊢ bigSep Finset.univ fun t => iprop(∃ f : Buf (Elt F) ℓ, ℓ ↦[K t]{fullShare} f) :=
    bigSep_mono fun t _ => (show (ℓ ↦[K t]{fullShare} f : sProp 𝕄) ⊢ iprop(∃ f : Buf (Elt F) ℓ, ℓ ↦[K t]{fullShare} f) from by iintro H; iexists f; iexact H)
  ihave H := (Entails.of_eq h1) $$ H
  iapply h2 $$ H
omit [FloatOps F] in
/-- and put together again. -/
theorem join_parts {ℓ : Loc nD τ sig} {T : Type} [Fintype T] [DecidableEq T] (K : T → Finset (Idx ℓ)) (hu : (Finset.univ : Finset (Idx ℓ)) = Finset.univ.biUnion K)
    (hd : ∀ t ∈ (Finset.univ : Finset T), ∀ t' ∈ (Finset.univ : Finset T), t ≠ t' → Disjoint (K t) (K t')) (f₀ : Buf (Elt F) ℓ) :
    (bigSep Finset.univ fun t => iprop(∃ f : Buf (Elt F) ℓ, ℓ ↦[K t]{fullShare} f)) ⊢ (iprop(∃ f : Buf (Elt F) ℓ, ℓ ↦{fullShare} f) : sProp 𝕄) := by
  iintro H
  haveI : Nonempty (Buf (Elt F) ℓ) := ⟨f₀⟩
  ihave H := (BI.bigSep_exists_pi (Finset.univ : Finset T) (fun t (f : Buf (Elt F) ℓ) => (ℓ ↦[K t]{fullShare} f : sProp 𝕄))) $$ H
  icases H with ⟨%fs, H⟩
  ihave H := (pointsTo_biUnion_join (Finset.univ : Finset T) K fs f₀ hd) $$ H
  icases H with ⟨%g, -, H⟩
  iexists g
  have h1 : (ℓ ↦[Finset.univ.biUnion K]{fullShare} g : sProp 𝕄) ⊢ ℓ ↦{fullShare} g :=
    Entails.of_eq (congrArg (fun S => (ℓ ↦[S]{fullShare} g : sProp 𝕄)) hu.symm)
  iapply h1 $$ H

omit [FloatOps F] in
theorem cut_q (c : Dev nD) : (iprop(∃ f, ((c : Thread nD τ).loc cc0_scratch7) ↦{fullShare} f) : sProp 𝕄) ⊢ iprop((∃ f, qP c 0 f) ∗ ∃ f, qP c 1 f) :=
  BIBase.Entails.trans (cut_parts (ℓ := (c : Thread nD τ).loc cc0_scratch7) (fun s : Fin 2 => qS s.val) qS_univ qSv_disj) (Entails.of_eq (bigSep_fin_two _))
omit [FloatOps F] in
theorem put_q (c : Dev nD) (f₀ : S2x32x128.Idx → Elt F .f32) : (iprop((∃ f, qP c 0 f) ∗ ∃ f, qP c 1 f) : sProp 𝕄) ⊢ iprop(∃ f, ((c : Thread nD τ).loc cc0_scratch7) ↦{fullShare} f) :=
  BIBase.Entails.trans (Entails.of_eq (bigSep_fin_two (fun s : Fin 2 => iprop(∃ f, qP c s f))).symm)
    (join_parts (ℓ := (c : Thread nD τ).loc cc0_scratch7) (fun s : Fin 2 => qS s.val) qS_univ qSv_disj f₀)
omit [FloatOps F] in
theorem cut_k (c : Dev nD) : (iprop(∃ f, ((c : Thread nD τ).loc cc0_scratch8) ↦{fullShare} f) : sProp 𝕄)
    ⊢ iprop(((∃ f, kP c 0 0 f) ∗ ∃ f, kP c 0 1 f) ∗ ((∃ f, kP c 1 0 f) ∗ ∃ f, kP c 1 1 f)) :=
  BIBase.Entails.trans (cut_parts (ℓ := (c : Thread nD τ).loc cc0_scratch8) (fun p : Fin 2 × Fin 2 => kS p.1.val p.2.val) kS_univ kSv_disj) (Entails.of_eq (bigSep_quarters _))
omit [FloatOps F] in
theorem put_k (c : Dev nD) (f₀ : S2x256x32x128.Idx → Elt F .f32) : (iprop(((∃ f, kP c 0 0 f) ∗ ∃ f, kP c 0 1 f) ∗ ((∃ f, kP c 1 0 f) ∗ ∃ f, kP c 1 1 f)) : sProp 𝕄)
    ⊢ iprop(∃ f, ((c : Thread nD τ).loc cc0_scratch8) ↦{fullShare} f) :=
  BIBase.Entails.trans (Entails.of_eq (bigSep_quarters (fun p : Fin 2 × Fin 2 => iprop(∃ f, kP c p.1 p.2 f))).symm)
    (join_parts (ℓ := (c : Thread nD τ).loc cc0_scratch8) (fun p : Fin 2 × Fin 2 => kS p.1.val p.2.val) kS_univ kSv_disj f₀)
omit [FloatOps F] in
theorem cut_v (c : Dev nD) : (iprop(∃ f, ((c : Thread nD τ).loc cc0_scratch9) ↦{fullShare} f) : sProp 𝕄)
    ⊢ iprop(((∃ f, vP c 0 0 f) ∗ ∃ f, vP c 0 1 f) ∗ ((∃ f, vP c 1 0 f) ∗ ∃ f, vP c 1 1 f)) :=
  BIBase.Entails.trans (cut_parts (ℓ := (c : Thread nD τ).loc cc0_scratch9) (fun p : Fin 2 × Fin 2 => kS p.1.val p.2.val) kS_univ kSv_disj) (Entails.of_eq (bigSep_quarters _))
omit [FloatOps F] in
theorem put_v (c : Dev nD) (f₀ : S2x256x32x128.Idx → Elt F .f32) : (iprop(((∃ f, vP c 0 0 f) ∗ ∃ f, vP c 0 1 f) ∗ ((∃ f, vP c 1 0 f) ∗ ∃ f, vP c 1 1 f)) : sProp 𝕄)
    ⊢ iprop(∃ f, ((c : Thread nD τ).loc cc0_scratch9) ↦{fullShare} f) :=
  BIBase.Entails.trans (Entails.of_eq (bigSep_quarters (fun p : Fin 2 × Fin 2 => iprop(∃ f, vP c p.1 p.2 f))).symm)
    (join_parts (ℓ := (c : Thread nD τ).loc cc0_scratch9) (fun p : Fin 2 × Fin 2 => kS p.1.val p.2.val) kS_univ kSv_disj f₀)

/-! ## The arguments' shares -/

omit [FloatOps F] in
theorem shares_q (c : Dev nD) : (((c : Thread nD τ).loc main_arg0) ↦{fullShare} qA m c : sProp 𝕄)
    = iprop((((c : Thread nD τ).loc main_arg0) ↦{shareDrop fullShare 2} qA m c) ∗ qT m c 0 ∗ qT m c 1) := by
  have h : (bigSep Finset.univ fun i : Fin 2 => (((c : Thread nD τ).loc main_arg0) ↦{shareTok fullShare 2 i} qA m c : sProp 𝕄)) = iprop(qT m c 0 ∗ qT m c 1) :=
    bigSep_univ_eq_bigSepL ([0, 1] : List (Fin 2)) (by decide) (by decide) _
  rw [← h]
  exact BI.Entails.antisymm (pointsTo_toks_split (ℓ := (c : Thread nD τ).loc main_arg0) fullShare 2) (pointsTo_toks_join (ℓ := (c : Thread nD τ).loc main_arg0) fullShare 2)
omit [FloatOps F] in
theorem shares_k (c : Dev nD) : (((c : Thread nD τ).loc main_arg1) ↦{fullShare} kA m c : sProp 𝕄)
    = iprop((((c : Thread nD τ).loc main_arg1) ↦{shareDrop fullShare 4} kA m c) ∗ kT m c 0 0 ∗ kT m c 0 1 ∗ kT m c 1 0 ∗ kT m c 1 1) := by
  have h : (bigSep Finset.univ fun i : Fin 4 => (((c : Thread nD τ).loc main_arg1) ↦{shareTok fullShare 4 i} kA m c : sProp 𝕄)) = iprop(kT m c 0 0 ∗ kT m c 0 1 ∗ kT m c 1 0 ∗ kT m c 1 1) :=
    bigSep_univ_eq_bigSepL ([0, 1, 2, 3] : List (Fin 4)) (by decide) (by decide) _
  rw [← h]
  exact BI.Entails.antisymm (pointsTo_toks_split (ℓ := (c : Thread nD τ).loc main_arg1) fullShare 4) (pointsTo_toks_join (ℓ := (c : Thread nD τ).loc main_arg1) fullShare 4)
omit [FloatOps F] in
theorem shares_v (c : Dev nD) : (((c : Thread nD τ).loc main_arg2) ↦{fullShare} vA m c : sProp 𝕄)
    = iprop((((c : Thread nD τ).loc main_arg2) ↦{shareDrop fullShare 4} vA m c) ∗ vT m c 0 0 ∗ vT m c 0 1 ∗ vT m c 1 0 ∗ vT m c 1 1) := by
  have h : (bigSep Finset.univ fun i : Fin 4 => (((c : Thread nD τ).loc main_arg2) ↦{shareTok fullShare 4 i} vA m c : sProp 𝕄)) = iprop(vT m c 0 0 ∗ vT m c 0 1 ∗ vT m c 1 0 ∗ vT m c 1 1) :=
    bigSep_univ_eq_bigSepL ([0, 1, 2, 3] : List (Fin 4)) (by decide) (by decide) _
  rw [← h]
  exact BI.Entails.antisymm (pointsTo_toks_split (ℓ := (c : Thread nD τ).loc main_arg2) fullShare 4) (pointsTo_toks_join (ℓ := (c : Thread nD τ).loc main_arg2) fullShare 4)

omit [FloatOps F] in
theorem cps_eq (c : Dev nD) : (cps c : sProp 𝕄) = iprop(semVal (dC c (cpS 0 0 0)) 0 ∗ semVal (dC c (cpS 0 0 1)) 0 ∗ semVal (dC c (cpS 0 1 0)) 0 ∗ semVal (dC c (cpS 0 1 1)) 0 ∗ semVal (dC c (cpS 1 0 0)) 0 ∗ semVal (dC c (cpS 1 0 1)) 0 ∗ semVal (dC c (cpS 1 1 0)) 0 ∗ semVal (dC c (cpS 1 1 1)) 0 ∗ semVal (dC c (cpS 2 0 0)) 0 ∗ semVal (dC c (cpS 2 0 1)) 0 ∗ semVal (dC c (cpS 2 1 0)) 0 ∗ semVal (dC c (cpS 2 1 1)) 0) := by
  unfold cps
  exact bigSep_univ_eq_bigSepL ([0, 1, 2, 3, 4, 5, 6, 7, 8, 9, 10, 11] : List (Fin 12)) (by decide) (by decide) _

/-! ## The start -/

/-- The arguments a device reads in place. -/
def args (c : Dev nD) : sProp 𝕄 :=
  iprop((((c : Thread nD τ).loc main_arg0) ↦{fullShare} qA m c) ∗ (((c : Thread nD τ).loc main_arg1) ↦{fullShare} kA m c) ∗ (((c : Thread nD τ).loc main_arg2) ↦{fullShare} vA m c))
/-- What a device has before the kernel starts. -/
def start (c : Dev nD) : sProp 𝕄 := iprop(args m c ∗ G' m c ∗ creds c ∗ levAts L lv)

variable (ρ : Dev nD → PrngReg)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Ha, Hlev, Hcr, -, HG⟩
  ihave Hc := (creds_intro (F := F) c) $$ Hcr
  imodintro
  unfold start args
  isplitl
  · isplitl [Ha]; · iexact Ha
    isplitl [HG]; · iexact HG
    isplitl [Hc]; · iexact Hc
    iexact Hlev
  · iempintro

/-- The heads' tokens, positions and credits, head by head. -/
theorem pre_intro (c : Dev nD) :
    iprop((bigSep Finset.univ fun h : Fin 8 => dutyTok ER (dC c (yoS h)) 0 false) ∗ (bigSep Finset.univ fun h : Fin 8 => dutyTok ER (dC (yp c) (yoR h)) 0 false)
        ∗ (bigSep Finset.univ fun h : Fin 8 => atPos ER (dC c (yoS h)) 0 ∅ 0)
        ∗ (bigSep Finset.univ fun h : Fin 8 => dutyTok ER (dC c (ylS h)) 0 false) ∗ (bigSep Finset.univ fun h : Fin 8 => dutyTok ER (dC (yp c) (ylR h)) 0 false)
        ∗ (bigSep Finset.univ fun h : Fin 8 => atPos ER (dC c (ylS h)) 0 ∅ 0)
        ∗ (bigSep Finset.univ fun h : Fin 8 => cred (tallyAt (dC c (yoR h)) () (amtN (yoR h).val))) ∗ (bigSep Finset.univ fun h : Fin 8 => atPos ER (dC c (yoR h)) 0 ∅ 0)
        ∗ (bigSep Finset.univ fun h : Fin 8 => cred (tallyAt (dC c (ylR h)) () (amtN (ylR h).val))) ∗ (bigSep Finset.univ fun h : Fin 8 => atPos ER (dC c (ylR h)) 0 ∅ 0))
      ⊢ (bigSep Finset.univ (pre (F := F) c) : sProp 𝕄) := by
  rw [show (pre c : Fin 8 → sProp 𝕄) = fun h => iprop((dutyTok ER (dC c (yoS h)) 0 false ∗ dutyTok ER (dC (yp c) (yoR h)) 0 false ∗ atPos ER (dC c (yoS h)) 0 ∅ 0)
      ∗ (dutyTok ER (dC c (ylS h)) 0 false ∗ dutyTok ER (dC (yp c) (ylR h)) 0 false ∗ atPos ER (dC c (ylS h)) 0 ∅ 0)
      ∗ (cred (tallyAt (dC c (yoR h)) () (amtN (yoR h).val)) ∗ atPos ER (dC c (yoR h)) 0 ∅ 0)
      ∗ (cred (tallyAt (dC c (ylR h)) () (amtN (ylR h).val)) ∗ atPos ER (dC c (ylR h)) 0 ∅ 0)) from rfl]
  simp only [bigSep_sep']
  iintro ⟨H1, H2, H3, H4, H5, H6, H7, H8, H9, H10⟩
  isplitl [H1 H2 H3]
  · isplitl [H1]; · iexact H1
    isplitl [H2] <;> iassumption
  isplitl [H4 H5 H6]
  · isplitl [H4]; · iexact H4
    isplitl [H5] <;> iassumption
  isplitl [H7 H8]
  · isplitl [H7] <;> iassumption
  isplitl [H9] <;> iassumption

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = phiF m c from rfl, scopedRest0_eq]
  unfold phiF start args G' poss payToks creds dmas spare idle qI kI vI xpre Tk Wt
  rw [cps_eq, shares_q, shares_k, shares_v]
  simp only [two]
  iintro ⟨⟨⟨⟨AQ, Q0, Q1⟩, ⟨AK, K00, K01, K10, K11⟩, ⟨AV, V00, V01, V10, V11⟩⟩,
    ⟨HR, ⟨c0, c1, c2, c3, c4, c5, c6, c7, c8, c9, c10, c11⟩, ⟨Pb, P1, P2, P3, P4, ⟨P5, P5'⟩, ⟨P6, P6'⟩⟩, Tx, Ty, T1, T2, T3, T4, ⟨T5, T5'⟩, ⟨T6, T6'⟩⟩,
    ⟨Cb, C1, C2, C3, C3'⟩, Hlev⟩, -, S0, S1, S2, S3, S4, S5, S6, S7, S8, S9⟩
  ihave S7 := (cut_q c) $$ S7
  ihave S8 := (cut_k c) $$ S8
  ihave S9 := (cut_v c) $$ S9
  icases S7 with ⟨q0, q1⟩
  icases S8 with ⟨⟨k00, k01⟩, k10, k11⟩
  icases S9 with ⟨⟨v00, v01⟩, v10, v11⟩
  ihave Hp := (pre_intro (F := F) c) $$ [T1 T2 P1 T3 T4 P3 C1 P2 C2 P4]
  · isplitl [T1]; · iexact T1
    isplitl [T2]; · iexact T2
    isplitl [P1]; · iexact P1
    isplitl [T3]; · iexact T3
    isplitl [T4]; · iexact T4
    isplitl [P3]; · iexact P3
    isplitl [C1]; · iexact C1
    isplitl [P2]; · iexact P2
    isplitl [C2] <;> iassumption
  isplitl [HR]; · iexact HR
  isplitl [Hlev]; · iexact Hlev
  isplitl [AQ AK AV c9 c11]
  · isplitl [AQ]; · iexact AQ
    isplitl [AK]; · iexact AK
    isplitl [AV]; · iexact AV
    isplitl [c9]; · iexact c9
    iexact c11
  isplitl [c8 q0 Q0 c0 k00 K00 c4 v00 V00 c1 k01 K01 c5 v01 V01]
  · isplitl [c8 q0 Q0]
    · isplitl [c8]; · iexact c8
      isplitl [q0]; · iexact q0
      iexact Q0
    isplitl [c0 k00 K00]
    · isplitl [c0]; · iexact c0
      isplitl [k00]; · iexact k00
      iexact K00
    isplitl [c4 v00 V00]
    · isplitl [c4]; · iexact c4
      isplitl [v00]; · iexact v00
      iexact V00
    isplitl [c1 k01 K01]
    · isplitl [c1]; · iexact c1
      isplitl [k01]; · iexact k01
      iexact K01
    isplitl [c5]; · iexact c5
    isplitl [v01]; · iexact v01
    iexact V01
  isplitl [c10 q1 Q1 c2 k10 K10 c6 v10 V10 c3 k11 K11 c7 v11 V11]
  · isplitl [c10 q1 Q1]
    · isplitl [c10]; · iexact c10
      isplitl [q1]; · iexact q1
      iexact Q1
    isplitl [c2 k10 K10]
    · isplitl [c2]; · iexact c2
      isplitl [k10]; · iexact k10
      iexact K10
    isplitl [c6 v10 V10]
    · isplitl [c6]; · iexact c6
      isplitl [v10]; · iexact v10
      iexact V10
    isplitl [c3 k11 K11]
    · isplitl [c3]; · iexact c3
      isplitl [k11]; · iexact k11
      iexact K11
    isplitl [c7]; · iexact c7
    isplitl [v11]; · iexact v11
    iexact V11
  isplitl [Ty]; · iexact Ty
  isplitl [Tx]; · iexact Tx
  isplitl [Cb]; · iexact Cb
  isplitl [Pb]; · iexact Pb
  isplitl [Hp T5 T6 P5 T5' T6' P5' C3 P6 C3' P6']
  · isplitl [Hp]; · iexact Hp
    isplitl [T5 T6 P5]
    · isplitl [T5]; · iexact T5
      isplitl [T6]; · iexact T6
      iexact P5
    isplitl [T5' T6' P5']
    · isplitl [T5']; · iexact T5'
      isplitl [T6']; · iexact T6'
      iexact P5'
    isplitl [C3 P6]
    · isplitl [C3]; · iexact C3
      iexact P6
    isplitl [C3']; · iexact C3'
    iexact P6'
  isplitl [S0]; · iexact S0
  isplitl [S1]; · iexact S1
  isplitl [S2]; · iexact S2
  isplitl [S3]; · iexact S3
  isplitl [S4]; · iexact S4
  isplitl [S5]; · iexact S5
  iexact S6

/-! ## The end -/

theorem done_eq (c : Dev nD) : (bigSep Finset.univ (done m c) : sProp 𝕄)
    = iprop(((bigSep Finset.univ fun h : Fin 8 => semVal (dC c (yoS h)) 0) ∗ (bigSep Finset.univ fun h : Fin 8 => pAo c h.val (aO m c)))
      ∗ ((bigSep Finset.univ fun h : Fin 8 => semVal (dC c (yoR h)) 0) ∗ (bigSep Finset.univ fun h : Fin 8 => pRo c h.val (aO m (yp c))))
      ∗ ((bigSep Finset.univ fun h : Fin 8 => semVal (dC c (ylS h)) 0) ∗ (bigSep Finset.univ fun h : Fin 8 => pAl c h.val (aL m c)))
      ∗ ((bigSep Finset.univ fun h : Fin 8 => semVal (dC c (ylR h)) 0) ∗ (bigSep Finset.univ fun h : Fin 8 => pRl c h.val (aL m (yp c))))) := by
  rw [← bigSep_sep', ← bigSep_sep', ← bigSep_sep', ← bigSep_sep', ← bigSep_sep', ← bigSep_sep', ← bigSep_sep']
  refine bigSep_congr fun h _ => ?_
  unfold done
  rw [Dn_yoS, Dn_yoR, Dn_ylS, Dn_ylR]

/-- What a device leaves beside the kernel's own: the barrier at zero and the arguments. -/
def left (c : Dev nD) : sProp 𝕄 := iprop(unscopedSems0 c ∗ args m c)

theorem phi8_exit (c : Dev nD) :
    (dats m 0 c).Φ (Fin.last cfg0.N) ⊢ iprop(left m c ∗ Pipeline.ownSems0 osem c ∗ Pipeline.scopedRest cfg0.spec c) := by
  rw [show (dats m 0 c).Φ (Fin.last cfg0.N) = phi m c 8 from rfl, phi_eight, scopedRest0_eq, ownSems0_eq]
  unfold phiL left args spare idle qI kI vI dmas xdone
  rw [unscopedSems0_eq, cps_eq, shares_q, shares_k, shares_v, done_eq, Dn_xsS, Dn_xsS, Dn_xsR, Dn_xsR]
  simp only [two]
  iintro ⟨⟨AQ, AK, AV, c9, c11⟩, Hb, S0, ⟨⟨Z1, O1⟩, ⟨Z2, O2⟩, ⟨Z3, O3⟩, ⟨Z4, O4⟩⟩, ⟨⟨Z5, X0⟩, ⟨Z6, R0⟩, ⟨Z5', X1⟩, ⟨Z6', R1⟩⟩,
    ⟨⟨c10, q1, Q1⟩, ⟨c2, k10, K10⟩, ⟨c6, v10, V10⟩, ⟨c3, k11, K11⟩, ⟨c7, v11, V11⟩⟩, ⟨⟨c8, q0, Q0⟩, ⟨c0, k00, K00⟩, ⟨c4, v00, V00⟩, ⟨c1, k01, K01⟩, ⟨c5, v01, V01⟩⟩⟩
  ihave S1 := (Entails.of_eq (whole_ao c (aO m c)).symm) $$ O1
  ihave S3 := (Entails.of_eq (whole_ro c (aO m (yp c))).symm) $$ O2
  ihave S2 := (Entails.of_eq (whole_al c (aL m c)).symm) $$ O3
  ihave S4 := (Entails.of_eq (whole_rl c (aL m (yp c))).symm) $$ O4
  ihave S5 := (Entails.of_eq (join_xs c (xC m c)).symm) $$ [X0 X1]
  · isplitl [X0]; · iexact X0
    iexact X1
  ihave S6 := (Entails.of_eq (join_xr c (xC m (xp c))).symm) $$ [R0 R1]
  · isplitl [R0]; · iexact R0
    iexact R1
  ihave S7 := (put_q c (qB (qA m c) c 0)) $$ [q0 q1]
  · isplitl [q0] <;> iassumption
  ihave S8 := (put_k c (kB (kA m c) c 0)) $$ [k00 k01 k10 k11]
  · isplitl [k00 k01]
    · isplitl [k00] <;> iassumption
    isplitl [k10] <;> iassumption
  ihave S9 := (put_v c (kB (vA m c) c 0)) $$ [v00 v01 v10 v11]
  · isplitl [v00 v01]
    · isplitl [v00] <;> iassumption
    isplitl [v10] <;> iassumption
  isplitl [Hb AQ Q0 Q1 AK K00 K01 K10 K11 AV V00 V01 V10 V11]
  · isplitl [Hb]; · iexact Hb
    isplitl [AQ Q0 Q1]
    · isplitl [AQ]; · iexact AQ
      isplitl [Q0]; · iexact Q0
      iexact Q1
    isplitl [AK K00 K01 K10 K11]
    · isplitl [AK]; · iexact AK
      isplitl [K00]; · iexact K00
      isplitl [K01]; · iexact K01
      isplitl [K10]; · iexact K10
      iexact K11
    isplitl [AV]; · iexact AV
    isplitl [V00]; · iexact V00
    isplitl [V01]; · iexact V01
    isplitl [V10]; · iexact V10
    iexact V11
  isplitl [c0 c1 c2 c3 c4 c5 c6 c7 c8 c9 c10 c11 Z1 Z2 Z3 Z4 Z5 Z5' Z6 Z6']
  · isplitl [c0 c1 c2 c3 c4 c5 c6 c7 c8 c9 c10 c11]
    · isplitl [c0]; · iexact c0
      isplitl [c1]; · iexact c1
      isplitl [c2]; · iexact c2
      isplitl [c3]; · iexact c3
      isplitl [c4]; · iexact c4
      isplitl [c5]; · iexact c5
      isplitl [c6]; · iexact c6
      isplitl [c7]; · iexact c7
      isplitl [c8]; · iexact c8
      isplitl [c9]; · iexact c9
      isplitl [c10]; · iexact c10
      iexact c11
    isplitl [Z1]; · iexact Z1
    isplitl [Z2]; · iexact Z2
    isplitl [Z3]; · iexact Z3
    isplitl [Z4]; · iexact Z4
    isplitl [Z5 Z5']
    · isplitl [Z5]; · iexact Z5
      iexact Z5'
    isplitl [Z6]; · iexact Z6
    iexact Z6'
  isplitl [S0]; · iexists _; iexact S0
  isplitl [S1]; · iexists _; iexact S1
  isplitl [S2]; · iexists _; iexact S2
  isplitl [S3]; · iexists _; iexact S3
  isplitl [S4]; · iexists _; iexact S4
  isplitl [S5]; · iexists _; iexact S5
  isplitl [S6]; · iexists _; iexact S6
  isplitl [S7]; · iexact S7
  isplitl [S8]; · iexact S8
  iexact S9

theorem owed_above (c : Dev nD) (n : ℕ) : Above 0 (owedN c n) := by
  cases n with
  | zero => exact O₀_above c
  | succ n =>
    rw [owedN_succ]
    split
    · exact Above.zero 0
    · exact (OY_above c (8 - (n + 1)) (by omega)).mono (by omega)
theorem waits (c : Dev nD) : (levAts L lv : sProp 𝕄) ⊢ Pipeline.cellsWaits cfgs (dats m) () 0 c :=
  Pipeline.cellsWaits_intro cfgs (dats m) () 0 c fun w s t =>
    mayWait c _ _ (by
      have h : lv ((c : Thread nD τ), .dma ((cfg0.win w).sem s)) () = 0 := by revert s; fin_cases w <;> intro s <;> fin_cases s <;> rfl
      exact (show Above (lv ((c : Thread nD τ), .dma ((cfg0.win w).sem s)) ()) (owedN c t.val) from by rw [h]; exact owed_above c t.val))

theorem share_eq (c : Dev nD) (w : Fin cfg0.W) : (dats m 0 c).share w = fullShare := by unfold Dat.share; split <;> rfl

/-! ## The run -/

def u₀ : UU :=
  (initOf (Pipeline.cells cfgs cellOf_inj) (Pipeline.launchToks cfgs cellOf_inj), (initOf pcells ptoks, 1))

theorem fund_all : (ownU u₀ : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  ihave H := (own_pair_emb (embR : Emb (UB × Counters) 𝕄) (initOf pcells ptoks) (1 : Counters)) $$ HX
  icases H with ⟨HX, -⟩
  ihave HX := (Entails.of_eq (show (BI.own (((Emb.inl : Emb UB (UB × Counters)).trans (embR : Emb (UB × Counters) 𝕄)) (initOf pcells ptoks)) : sProp 𝕄) = BI.own (ER (initOf pcells ptoks)) from rfl)) $$ HX
  imod (fund m) $$ HX with HG
  imodintro
  isplitl [HP] <;> iassumption

/-- The arguments and the result at the end, of every device. -/
def QC : PUnit × MemSt nD τ sig (Elt F) → Prop := fun r => ∀ c : Dev nD,
  (∀ w : Fin cfg0.W, r.2.mem ((cfg0.win w).arr.view.loc (c : Thread nD τ)) = (dats m 0 c).arrAt w cfg0.N)
  ∧ r.2.mem ((c : Thread nD τ).loc main_arg0) = qA m c ∧ r.2.mem ((c : Thread nD τ).loc main_arg1) = kA m c ∧ r.2.mem ((c : Thread nD τ).loc main_arg2) = vA m c

theorem read_left (c : Dev nD) (s' : Phys nD τ sig (Elt F)) : iprop(left m c ∗ emp ∗ SI s')
    ⊢ |={Set.univ}=> iprop(⌜(∀ sm : SemLoc sig, sm.isScoped .tc = false → s'.mem.sem ((c.tc : Thread nD τ), sm) = 0)
      ∧ s'.mem.mem ((c : Thread nD τ).loc main_arg0) = qA m c ∧ s'.mem.mem ((c : Thread nD τ).loc main_arg1) = kA m c
      ∧ s'.mem.mem ((c : Thread nD τ).loc main_arg2) = vA m c⌝ ∗ (SI s' : sProp 𝕄)) := by
  unfold left args
  iintro ⟨⟨Hu, HQ, HK, HV⟩, -, HSI⟩
  have r1 (ℓ : Loc nD τ sig) (f : Buf (Elt F) ℓ) : iprop((ℓ ↦{fullShare} f) ∗ SI s') ⊢ (iprop(⌜s'.mem.mem ℓ = f⌝ ∗ SI s') : sProp 𝕄) := by
    have h := pointsTo_read_all (Ix := Unit) (Name := ℕ) (U := UU) (Lvl := ℕ) (Finset.univ : Finset Unit) (fun _ => ℓ) (fun _ => f) s'
    rw [bigSep_univ_eq_bigSepL ([()] : List Unit) (by decide) (by decide)] at h
    refine BIBase.Entails.trans h ?_
    iintro ⟨%h, H⟩
    isplitr
    · ipureintro; exact h () (Finset.mem_univ _)
    iexact H
  ihave H := (r1 _ _) $$ [HQ HSI]
  · isplitl [HQ]; · iexact HQ
    iexact HSI
  icases H with ⟨%hq, HSI⟩
  ihave H := (r1 _ _) $$ [HK HSI]
  · isplitl [HK]; · iexact HK
    iexact HSI
  icases H with ⟨%hk, HSI⟩
  ihave H := (r1 _ _) $$ [HV HSI]
  · isplitl [HV]; · iexact HV
    iexact HSI
  icases H with ⟨%hv, HSI⟩
  imod (Pipeline.unscopedSems0_read (X := unscopedSems0 c) (c := c) fupd_intro s') $$ [Hu HSI] with ⟨%hs, HSI⟩
  · isplitl [Hu] <;> iassumption
  imodintro
  isplitr
  · ipureintro; exact ⟨hs, hq, hk, hv⟩
  iexact HSI

set_option maxRecDepth 8000 in
/-- On the mesh of four, for any float values and from any memory with every counter at zero: every execution in which no
    thread is held back for ever ends, with the arguments as they were, the result at the computed contents and every
    counter at zero. -/
theorem run_mesh : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun c => owedN_eight c)
    (L := L) (lv := lv) (hL := L_of_ne) (hwaits := waits m)
    (G := G m) (G' := G' m) (u₀ := u₀) (hu₀ := fund_all m) (hglob := glob m)
    (hA := fun _ _ => rfl) (hpf := fun _ k => k.elim0)
    (X := start m) (Y := left m) (Z := fun _ => iprop(emp))
    (hX := start_intro m ρ) (hin := phi0_intro m) (hout := phi8_exit m)
    (QY := fun c s => (∀ sm : SemLoc sig, sm.isScoped .tc = false → s.sem ((c.tc : Thread nD τ), sm) = 0)
      ∧ s.mem ((c : Thread nD τ).loc main_arg0) = qA m c ∧ s.mem ((c : Thread nD τ).loc main_arg1) = kA m c ∧ s.mem ((c : Thread nD τ).loc main_arg2) = vA m c)
    (hY := read_left m)
    (hQ := fun _ h hs => ⟨fun c => ⟨(h c).1, (h c).2.2.2⟩, sem_eq_zero hs fun c => (h c).2.2.1⟩)

/-! ## The arrays at the end -/

theorem final_bt (c : Dev nD) : (dats m 0 c).arrAt 0 cfg0.N = btA m c := (dats m 0 c).arrAt_in 0 rfl _
theorem final_ln (c : Dev nD) : (dats m 0 c).arrAt 1 cfg0.N = lnA m c := (dats m 0 c).arrAt_in 1 rfl _
theorem final_out (c : Dev nD) : (dats m 0 c).arrAt 2 cfg0.N = outC m c := by
  refine (dats m 0 c).arrAt_eq_of_after_last 2 t0_7 (by decide +kernel) _ fun j => ?_
  blk_simp
  rfl

/-- The run with every buffer by name. -/
theorem run_main : θ_run defs (onTc (τ := τ) (main (F := F))) ⟨m, fun _ => 0, ρ⟩ (fun r => (∀ c : Dev nD,
    r.2.mem ((c : Thread nD τ).loc main_arg0) = qA m c ∧ r.2.mem ((c : Thread nD τ).loc main_arg1) = kA m c ∧ r.2.mem ((c : Thread nD τ).loc main_arg2) = vA m c
    ∧ r.2.mem ((c : Thread nD τ).loc main_arg3) = btA m c ∧ r.2.mem ((c : Thread nD τ).loc main_arg4) = lnA m c
    ∧ r.2.mem ((c : Thread nD τ).loc main_v1) = outC m c) ∧ r.2.sem = fun _ => 0) :=
  (θ_run defs _ _).mono (fun r h => ⟨fun c => ⟨(h.1 c).2.1, (h.1 c).2.2.1, (h.1 c).2.2.2, ((h.1 c).1 0).trans (final_bt m c),
    ((h.1 c).1 1).trans (final_ln m c), ((h.1 c).1 2).trans (final_out m c)⟩, h.2⟩) (run_mesh m ρ)

end Cert.Run

end
-- ==== Proof.Algebra.lean ====
module

public import Idealize.ShloMosaic.PureOps.Ideal.Laws
public import Mathlib.Algebra.BigOperators.Ring.Finset
public import Mathlib.Analysis.SpecialFunctions.Exp

/-! # Counting pages or visiting slots: one softmax, on extended reals

A row attends to the keys of the pages its live slots name. One can run over the slots, or over the pages with each
page weighed by the number of live slots that name it; and one can subtract any real number from every score before the
exponential. The two quotients are one. -/

@[expose] public section

namespace Cert.Value

open Idealize.ShloMosaic
open scoped BigOperators

/-- A sum of reals that are not negative, times an extended real, is the sum of the products. -/
theorem coe_sum_mul {ι : Type*} (t : Finset ι) (r : ι → ℝ) (hr : ∀ i, 0 ≤ r i) (v : EReal) :
    ((∑ i ∈ t, r i : ℝ) : EReal) * v = ∑ i ∈ t, (r i : EReal) * v := by
  classical
  induction t using Finset.induction_on with
  | empty => simp
  | insert a t ha ih =>
    rw [Finset.sum_insert ha, Finset.sum_insert ha, ← ih, EReal.coe_add,
      EReal.right_distrib_of_nonneg (by exact_mod_cast hr a) (by exact_mod_cast Finset.sum_nonneg fun i _ => hr i)]

/-- A real that is not negative, times a sum of extended reals, is the sum of the products. -/
theorem coe_mul_sum {ι : Type*} (t : Finset ι) (c : ℝ) (hc : 0 ≤ c) (x : ι → EReal) :
    (c : EReal) * ∑ i ∈ t, x i = ∑ i ∈ t, (c : EReal) * x i := by
  classical
  induction t using Finset.induction_on with
  | empty => simp
  | insert a t ha ih =>
    rw [Finset.sum_insert ha, Finset.sum_insert ha, ← ih,
      EReal.left_distrib_of_nonneg_of_ne_top (by exact_mod_cast hc) (EReal.coe_ne_top c)]

/-- The coercion of a finite real sum. -/
theorem coe_sum {ι : Type*} (t : Finset ι) (r : ι → ℝ) : ((∑ i ∈ t, r i : ℝ) : EReal) = ∑ i ∈ t, (r i : EReal) := by
  classical
  induction t using Finset.induction_on with
  | empty => simp
  | insert a t ha ih => rw [Finset.sum_insert ha, Finset.sum_insert ha, EReal.coe_add, ih]

section Softmax

variable {σ κ π : Type} [Fintype σ] [Fintype κ] [Fintype π] [DecidableEq π]
variable (live : σ → Prop) [DecidablePred live] (bt : σ → π)

/-- How many live slots name page `p`, each counted as the extended real 1. -/
noncomputable def count (p : π) : EReal := ∑ t, if bt t = p ∧ live t then 1 else 0

/-- A page's weighed exponential is a sum over the slots. -/
theorem weighed (x : ℝ) (hx : 0 ≤ x) (p : π) :
    (x : EReal) * count live bt p = ((∑ t, if bt t = p ∧ live t then x else 0 : ℝ) : EReal) := by
  unfold count
  rw [coe_mul_sum _ _ hx, coe_sum]
  refine Finset.sum_congr rfl fun t _ => ?_
  split_ifs <;> simp

/-- The weighed sum over the pages is the sum over the live slots. -/
theorem over_slots (e : π → κ → ℝ) (he : ∀ p k, 0 ≤ e p k) (v : π → κ → EReal) :
    ∑ p, ∑ k, (e p k : EReal) * count live bt p * v p k
      = ∑ t, ∑ k, if live t then (e (bt t) k : EReal) * v (bt t) k else 0 := by
  have h1 : ∀ p k, (e p k : EReal) * count live bt p * v p k
      = ∑ t, if bt t = p then (if live t then (e (bt t) k : EReal) * v (bt t) k else 0) else 0 := fun p k => by
    rw [weighed live bt _ (he p k), coe_sum_mul _ _ (fun t => by split_ifs <;> simp [he])]
    refine Finset.sum_congr rfl fun t _ => ?_
    by_cases hb : bt t = p
    · subst hb
      by_cases hl : live t <;> simp [hl]
    · simp [hb]
  simp only [h1]
  calc _ = ∑ k, ∑ p, ∑ t, (if bt t = p then (if live t then (e (bt t) k : EReal) * v (bt t) k else 0) else 0) :=
        Finset.sum_comm
    _ = ∑ k, ∑ t, (if live t then (e (bt t) k : EReal) * v (bt t) k else 0) :=
        Finset.sum_congr rfl fun k _ => by
          rw [Finset.sum_comm]
          exact Finset.sum_congr rfl fun t _ => by simp
    _ = _ := Finset.sum_comm

/-- The real sum of the live slots' exponentials. -/
noncomputable def total (e : π → κ → ℝ) : ℝ := ∑ t, ∑ k, if live t then e (bt t) k else 0

/-- The weighed sum of the exponentials alone is that real sum. -/
theorem over_slots_one (e : π → κ → ℝ) (he : ∀ p k, 0 ≤ e p k) :
    ∑ p, ∑ k, (e p k : EReal) * count live bt p = ((total live bt e : ℝ) : EReal) := by
  have h := over_slots live bt e he (fun _ _ => 1)
  simp only [mul_one] at h
  rw [h]
  unfold total
  rw [coe_sum]
  refine Finset.sum_congr rfl fun t _ => ?_
  rw [coe_sum]
  exact Finset.sum_congr rfl fun k _ => by split_ifs <;> simp

/-- With a live slot and a key the real sum is positive. -/
theorem total_pos [Nonempty κ] (e : π → κ → ℝ) (he : ∀ p k, 0 < e p k) (hl : ∃ t, live t) : 0 < total live bt e := by
  obtain ⟨t, ht⟩ := hl
  obtain ⟨k⟩ := ‹Nonempty κ›
  have h0 : ∀ t k, 0 ≤ (if live t then e (bt t) k else 0 : ℝ) := fun t k => by
    split_ifs
    · exact (he _ _).le
    · exact le_rfl
  refine Finset.sum_pos' (fun t _ => Finset.sum_nonneg fun k _ => h0 t k) ⟨t, Finset.mem_univ t, ?_⟩
  refine Finset.sum_pos' (fun k _ => h0 t k) ⟨k, Finset.mem_univ k, ?_⟩
  rw [if_pos ht]
  exact he _ _

/-- **One softmax.** The pages' weighed sums divided are the slots' weighed values summed. `S` are the slots' scores,
    `⊥` at a dead slot; `u` the slots' values, of which a dead slot's are not constrained. -/
theorem softmax [Nonempty κ] (s : π → κ → ℝ) (v : π → κ → EReal) (M : ℝ) (S u : σ → κ → EReal) (hl : ∃ t, live t)
    (hS : ∀ t k, S t k = if live t then ((s (bt t) k : ℝ) : EReal) else ⊥) (hu : ∀ t k, live t → u t k = v (bt t) k) :
    Ideal.div (∑ p, ∑ k, Ideal.exp ((s p k : ℝ) : EReal) * count live bt p * v p k)
        (∑ p, ∑ k, Ideal.exp ((s p k : ℝ) : EReal) * count live bt p)
      = ∑ t, ∑ k, u t k * Ideal.div (Ideal.exp (S t k - (M : EReal))) (∑ t, ∑ k, Ideal.exp (S t k - (M : EReal))) := by
  have hE : ∀ t k, Ideal.exp (S t k - (M : EReal))
      = (((if live t then Real.exp (s (bt t) k) else 0) * Real.exp (-M) : ℝ) : EReal) := fun t k => by
    rw [hS t k]
    by_cases h : live t
    · rw [if_pos h, if_pos h, ← EReal.coe_sub, Ideal.exp_coe, ← Real.exp_add, sub_eq_add_neg]
    · rw [if_neg h, if_neg h, zero_mul, EReal.bot_sub, Ideal.exp_bot, EReal.coe_zero]
  have hpos : ∀ p k, 0 < Real.exp (s p k) := fun p k => Real.exp_pos _
  have hD := total_pos live bt (fun p k => Real.exp (s p k)) hpos hl
  have hL : ∑ t, ∑ k, Ideal.exp (S t k - (M : EReal))
      = ((total live bt (fun p k => Real.exp (s p k)) * Real.exp (-M) : ℝ) : EReal) := by
    simp only [hE, ← coe_sum]
    unfold total
    simp only [Finset.sum_mul]
  have hM := Real.exp_pos (-M)
  rw [hL]
  simp only [Ideal.exp_coe]
  rw [over_slots live bt (fun p k => Real.exp (s p k)) (fun p k => (hpos p k).le) v,
    over_slots_one live bt (fun p k => Real.exp (s p k)) (fun p k => (hpos p k).le), Ideal.div_coe hD.ne',
    mul_comm, coe_mul_sum _ _ (by positivity)]
  refine Finset.sum_congr rfl fun t _ => ?_
  rw [coe_mul_sum _ _ (by positivity)]
  refine Finset.sum_congr rfl fun k _ => ?_
  rw [hE, Ideal.div_coe (by positivity)]
  by_cases h : live t
  · simp only [h, if_true]
    rw [hu t k h, ← EReal.coe_mul, mul_comm (v (bt t) k), ← mul_assoc, ← EReal.coe_mul]
    congr 2
    field_simp
  · simp [h]

end Softmax

end Cert.Value
-- ==== Proof.Weights.lean ====
/- The weight a kernel's device puts on each of its keys: how many live slots of the row name the key's page. -/
module

public import proofs.«01_k».proof.Proof.Common
public import proofs.«01_k».proof.Proof.Algebra
public import Idealize.ShloMosaic.Lib.Pipeline.Value
public import Idealize.ShloMosaic.Lib.ValueIdx
public import Idealize.ShloMosaic.Lib.IdealHost
public import Idealize.ShloMosaic.Lib.WordCmp

@[expose] public section

noncomputable section

namespace Cert.Value

open Idealize.ShloMosaic Idealize.ShloMosaic.TcCoe
open Idealize.ShloMosaic.ValueIdx
open Cert.KernelIdeal Cert.KernelIdeal.Gen Cert.Run
open scoped BigOperators

/-- Slot `t` of a row of length `n` is live. -/
def Live (n : BitVec 32) (t : Fin 256) : Prop := (t.val : ℤ) < n.toInt

instance (n : BitVec 32) : DecidablePred (Live n) := fun _ => inferInstanceAs (Decidable (_ < _))

/-- The page a slot's word names. -/
def page (w : BitVec 32) : Fin 512 := ⟨w.toNat % 512, Nat.mod_lt _ (by decide)⟩

/-- A small number as a word, read back signed. -/
theorem toInt_small (k : ℕ) (h : k < 8192) : (BitVec.ofNat 32 k).toInt = (k : ℤ) := by
  rw [BitVec.toInt_eq_toNat_of_lt (by simp; omega)]
  simp
  omega

/-- The signed comparison of a slot's number with a length says that the slot is live. -/
theorem slt_live (n : BitVec 32) (t : Fin 256) : IntOp.cmpi .slt (BitVec.ofNat 32 t.val) n = 1#1 ↔ Live n t := by
  rw [WordCmp.cmpi_slt_eq, toInt_small t.val (by omega)]
  unfold Live
  by_cases h : (t.val : ℤ) < n.toInt <;> simp [h]

/-- The array of counts over 64 pages that starts at the page of word `w`. -/
def slab (w : BitVec 32) (lv : IVec S32x1x256 1) (bt : IVec S32x1x256 32) : FVec Ideal S32x64 .f32 :=
  multiReduction .add [2] S32x64
    (select
      (andi (cmpi .eq (broadcastTo S32x64x256 bt broadcasts_S32x1x256_S32x64x256)
          (broadcastTo S32x64x256 (addi (broadcast S1x64x1 w) (iota .tc S1x64x1 32 [1] iota_S1x64x1_d1_w32)) broadcasts_S1x64x1_S32x64x256))
        (broadcastTo S32x64x256 lv broadcasts_S32x1x256_S32x64x256))
      (broadcast S32x64x256 (Scalar.ofBits .f32 0x3F800000#32 : Ideal .f32)) (broadcast S32x64x256 (Scalar.ofBits .f32 0x00000000#32)))
    0x00000000#32 reduces_S32x64x256_S32x64 (.inl rfl) rfl

/-- A count read at a row and a page. -/
theorem slab_apply (w : BitVec 32) (lv : IVec S32x1x256 1) (bt : IVec S32x1x256 32) (b : Fin 32) (p : Fin 64) :
    slab w lv bt (ix2 b p)
      = ∑ t : Fin 256, if bt (ix3 b (0 : Fin 1) t) = w + BitVec.ofNat 32 p.val ∧ lv (ix3 b (0 : Fin 1) t) = 1#1 then (1 : EReal) else 0 := by
  refine (Ideal.multiReduction_add_single (a := 2) _ _ reduces_S32x64x256_S32x64 (.inl rfl) rfl (ix2 b p)).trans ?_
  refine Finset.sum_congr rfl fun (t : Fin 256) _ => ?_
  have hl : Shape.Reduces.lift (s := S32x64x256) (t := S32x64) (a := 2) reduces_S32x64x256_S32x64 (ix2 b p) t = ix3 b p t := by
    funext a; apply Fin.ext
    match a with
    | ⟨0, _⟩ => rfl
    | ⟨1, _⟩ => rfl
    | ⟨2, _⟩ => rfl
  rw [hl, select_apply]
  have e1 : broadcastTo S32x64x256 bt broadcasts_S32x1x256_S32x64x256 (ix3 b p t) = bt (ix3 b (0 : Fin 1) t) :=
    broadcastTo_apply _ _ _ _ fun a => match a with | ⟨0, _⟩ => rfl | ⟨1, _⟩ => rfl | ⟨2, _⟩ => rfl
  have e2 : broadcastTo S32x64x256 lv broadcasts_S32x1x256_S32x64x256 (ix3 b p t) = lv (ix3 b (0 : Fin 1) t) :=
    broadcastTo_apply _ _ _ _ fun a => match a with | ⟨0, _⟩ => rfl | ⟨1, _⟩ => rfl | ⟨2, _⟩ => rfl
  have e3 : broadcastTo S32x64x256 (addi (broadcast S1x64x1 w) (iota .tc S1x64x1 32 [1] iota_S1x64x1_d1_w32)) broadcasts_S1x64x1_S32x64x256 (ix3 b p t)
      = w + BitVec.ofNat 32 p.val :=
    (broadcastTo_apply _ _ _ (ix3 (0 : Fin 1) p (0 : Fin 1)) fun a => match a with | ⟨0, _⟩ => rfl | ⟨1, _⟩ => rfl | ⟨2, _⟩ => rfl).trans
      (congrArg (w + ·) (iota_single_apply .tc S1x64x1 32 1 _ _))
  show Scalar.select (IntOp.cmpi .eq (broadcastTo S32x64x256 bt broadcasts_S32x1x256_S32x64x256 (ix3 b p t)) (broadcastTo S32x64x256 (addi (broadcast S1x64x1 w) (iota .tc S1x64x1 32 [1] iota_S1x64x1_d1_w32)) broadcasts_S1x64x1_S32x64x256 (ix3 b p t))
      &&& broadcastTo S32x64x256 lv broadcasts_S32x1x256_S32x64x256 (ix3 b p t)) (Ideal.ofBits .f32 0x3F800000#32) (Ideal.ofBits .f32 0x00000000#32) = _
  rw [e1, e2, e3, Ideal.ofBits_zero_f32, Ideal.ofBits_one_f32]
  generalize bt (ix3 b (0 : Fin 1) t) = x
  generalize lv (ix3 b (0 : Fin 1) t) = y
  generalize w + BitVec.ofNat 32 p.val = z
  by_cases h1 : x = z <;> by_cases h2 : y = 1#1
  · subst h1; subst h2; simp [IntOp.cmpi, Scalar.select]
  · obtain rfl := eq_zero_of_ne_one h2
    simp [IntOp.cmpi, Scalar.select]
  · have hb : (x == z) = false := by simpa using h1
    subst h2; simp [IntOp.cmpi, Scalar.select, h1, hb]
  · obtain rfl := eq_zero_of_ne_one h2
    simp [IntOp.cmpi, Scalar.select]

/-- The row's word of one of the 64-page pieces: the device's first page, the piece's offset, the page. -/
theorem piece_word (y off p : ℕ) :
    Scalar.addi (Scalar.muli (BitVec.ofNat 32 y) 256#32) (BitVec.ofNat 32 off) + BitVec.ofNat 32 p = BitVec.ofNat 32 (256 * y + (off + p)) := by
  show BitVec.ofNat 32 y * BitVec.ofNat 32 256 + BitVec.ofNat 32 off + BitVec.ofNat 32 p = _
  rw [← BitVec.ofNat_mul, ← BitVec.ofNat_add, ← BitVec.ofNat_add]
  exact congrArg (BitVec.ofNat 32) (by ring)

/-- The device's coordinate along `y`, as a word. -/
theorem wy_eq (c : Dev nD) : wy c = BitVec.ofNat 32 (c.val % 2) := by revert c; decide

/-- The table of live slots, read. -/
theorem pay2_apply (ln : Vec Ideal S32x1 .i32) (b : Fin 32) (t : Fin 256) :
    k0_pay2 (F := Ideal) ln (ix3 b (0 : Fin 1) t) = 1#1 ↔ Live (ln (ix2 b (0 : Fin 1))) t := by
  rw [← slt_live]
  unfold k0_pay2
  have e1 : broadcastTo S32x1x256 (iota .tc S1x1x256 32 [2] iota_S1x1x256_d2_w32) broadcasts_S1x1x256_S32x1x256 (ix3 b (0 : Fin 1) t) = BitVec.ofNat 32 t.val :=
    (broadcastTo_apply _ _ _ (ix3 (0 : Fin 1) (0 : Fin 1) t) fun a => match a with | ⟨0, _⟩ => rfl | ⟨1, _⟩ => rfl | ⟨2, _⟩ => rfl).trans
      (iota_single_apply .tc S1x1x256 32 2 _ _)
  have e2 : broadcastTo S32x1x256 (shapeCast S32x1x1 (shapeCast S32x1 ln shapeCasts_S32x1_S32x1) shapeCasts_S32x1_S32x1x1) broadcasts_S32x1x1_S32x1x256 (ix3 b (0 : Fin 1) t)
      = ln (ix2 b (0 : Fin 1)) :=
    (broadcastTo_apply _ _ _ (ix3 b (0 : Fin 1) (0 : Fin 1)) fun a => match a with | ⟨0, _⟩ => rfl | ⟨1, _⟩ => rfl | ⟨2, _⟩ => rfl).trans
      ((shapeCast_apply _ _ _ (ix2 b (0 : Fin 1)) (by rw [Shape.rowMajor_val_three, Shape.rowMajor_val_two]; show b.val * 1 + 0 = (b.val * 1 + 0) * 1 + 0; omega)).trans
        (congrFun (shapeCast_self _ _) _))
  show IntOp.cmpi .slt (broadcastTo S32x1x256 _ _ _) (broadcastTo S32x1x256 _ _ _) = 1#1 ↔ _
  rw [e1, e2]

/-- The table of pages, read. -/
theorem pay3_apply (bt : Vec Ideal S32x256 .i32) (b : Fin 32) (t : Fin 256) :
    k0_pay3 (F := Ideal) bt (ix3 b (0 : Fin 1) t) = bt (ix2 b t) := by
  show shapeCast S32x1x256 (shapeCast S32x256 bt shapeCasts_S32x256_S32x256) shapeCasts_S32x256_S32x1x256 _ = _
  rw [shapeCast_self]
  exact shapeCast_apply _ _ _ (ix2 b t) (by
    rw [Shape.rowMajor_val_three, Shape.rowMajor_val_two]; show b.val * 256 + t.val = (b.val * 1 + 0) * 256 + t.val; omega)

/-- A count over the pages of device `c`'s piece at offset `off`, read. -/
theorem piece_apply (c : Dev nD) (off : ℕ) (ln : Vec Ideal S32x1 .i32) (bt : Vec Ideal S32x256 .i32) (b : Fin 32) (p : Fin 64) :
    slab (Scalar.addi (Scalar.muli (wy c) 256#32) (BitVec.ofNat 32 off)) (k0_pay2 (F := Ideal) ln) (k0_pay3 (F := Ideal) bt) (ix2 b p)
      = ∑ t : Fin 256, if bt (ix2 b t) = BitVec.ofNat 32 (256 * (c.val % 2) + (off + p.val)) ∧ Live (ln (ix2 b (0 : Fin 1))) t then (1 : EReal) else 0 := by
  rw [slab_apply, wy_eq]
  refine Finset.sum_congr rfl fun t _ => ?_
  rw [piece_word, pay3_apply]
  exact if_congr (and_congr_right fun _ => pay2_apply ln b t) rfl rfl

/-- The four pieces side by side. -/
def pieces (c : Dev nD) (ln : Vec Ideal S32x1 .i32) (bt : Vec Ideal S32x256 .i32) : FVec Ideal S32x256 .f32 :=
  concatenate S32x256 1
    [⟨S32x64, slab (Scalar.addi (Scalar.muli (wy c) 256#32) (BitVec.ofNat 32 0)) (k0_pay2 (F := Ideal) ln) (k0_pay3 (F := Ideal) bt)⟩,
     ⟨S32x64, slab (Scalar.addi (Scalar.muli (wy c) 256#32) (BitVec.ofNat 32 64)) (k0_pay2 (F := Ideal) ln) (k0_pay3 (F := Ideal) bt)⟩,
     ⟨S32x64, slab (Scalar.addi (Scalar.muli (wy c) 256#32) (BitVec.ofNat 32 128)) (k0_pay2 (F := Ideal) ln) (k0_pay3 (F := Ideal) bt)⟩,
     ⟨S32x64, slab (Scalar.addi (Scalar.muli (wy c) 256#32) (BitVec.ofNat 32 192)) (k0_pay2 (F := Ideal) ln) (k0_pay3 (F := Ideal) bt)⟩]
    concatenates_S32x64_S32x64_S32x64_S32x64_S32x256_d1

/-- Piece `k` of the four, read at a page it covers. -/
theorem pieces_at (c : Dev nD) (ln : Vec Ideal S32x1 .i32) (bt : Vec Ideal S32x256 .i32) (b : Fin 32) (a : Fin 256) (k : ℕ) (hk : k < 4)
    (off : ℕ) (ho : off = 64 * k) (h0 : off ≤ a.val) (h1 : a.val < off + 64) :
    pieces c ln bt (ix2 b a)
      = slab (Scalar.addi (Scalar.muli (wy c) 256#32) (BitVec.ofNat 32 off)) (k0_pay2 (F := Ideal) ln) (k0_pay3 (F := Ideal) bt)
          (ix2 b (⟨a.val - off, by omega⟩ : Fin 64)) := by
  subst ho
  unfold pieces
  refine concatenate_apply_piece (1 : Fin S32x256.rank) _ _ _ k (by simpa using hk) S32x64 _ ?_ rfl (64 * k) ?_ _ ?_ ?_
  · interval_cases k <;> rfl
  · interval_cases k <;> rfl
  · intro d hd
    match d with
    | ⟨0, _⟩ => rfl
    | ⟨1, _⟩ => exact absurd rfl hd
  · show 64 * k + (a.val - 64 * k) = a.val
    omega

/-- The four pieces read at a page of the device's 256: the number of live slots that name it. -/
theorem pieces_apply (c : Dev nD) (ln : Vec Ideal S32x1 .i32) (bt : Vec Ideal S32x256 .i32) (b : Fin 32) (a : Fin 256) :
    pieces c ln bt (ix2 b a)
      = ∑ t : Fin 256, if bt (ix2 b t) = BitVec.ofNat 32 (256 * (c.val % 2) + a.val) ∧ Live (ln (ix2 b (0 : Fin 1))) t then (1 : EReal) else 0 := by
  have ha := a.isLt
  rw [pieces_at c ln bt b a (a.val / 64) (by omega) (64 * (a.val / 64)) rfl (by omega) (by omega), piece_apply]
  have e : 64 * (a.val / 64) + (a.val - 64 * (a.val / 64)) = a.val := by omega
  simp only [e]

/-- The weights as an array, over the pieces. -/
theorem wkC_eq (m : (ℓ : Loc nD τ sig) → Buf (Elt Ideal) ℓ) (c : Dev nD) :
    wkC (F := Ideal) m c = shapeCast S32x8192 (truncf .bf16 (shapeCast S32x8192
      (broadcastTo S32x256x32 (shapeCast S32x256x1 (shapeCast S32x256x1 (pieces c (lnA m c) (btA m c)) shapeCasts_S32x256_S32x256x1)
        shapeCasts_S32x256x1_S32x256x1) broadcasts_S32x256x1_S32x256x32) shapeCasts_S32x256x32_S32x8192) bitsLt_bf16_f32) shapeCasts_S32x8192_S32x8192 := rfl

/-- **A key's weight**: key `32 a + k` of the device weighs what page `a` of its 256 counts. -/
theorem wkC_apply (m : (ℓ : Loc nD τ sig) → Buf (Elt Ideal) ℓ) (c : Dev nD) (b : Fin 32) (j : Fin 8192) (a : Fin 256) (k : Fin 32)
    (hj : j.val = k.val + 32 * a.val) :
    wkC (F := Ideal) m c (ix2 b j)
      = ∑ t : Fin 256, if (btA m c (ix2 b t) : BitVec 32) = BitVec.ofNat 32 (256 * (c.val % 2) + a.val) ∧ Live (lnA m c (ix2 b (0 : Fin 1))) t then (1 : EReal) else 0 := by
  rw [wkC_eq, shapeCast_self]
  refine Eq.trans ?_ (pieces_apply c (lnA m c) (btA m c) b a)
  rw [truncf_apply]
  refine (shapeCast_apply _ _ _ (ix3 b a k) ?_).trans ?_
  · rw [Shape.rowMajor_val_three, Shape.rowMajor_val_two]
    show (b.val * 256 + a.val) * 32 + k.val = b.val * 8192 + j.val
    omega
  · refine (broadcastTo_apply _ _ _ (ix3 b a (0 : Fin 1)) fun d => match d with | ⟨0, _⟩ => rfl | ⟨1, _⟩ => rfl | ⟨2, _⟩ => rfl).trans ?_
    rw [shapeCast_self]
    refine shapeCast_apply _ _ _ (ix2 b a) ?_
    rw [Shape.rowMajor_val_three, Shape.rowMajor_val_two]
    show b.val * 256 + a.val = (b.val * 256 + a.val) * 1 + 0
    omega

end Cert.Value
-- ==== Proof.KernelValue.lean ====
/- What the kernel's result holds, element by element: a quotient of two sums over all 512 pages. -/
module

public import proofs.«01_k».proof.Proof.Weights
public import Idealize.ShloMosaic.Lib.MatmulPlain

@[expose] public section

noncomputable section

namespace Cert.Value

open Idealize.ShloMosaic Idealize.ShloMosaic.TcCoe
open Idealize.ShloMosaic.ValueIdx
open Cert.KernelIdeal Cert.KernelIdeal.Gen Cert.Run
open scoped BigOperators

/-- The scores' scale, as an extended real. -/
def scl : EReal := Ideal.ofBits .f32 0x3DB504F3#32

/-- A sum over a device's keys is a sum over its pages and a page's keys. -/
theorem sum_keys (f : Fin 8192 → EReal) :
    ∑ j, f j = ∑ a : Fin 256, ∑ k : Fin 32, f ⟨k.val + 32 * a.val, by omega⟩ := by
  rw [← Fintype.sum_prod_type' (fun (a : Fin 256) (k : Fin 32) => f ⟨k.val + 32 * a.val, by omega⟩)]
  exact (Equiv.sum_comp (finProdFinEquiv (m := 256) (n := 32)) f).symm

/-- A head's scaled query, read. -/
theorem pay10_apply (q : Vec Ideal S1x32x128 .f32) (b : Fin 32) (d : Fin 128) :
    k0_pay10 (F := Ideal) q (ix2 b d) = q (ix3 (0 : Fin 1) b d) * scl := by
  unfold k0_pay10
  rw [mulf_apply]
  exact congrArg (· * scl) (shapeCast_1ab_ab_apply q shapeCasts_S1x32x128_S32x128 b d)

/-- A head's keys laid out as rows, read. -/
theorem rows_apply (v : Vec Ideal S1x256x32x128 .f32) (a : Fin 256) (k : Fin 32) (d : Fin 128) (j : Fin 8192) (hj : j.val = k.val + 32 * a.val) :
    shapeCast S8192x128 (shapeCast S256x32x128 v shapeCasts_S1x256x32x128_S256x32x128) shapeCasts_S256x32x128_S8192x128 (ix2 j d)
      = v (ix4 (0 : Fin 1) a k d) := by
  refine (shapeCast_apply _ _ _ (ix3 a k d) ?_).trans (shapeCast_1abc_abc_apply v shapeCasts_S1x256x32x128_S256x32x128 a k d)
  rw [Shape.rowMajor_val_three, Shape.rowMajor_val_two]
  show (a.val * 32 + k.val) * 128 + d.val = j.val * 128 + d.val
  omega

/-- A weighed exponential, read. -/
theorem pay11_apply (q : FVec Ideal S32x128 .f32) (K : Vec Ideal S1x256x32x128 .f32) (w : Vec Ideal S32x8192 .bf16) (b : Fin 32) (a : Fin 256) (k : Fin 32)
    (j : Fin 8192) (hj : j.val = k.val + 32 * a.val) :
    k0_pay11 (F := Ideal) q K w (ix2 b j) = Ideal.exp (∑ d : Fin 128, q (ix2 b d) * K (ix4 (0 : Fin 1) a k d)) * w (ix2 b j) := by
  unfold k0_pay11
  rw [mulf_apply]
  refine congrArg (· * w (ix2 b j)) (congrArg Ideal.exp ?_)
  refine (Ideal.matmul_transposedRhs_apply (M := 32) (K := 128) (N := 8192) none q _ (constant S32x8192 .f32 0x00000000#32) b j).trans ?_
  rw [constant_apply, Ideal.ofBits_zero_f32, zero_add]
  exact Finset.sum_congr rfl fun d _ => congrArg (q (ix2 b d) * ·) (rows_apply K a k d j hj)

/-- A head's partial denominator, read. -/
theorem pay12_apply (q : FVec Ideal S32x128 .f32) (K : Vec Ideal S1x256x32x128 .f32) (w : Vec Ideal S32x8192 .bf16) (b : Fin 32) :
    k0_pay12 (F := Ideal) q K w (ix3 (0 : Fin 1) (0 : Fin 1) b) = ∑ j : Fin 8192, k0_pay11 (F := Ideal) q K w (ix2 b j) := by
  unfold k0_pay12
  refine (shapeCast_apply _ _ _ (ix1 b) ?_).trans ?_
  · rw [Shape.rowMajor_val_three, Shape.rowMajor_val_one]
    show b.val = (0 * 1 + 0) * 32 + b.val
    omega
  · refine (Ideal.multiReduction_add_single (a := 1) _ _ reduces_S32x8192_S32 (.inl rfl) rfl (ix1 b)).trans ?_
    refine Finset.sum_congr rfl fun (j : Fin 8192) _ => ?_
    rw [extf_apply]
    refine congrArg _ ?_
    funext a; apply Fin.ext
    match a with
    | ⟨0, _⟩ => rfl
    | ⟨1, _⟩ => rfl

/-- A head's partial output, read. -/
theorem pay13_apply (q : FVec Ideal S32x128 .f32) (K V : Vec Ideal S1x256x32x128 .f32) (w : Vec Ideal S32x8192 .bf16) (b : Fin 32) (d : Fin 128) :
    k0_pay13 (F := Ideal) q K V w (ix3 (0 : Fin 1) b d)
      = ∑ a : Fin 256, ∑ k : Fin 32, k0_pay11 (F := Ideal) q K w (ix2 b ⟨k.val + 32 * a.val, by omega⟩) * V (ix4 (0 : Fin 1) a k d) := by
  unfold k0_pay13
  refine (shapeCast_ab_1ab_apply _ shapeCasts_S32x128_S1x32x128 0 b d).trans ?_
  refine (Ideal.matmul_plain_apply (M := 32) (K := 8192) (N := 128) none _ _ (constant S32x128 .f32 0x00000000#32) b d).trans ?_
  rw [constant_apply, Ideal.ofBits_zero_f32, zero_add, sum_keys]
  refine Finset.sum_congr rfl fun a _ => Finset.sum_congr rfl fun k _ => ?_
  rw [rows_apply V a k d _ rfl]
  rfl

/-! ## The whole arrays -/

/-- A device's page `a` among all 512. -/
def pg (c : Dev nD) (a : Fin 256) : Fin 512 := ⟨256 * (c.val % 2) + a.val, by omega⟩

/-- The arrays that the devices hold between them. -/
structure Arrays where
  /-- The queries. -/
  Q : (⟨4, ![32, 1, 16, 128]⟩ : Shape).Idx → EReal
  /-- All pages' keys. -/
  K : (⟨4, ![512, 32, 16, 128]⟩ : Shape).Idx → EReal
  /-- All pages' values. -/
  V : (⟨4, ![512, 32, 16, 128]⟩ : Shape).Idx → EReal
  /-- The pages the slots name. -/
  bt : (⟨2, ![32, 256]⟩ : Shape).Idx → BitVec 32
  /-- The rows' lengths. -/
  ln : (⟨2, ![32, 1]⟩ : Shape).Idx → BitVec 32

namespace Arrays

variable (A : Arrays)

/-- A row's live slots. -/
abbrev live (b : Fin 32) : Fin 256 → Prop := Live (A.ln (ix2 b (0 : Fin 1)))
/-- The pages a row's slots name. -/
abbrev pages (b : Fin 32) : Fin 256 → Fin 512 := fun t => page (A.bt (ix2 b t))
/-- The score of a key. -/
def score (b : Fin 32) (H : Fin 16) (p : Fin 512) (k : Fin 32) : EReal := ∑ d : Fin 128, A.Q (ix4 b (0 : Fin 1) H d) * scl * A.K (ix4 p k H d)
/-- Every live slot names a page. -/
def Named : Prop := ∀ b t, A.live b t → (A.bt (ix2 b t)).toNat < 512

/-- The attention of a row, head and coordinate, as the kernel sums it. -/
def attn (b : Fin 32) (H : Fin 16) (d : Fin 128) : EReal :=
  Ideal.div (∑ p, ∑ k, Ideal.exp (A.score b H p k) * count (A.live b) (A.pages b) p * A.V (ix4 p k H d))
    (∑ p, ∑ k, Ideal.exp (A.score b H p k) * count (A.live b) (A.pages b) p)

/-- The memory holds these arrays. -/
structure Held (m : (ℓ : Loc nD τ sig) → Buf (Elt Ideal) ℓ) : Prop where
  q : ∀ c, qA m c = A.Q
  k : ∀ c a k H d, kA m c (ix4 a k H d) = A.K (ix4 (pg c a) k H d)
  v : ∀ c a k H d, vA m c (ix4 a k H d) = A.V (ix4 (pg c a) k H d)
  bt : ∀ c, btA m c = A.bt
  ln : ∀ c, lnA m c = A.ln

end Arrays

variable {A : Arrays} {m : (ℓ : Loc nD τ sig) → Buf (Elt Ideal) ℓ}

/-- A word below 512 is the number of a page just when it names that page. -/
theorem word_page (w : BitVec 32) (hw : w.toNat < 512) (p : Fin 512) : w = BitVec.ofNat 32 p.val ↔ page w = p := by
  have hp := p.isLt
  constructor
  · rintro rfl
    apply Fin.ext
    show (BitVec.ofNat 32 p.val).toNat % 512 = p.val
    rw [BitVec.toNat_ofNat]
    omega
  · rintro rfl
    apply BitVec.eq_of_toNat_eq
    show w.toNat = (BitVec.ofNat 32 (w.toNat % 512)).toNat
    rw [BitVec.toNat_ofNat]
    omega

/-- A key's weight is the count of its page. -/
theorem weight_eq (hA : A.Held m) (hn : A.Named) (c : Dev nD) (b : Fin 32) (a : Fin 256) (k : Fin 32) :
    wkC (F := Ideal) m c (ix2 b (⟨k.val + 32 * a.val, by omega⟩ : Fin 8192)) = count (A.live b) (A.pages b) (pg c a) := by
  rw [wkC_apply m c b _ a k rfl, hA.bt, hA.ln]
  unfold count
  refine Finset.sum_congr rfl fun t _ => if_congr ?_ rfl rfl
  exact and_congr_left fun h => word_page _ (hn b t h) (pg c a)

/-- A weighed exponential over the whole arrays. -/
theorem term_eq (hA : A.Held m) (hn : A.Named) (c : Dev nD) (h : Fin 8) (b : Fin 32) (a : Fin 256) (k : Fin 32) :
    k0_pay11 (F := Ideal) (k0_pay10 (qV (qA m c) c h)) (kV (kA m c) c h) (wkC m c) (ix2 b (⟨k.val + 32 * a.val, by omega⟩ : Fin 8192))
      = Ideal.exp (A.score b (hd c h) (pg c a) k) * count (A.live b) (A.pages b) (pg c a) := by
  rw [pay11_apply _ _ _ b a k _ rfl, weight_eq hA hn]
  refine congrArg (Ideal.exp · * _) (Finset.sum_congr rfl fun d _ => ?_)
  rw [pay10_apply]
  show qA m c (ix4 b (0 : Fin 1) (hd c h) d) * scl * kA m c (ix4 a k (hd c h) d) = _
  rw [hA.q, hA.k]

/-- A head's partial denominator on a device. -/
theorem lB_apply (hA : A.Held m) (hn : A.Named) (c : Dev nD) (h : Fin 8) (b : Fin 32) :
    lB (F := Ideal) m c h (ix3 (0 : Fin 1) (0 : Fin 1) b)
      = ∑ a : Fin 256, ∑ k : Fin 32, Ideal.exp (A.score b (hd c h) (pg c a) k) * count (A.live b) (A.pages b) (pg c a) := by
  unfold lB
  rw [pay12_apply, sum_keys]
  exact Finset.sum_congr rfl fun a _ => Finset.sum_congr rfl fun k _ => term_eq hA hn c h b a k

/-- A head's partial output on a device. -/
theorem oB_apply (hA : A.Held m) (hn : A.Named) (c : Dev nD) (h : Fin 8) (b : Fin 32) (d : Fin 128) :
    oB (F := Ideal) m c h (ix3 (0 : Fin 1) b d)
      = ∑ a : Fin 256, ∑ k : Fin 32, Ideal.exp (A.score b (hd c h) (pg c a) k) * count (A.live b) (A.pages b) (pg c a) * A.V (ix4 (pg c a) k (hd c h) d) := by
  unfold oB
  rw [pay13_apply]
  refine Finset.sum_congr rfl fun a _ => Finset.sum_congr rfl fun k _ => ?_
  rw [term_eq hA hn]
  show _ * vA m c (ix4 a k (hd c h) d) = _
  rw [hA.v]

/-- The two devices along `y` hold all pages between them. -/
theorem both (c : Dev nD) (f : Fin 512 → EReal) : ∑ a, f (pg c a) + ∑ a, f (pg (yp c) a) = ∑ p, f p := by
  have hs : ∑ p : Fin 512, f p = ∑ a : Fin 256, f ⟨a.val, by omega⟩ + ∑ a : Fin 256, f ⟨256 + a.val, by omega⟩ :=
    Fin.sum_univ_add (a := 256) (b := 256) f
  have hp : ∀ c : Dev nD, c.val % 2 = 0 ∧ (yp c).val % 2 = 1 ∨ c.val % 2 = 1 ∧ (yp c).val % 2 = 0 := by decide
  rcases hp c with ⟨h0, h1⟩ | ⟨h0, h1⟩
  · rw [hs]
    refine congrArg₂ (· + ·) (Finset.sum_congr rfl fun a _ => congrArg f (Fin.ext ?_)) (Finset.sum_congr rfl fun a _ => congrArg f (Fin.ext ?_))
    · show 256 * (c.val % 2) + a.val = a.val
      omega
    · show 256 * ((yp c).val % 2) + a.val = 256 + a.val
      omega
  · rw [hs, add_comm]
    refine congrArg₂ (· + ·) (Finset.sum_congr rfl fun a _ => congrArg f (Fin.ext ?_)) (Finset.sum_congr rfl fun a _ => congrArg f (Fin.ext ?_))
    · show 256 * ((yp c).val % 2) + a.val = a.val
      omega
    · show 256 * (c.val % 2) + a.val = 256 + a.val
      omega

/-- Neighbours along `y` work on the same heads. -/
theorem hd_yp (c : Dev nD) (h : Fin 8) : hd (yp c) h = hd c h := by
  apply Fin.ext
  have : ∀ c : Dev nD, (yp c).val / 2 = c.val / 2 := by decide
  show 8 * ((yp c).val / 2) + h.val = 8 * (c.val / 2) + h.val
  rw [this]

/-- A device's and its neighbour's partial sums, divided, are the attention. -/
theorem quot (hA : A.Held m) (hn : A.Named) (c : Dev nD) (h : Fin 8) (b : Fin 32) (d : Fin 128) :
    Ideal.div (aO (F := Ideal) m c (ix3 h b d) + aO (F := Ideal) m (yp c) (ix3 h b d))
        (aL (F := Ideal) m c (ix3 h (0 : Fin 1) b) + aL (F := Ideal) m (yp c) (ix3 h (0 : Fin 1) b))
      = A.attn b (hd c h) d := by
  show Ideal.div (oB (F := Ideal) m c h (ix3 (0 : Fin 1) b d) + oB (F := Ideal) m (yp c) h (ix3 (0 : Fin 1) b d))
        (lB (F := Ideal) m c h (ix3 (0 : Fin 1) (0 : Fin 1) b) + lB (F := Ideal) m (yp c) h (ix3 (0 : Fin 1) (0 : Fin 1) b)) = _
  rw [oB_apply hA hn, oB_apply hA hn, lB_apply hA hn, lB_apply hA hn, hd_yp]
  unfold Arrays.attn
  exact congrArg₂ Ideal.div
    (both c fun p => ∑ k, Ideal.exp (A.score b (hd c h) p k) * count (A.live b) (A.pages b) p * A.V (ix4 p k (hd c h) d))
    (both c fun p => ∑ k, Ideal.exp (A.score b (hd c h) p k) * count (A.live b) (A.pages b) p)

end Cert.Value
-- ==== Proof.KernelResult.lean ====
/- What the kernel returns: every device holds the attention of all sixteen heads. -/
module

public import proofs.«01_k».proof.Proof.KernelValue

@[expose] public section

noncomputable section

namespace Cert.Value

open Idealize.ShloMosaic Idealize.ShloMosaic.TcCoe
open Idealize.ShloMosaic.ValueIdx
open Cert.KernelIdeal Cert.KernelIdeal.Gen Cert.Run
open scoped BigOperators

/-- The first seven heads' quotients, laid side by side, read. -/
theorem pay9_apply (l l' : Vec Ideal S7x1x32 .f32) (o o' : Vec Ideal S7x32x128 .f32) (b : Fin 32) (h : Fin 7) (d : Fin 128) (i : Fin 896)
    (hi : i.val = 128 * h.val + d.val) :
    k0_pay9 (F := Ideal) (k0_pay6 l) l' o o' (ix2 b i)
      = Ideal.div (o (ix3 h b d) + o' (ix3 h b d)) (l (ix3 h (0 : Fin 1) b) + l' (ix3 h (0 : Fin 1) b)) := by
  have e : ∀ x : Vec Ideal S7x1x32 .f32, shapeCast S7x32 x shapeCasts_S7x1x32_S7x32 (ix2 h b) = x (ix3 h (0 : Fin 1) b) := fun x =>
    shapeCast_apply _ _ _ _ (by
      rw [Shape.rowMajor_val_three, Shape.rowMajor_val_two]; show (h.val * 1 + 0) * 32 + b.val = h.val * 32 + b.val; omega)
  unfold k0_pay9 k0_pay6
  rw [shapeCast_self]
  refine (shapeCast_apply _ _ _ (ix3 b h d) ?_).trans ?_
  · rw [Shape.rowMajor_val_three, Shape.rowMajor_val_two]
    show (b.val * 7 + h.val) * 128 + d.val = b.val * 896 + i.val
    omega
  refine (transpose_apply _ _ _ _ (ix3 h b d) fun a => match a with | ⟨0, _⟩ => rfl | ⟨1, _⟩ => rfl | ⟨2, _⟩ => rfl).trans ?_
  rw [divf_apply, addf_apply]
  refine congrArg (Ideal.div _) ?_
  refine (broadcastTo_apply _ _ _ (ix3 h b (0 : Fin 1)) fun a => match a with | ⟨0, _⟩ => rfl | ⟨1, _⟩ => rfl | ⟨2, _⟩ => rfl).trans ?_
  refine (shapeCast_apply _ _ _ (ix2 h b) ?_).trans ?_
  · rw [Shape.rowMajor_val_three, Shape.rowMajor_val_two]
    show h.val * 32 + b.val = (h.val * 32 + b.val) * 1 + 0
    omega
  rw [addf_apply]
  exact congrArg₂ (· + ·) (e l) (e l')

/-- The last head's quotients, read. -/
theorem pay7_apply (l l' : Vec Ideal S1x1x32 .f32) (o o' : Vec Ideal S1x32x128 .f32) (b : Fin 32) (d : Fin 128) :
    k0_pay7 (F := Ideal) l l' o o' (ix2 b d)
      = Ideal.div (o (ix3 (0 : Fin 1) b d) + o' (ix3 (0 : Fin 1) b d)) (l (ix3 (0 : Fin 1) (0 : Fin 1) b) + l' (ix3 (0 : Fin 1) (0 : Fin 1) b)) := by
  have e : ∀ x : Vec Ideal S1x1x32 .f32, shapeCast S32 x shapeCasts_S1x1x32_S32 (ix1 b) = x (ix3 (0 : Fin 1) (0 : Fin 1) b) := fun x =>
    shapeCast_apply _ _ _ _ (by
      rw [Shape.rowMajor_val_three, Shape.rowMajor_val_one]; show (0 * 1 + 0) * 32 + b.val = b.val; omega)
  unfold k0_pay7
  rw [shapeCast_self, divf_apply, addf_apply]
  refine congrArg₂ Ideal.div (congrArg₂ (· + ·) (shapeCast_1ab_ab_apply o shapeCasts_S1x32x128_S32x128 b d)
    (shapeCast_1ab_ab_apply o' shapeCasts_S1x32x128_S32x128 b d)) ?_
  refine (broadcastTo_apply _ _ _ (ix2 b (0 : Fin 1)) fun a => match a with | ⟨0, _⟩ => rfl | ⟨1, _⟩ => rfl).trans ?_
  refine (shapeCast_apply _ _ _ (ix1 b) ?_).trans ?_
  · rw [Shape.rowMajor_val_one, Shape.rowMajor_val_two]
    show b.val = b.val * 1 + 0
    omega
  rw [addf_apply]
  exact congrArg₂ (· + ·) (e l) (e l')

variable {A : Arrays} {m : (ℓ : Loc nD τ sig) → Buf (Elt Ideal) ℓ}

/-- Device `c`'s eight heads, read: column `128 h + d` is head `h`'s coordinate `d`. -/
theorem xC_apply (hA : A.Held m) (hn : A.Named) (c : Dev nD) (b : Fin 32) (h : Fin 8) (d : Fin 128) (i : Fin 1024)
    (hi : i.val = 128 * h.val + d.val) : xC (F := Ideal) m c (ix2 b i) = A.attn b (hd c h) d := by
  have hd' := d.isLt
  have hh := h.isLt
  show (if hlt : i.val < 896 then xA (F := Ideal) m c (ix2 b ⟨i.val, hlt⟩) else xZ (F := Ideal) m c (ix2 b ⟨i.val - 896, _⟩)) = _
  by_cases hlt : i.val < 896
  · have h7 : h.val < 7 := by omega
    rw [dif_pos hlt]
    unfold xA
    rw [pay9_apply _ _ _ _ b ⟨h.val, h7⟩ d ⟨i.val, hlt⟩ hi]
    exact quot hA hn c h b d
  · have h7 : h = 7 := Fin.ext (by show h.val = 7; omega)
    rw [dif_neg hlt]
    unfold xZ
    have e : (⟨i.val - 896, by omega⟩ : Fin 128) = d := Fin.ext (by show i.val - 896 = d.val; omega)
    rw [e, pay7_apply]
    subst h7
    exact quot hA hn c 7 b d

/-- **The kernel's result, read**: column `128 H + d` is head `H`'s coordinate `d`, on every device. -/
theorem outC_apply (hA : A.Held m) (hn : A.Named) (c : Dev nD) (b : Fin 32) (H : Fin 16) (d : Fin 128) (j : Fin 2048)
    (hj : j.val = 128 * H.val + d.val) : outC (F := Ideal) m c (ix2 b j) = A.attn b H d := by
  have hd' := d.isLt
  have hH := H.isLt
  -- the devices of the two halves: the one with `x = 0` and the one with `x = 1`
  have hw : ∀ c : Dev nD, wx c = BitVec.ofNat 32 (c.val / 2) := by decide
  have hx : ∀ c : Dev nD, (c.val / 2 = 0 ∧ (xp c).val / 2 = 1) ∨ (c.val / 2 = 1 ∧ (xp c).val / 2 = 0) := by decide
  have key : ∃ c0 c1 : Dev nD, c0.val / 2 = 0 ∧ c1.val / 2 = 1 ∧ outC (F := Ideal) m c
      = concatenate S32x2048 1 [⟨S32x1024, xC (F := Ideal) m c0⟩, ⟨S32x1024, xC (F := Ideal) m c1⟩] concatenates_S32x1024_S32x1024_S32x2048_d1 := by
    rcases hx c with ⟨h0, h1⟩ | ⟨h0, h1⟩
    · refine ⟨c, xp c, h0, h1, ?_⟩
      unfold outC
      rw [hw, h0]
      rfl
    · refine ⟨xp c, c, h1, h0, ?_⟩
      unfold outC
      rw [hw, h0]
      rfl
  obtain ⟨c0, c1, h0, h1, e⟩ := key
  rw [e]
  by_cases hlt : H.val < 8
  · refine (concatenate_pair_apply_left (s₁ := S32x1024) (s₂ := S32x1024) (1 : Fin S32x2048.rank) _ _ _ (ix2 b j) rfl (ix2 b (⟨j.val, by omega⟩ : Fin 1024)) fun a => ?_).trans ?_
    · match a with | ⟨0, _⟩ => rfl | ⟨1, _⟩ => rfl
    · rw [xC_apply hA hn c0 b ⟨H.val, hlt⟩ d _ hj]
      refine congrArg (A.attn b · d) (Fin.ext ?_)
      show 8 * (c0.val / 2) + H.val = H.val
      omega
  · refine (concatenate_pair_apply_right (s₁ := S32x1024) (s₂ := S32x1024) (1 : Fin S32x2048.rank) _ _ _ (ix2 b j) rfl rfl (ix2 b (⟨j.val - 1024, by omega⟩ : Fin 1024))
      (fun a ha => ?_) ?_).trans ?_
    · match a with | ⟨0, _⟩ => rfl | ⟨1, _⟩ => exact absurd rfl ha
    · show j.val - 1024 + 1024 = j.val
      omega
    · rw [xC_apply hA hn c1 b ⟨H.val - 8, by omega⟩ d _ (by show j.val - 1024 = 128 * (H.val - 8) + d.val; omega)]
      refine congrArg (A.attn b · d) (Fin.ext ?_)
      show 8 * (c1.val / 2) + (H.val - 8) = H.val
      omega

end Cert.Value
-- ==== Proof.RefStages.lean ====
/- The reference's stages, each a function of the stage before it, and each read at an index. -/
module

public import proofs.«01_k».proof.Proof.Gen.ReferenceIdeal.Run
public import Idealize.ShloMosaic.Lib.Pipeline.Value
public import Idealize.ShloMosaic.Lib.ValueIdx
public import Idealize.ShloMosaic.Lib.IdealHost
public import Idealize.ShloMosaic.Lib.WordCmp

@[expose] public section

noncomputable section

namespace Cert.RefStages

open Idealize.ShloMosaic Idealize.ShloMosaic.TcCoe
open Idealize.ShloMosaic.ValueIdx
open Cert.ReferenceIdeal Cert.ReferenceIdeal.Gen Cert.ReferenceIdeal.Value
open scoped BigOperators

/-- The words the gather reads: a negative page number counts from the end. -/
def words (bt : IVec S32x256 32) : IVec S32x256x1 32 :=
  broadcastInDim S32x256x1 ![0, 1] bcast_S32x256_S32x256x1_0_1
    (select (cmpi .slt bt (broadcastInDim S32x256 ![] bcast_S_S32x256 (constantI S_ 32 0#32)))
      (addi bt (broadcastInDim S32x256 ![] bcast_S_S32x256 (constantI S_ 32 512#32))) bt)

/-- The rows of the pages that the words name, in slot order. -/
def paged (x : FVec Ideal S512x32x16x128 .f32) (w : IVec S32x256x1 32) : FVec Ideal S32x8192x16x128 .f32 :=
  shapeCast _ (Host.gather gather_S512x32x16x128_S32x256x1_S32x256x32x16x128_234_0_n_n_0_2_13216128 x w) shapeCasts_S32x256x32x16x128_S32x8192x16x128

/-- The slot of every key: its number over 32, rounded down. -/
def slots : IVec S32x1x1x8192 32 :=
  select (andi (cmpi .ne (signi (iotaInDim S32x1x1x8192 32 3)) (broadcastInDim S32x1x1x8192 ![] bcast_S_S32x1x1x8192 (signi (id (constantI S_ 32 32#32)))))
      (cmpi .ne (Host.remsi (iotaInDim S32x1x1x8192 32 3) (broadcastInDim S32x1x1x8192 ![] bcast_S_S32x1x1x8192 (id (constantI S_ 32 32#32))))
        (broadcastInDim S32x1x1x8192 ![] bcast_S_S32x1x1x8192 (constantI S_ 32 0#32))))
    (subi (Host.divsi (iotaInDim S32x1x1x8192 32 3) (broadcastInDim S32x1x1x8192 ![] bcast_S_S32x1x1x8192 (id (constantI S_ 32 32#32))))
      (broadcastInDim S32x1x1x8192 ![] bcast_S_S32x1x1x8192 (constantI S_ 32 1#32)))
    (Host.divsi (iotaInDim S32x1x1x8192 32 3) (broadcastInDim S32x1x1x8192 ![] bcast_S_S32x1x1x8192 (id (constantI S_ 32 32#32))))

/-- The masked scores. -/
def scores (sl : IVec S32x1x1x8192 32) (ln : IVec S32x1 32) (q : FVec Ideal S32x1x16x128 .f32) (kg : FVec Ideal S32x8192x16x128 .f32) :
    FVec Ideal S32x16x1x8192 .f32 :=
  select (broadcastInDim S32x16x1x8192 ![0, 1, 2, 3] bcast_S32x1x1x8192_S32x16x1x8192_0_1_2_3
      (cmpi .slt sl (broadcastInDim S32x1x1x8192 ![0, 1, 2, 3] bcast_S32x1x1x1_S32x1x1x8192_0_1_2_3
        (broadcastInDim S32x1x1x1 ![0, 1] bcast_S32x1_S32x1x1x1_0_1 ln))))
    (mulf (Host.dotGeneral dot_S32x1x16x128_S32x8192x16x128_S32x16x1x8192_3_3_1_1_02_02 none q kg)
      (broadcastInDim S32x16x1x8192 ![] bcast_S_S32x16x1x8192 (constant S_ .f32 0x3DB504F3#32)))
    (broadcastInDim S32x16x1x8192 ![] bcast_S_S32x16x1x8192 (id (constant S_ .f32 0xFF800000#32)))

/-- A number for every row and head, repeated for every key. -/
def spread (x : FVec Ideal S32x16x1 .f32) : FVec Ideal S32x16x1x8192 .f32 :=
  broadcastInDim S32x16x1x8192 ![0, 1, 2, 3] bcast_S32x16x1x1_S32x16x1x8192_0_1_2_3
    (broadcastInDim S32x16x1x1 ![0, 1, 2] bcast_S32x16x1_S32x16x1x1_0_1_2 x)

/-- The greatest score of every row and head. -/
def peak (s : FVec Ideal S32x16x1x8192 .f32) : FVec Ideal S32x16x1 .f32 :=
  Host.reduce FloatOps.maximumf s (constant S_ .f32 0xFF800000#32) reducesTo_S32x16x1x8192_S32x16x1_d3 h_S_

/-- The exponentials of the scores less their greatest. -/
def exps (s : FVec Ideal S32x16x1x8192 .f32) : FVec Ideal S32x16x1x8192 .f32 := Host.exp (subf s (spread (peak s)))

/-- The exponentials over their sums. -/
def soft (e : FVec Ideal S32x16x1x8192 .f32) : FVec Ideal S32x16x1x8192 .f32 :=
  Host.divf e (spread (Host.reduceAdd e (constant S_ .f32 0x00000000#32) reducesTo_S32x16x1x8192_S32x16x1_d3 h_S_))

/-- The weighted values, one row of 2048 for each batch entry. -/
def mixed (vg : FVec Ideal S32x8192x16x128 .f32) (p : FVec Ideal S32x16x1x8192 .f32) : FVec Ideal S32x2048 .f32 :=
  shapeCast _ (transpose S32x1x16x128 [0, 3, 1, 2]
    (Host.dotGeneral dot_S32x8192x16x128_S32x16x1x8192_S32x16x128x1_1_3_3_2_02_01 none vg p) transposes_S32x16x128x1_S32x1x16x128_0_3_1_2)
    shapeCasts_S32x1x16x128_S32x2048

/-- The reference's result is its stages composed. -/
theorem res_eq (m : (ℓ : Loc nD τ sig) → Buf (Elt Ideal) ℓ) (c : Dev nD) :
    res_main_v36 (F := Ideal) m c
      = mixed (paged (m ((c.tc : Thread nD τ).loc main_arg2)) (words (m ((c.tc : Thread nD τ).loc main_arg3))))
          (soft (exps (scores slots (m ((c.tc : Thread nD τ).loc main_arg4)) (m ((c.tc : Thread nD τ).loc main_arg0))
            (paged (m ((c.tc : Thread nD τ).loc main_arg1)) (words (m ((c.tc : Thread nD τ).loc main_arg3))))))) := rfl

/-- A gathered row is the operand's page at the word, read signed and clamped. -/
theorem gather_apply (x : FVec Ideal S512x32x16x128 .f32) (w : IVec S32x256x1 32) (b : Fin 32) (t : Fin 256) (k : Fin 32) (H : Fin 16) (d : Fin 128) :
    Host.gather gather_S512x32x16x128_S32x256x1_S32x256x32x16x128_234_0_n_n_0_2_13216128 x w (ix5 b t k H d)
      = x (ix4 (⟨min (w (ix3 b t (0 : Fin 1))).toInt.toNat 511, by omega⟩ : Fin 512) k H d) := by
  have off : ∀ a : Fin 4, gather_S512x32x16x128_S32x256x1_S32x256x32x16x128_234_0_n_n_0_2_13216128.batchCoord (ix5 b t k H d) a = 0 :=
    fun a => GatherDims.batchCoord_eq_zero _ _ _ List.not_mem_nil
  have st : ∀ a : Fin 4, a ≠ 0 → gather_S512x32x16x128_S32x256x1_S32x256x32x16x128_234_0_n_n_0_2_13216128.start (ix5 b t k H d) w a = 0 := fun a ha => by
    unfold GatherDims.start
    rw [dif_neg (show ¬ a ∈ gather_S512x32x16x128_S32x256x1_S32x256x32x16x128_234_0_n_n_0_2_13216128.startIndexMap from fun h => ha (List.mem_singleton.mp h))]
  unfold Host.gather
  congr 1
  funext a
  refine Fin.ext ?_
  show gather_S512x32x16x128_S32x256x1_S32x256x32x16x128_234_0_n_n_0_2_13216128.start (ix5 b t k H d) w a
    + gather_S512x32x16x128_S32x256x1_S32x256x32x16x128_234_0_n_n_0_2_13216128.batchCoord (ix5 b t k H d) a
    + gather_S512x32x16x128_S32x256x1_S32x256x32x16x128_234_0_n_n_0_2_13216128.offCoord (ix5 b t k H d) a = _
  rw [off]
  match a with
  | ⟨0, _⟩ =>
    show gather_S512x32x16x128_S32x256x1_S32x256x32x16x128_234_0_n_n_0_2_13216128.start (ix5 b t k H d) w (0 : Fin 4) + 0 + gather_S512x32x16x128_S32x256x1_S32x256x32x16x128_234_0_n_n_0_2_13216128.offCoord (ix5 b t k H d) (0 : Fin 4) = _
    rw [GatherDims.offCoord_eq_zero _ _ _ (fun h => ((GatherDims.mem_sKept _ _).mp h).1 (List.mem_singleton.mpr rfl))]
    unfold GatherDims.start
    rw [dif_pos (show (0 : Fin 4) ∈ gather_S512x32x16x128_S32x256x1_S32x256x32x16x128_234_0_n_n_0_2_13216128.startIndexMap from List.mem_singleton.mpr rfl)]
    refine congrArg (fun i => min (w i).toInt.toNat 511) ?_
    funext b'
    refine Fin.ext ?_
    match b' with
    | ⟨0, _⟩ => rfl
    | ⟨1, _⟩ => rfl
    | ⟨2, _⟩ => rfl
  | ⟨1, _⟩ =>
    show gather_S512x32x16x128_S32x256x1_S32x256x32x16x128_234_0_n_n_0_2_13216128.start (ix5 b t k H d) w (1 : Fin 4) + 0 + _ = _
    rw [st 1 (by decide)]
    simp only [Nat.zero_add]
    rfl
  | ⟨2, _⟩ =>
    show gather_S512x32x16x128_S32x256x1_S32x256x32x16x128_234_0_n_n_0_2_13216128.start (ix5 b t k H d) w (2 : Fin 4) + 0 + _ = _
    rw [st 2 (by decide)]
    simp only [Nat.zero_add]
    rfl
  | ⟨3, _⟩ =>
    show gather_S512x32x16x128_S32x256x1_S32x256x32x16x128_234_0_n_n_0_2_13216128.start (ix5 b t k H d) w (3 : Fin 4) + 0 + _ = _
    rw [st 3 (by decide)]
    simp only [Nat.zero_add]
    rfl

/-- The key `k` of slot `t` in the row of 8192. -/
def key (t : Fin 256) (k : Fin 32) : Fin 8192 := ⟨k.val + 32 * t.val, by omega⟩

/-- The paged rows, read. -/
theorem paged_apply (x : FVec Ideal S512x32x16x128 .f32) (w : IVec S32x256x1 32) (b : Fin 32) (t : Fin 256) (k : Fin 32) (H : Fin 16) (d : Fin 128) :
    paged x w (ix4 b (key t k) H d) = x (ix4 (⟨min (w (ix3 b t (0 : Fin 1))).toInt.toNat 511, by omega⟩ : Fin 512) k H d) := by
  unfold paged
  refine (shapeCast_apply _ _ _ (ix5 b t k H d) ?_).trans (gather_apply x w b t k H d)
  rw [Shape.rowMajor_val_five, Shape.rowMajor_val_four]
  show (((b.val * 256 + t.val) * 32 + k.val) * 16 + H.val) * 128 + d.val = ((b.val * 8192 + (k.val + 32 * t.val)) * 16 + H.val) * 128 + d.val
  omega

/-- A word that names a page is not touched. -/
theorem words_apply (bt : IVec S32x256 32) (b : Fin 32) (t : Fin 256) (h : (bt (ix2 b t)).toNat < 512) : words bt (ix3 b t (0 : Fin 1)) = bt (ix2 b t) := by
  unfold words
  refine (broadcastInDim_apply _ _ _ _ (ix2 b t) fun a => match a with | ⟨0, _⟩ => rfl | ⟨1, _⟩ => rfl).trans ?_
  rw [select_apply]
  have h0 : IntOp.cmpi .slt (bt (ix2 b t)) 0#32 = 0#1 := by
    rw [WordCmp.cmpi_slt_eq, BitVec.toInt_eq_toNat_of_lt (by omega)]
    have hn : ¬ (((bt (ix2 b t)).toNat : ℤ) < (0#32 : BitVec 32).toInt) := by
      show ¬ (((bt (ix2 b t)).toNat : ℤ) < 0)
      omega
    rw [decide_eq_false hn]
    rfl
  show Scalar.select (IntOp.cmpi .slt (bt (ix2 b t)) 0#32) _ _ = _
  rw [h0]
  rfl

/-- A page's rows, read through a word that names it. -/
theorem paged_named (x : FVec Ideal S512x32x16x128 .f32) (bt : IVec S32x256 32) (b : Fin 32) (t : Fin 256) (k : Fin 32) (H : Fin 16) (d : Fin 128)
    (p : Fin 512) (hp : (bt (ix2 b t)).toNat = p.val) : paged x (words bt) (ix4 b (key t k) H d) = x (ix4 p k H d) := by
  rw [paged_apply]
  refine congrArg (fun q => x (ix4 q k H d)) (Fin.ext ?_)
  show min (words bt (ix3 b t (0 : Fin 1))).toInt.toNat 511 = p.val
  rw [words_apply bt b t (by omega)]
  rw [BitVec.toInt_eq_toNat_of_lt (by omega)]
  omega

/-- A word's sign. -/
def sgn (x : BitVec 32) : BitVec 32 := if x = 0 then 0 else if x.msb then -1 else 1

/-- The rounded-down quotient by 32 of a small number, on words. -/
theorem floor_word (t k : ℕ) (ht : t < 256) (hk : k < 32) :
    Scalar.select (IntOp.andi
        (IntOp.cmpi .ne (sgn (BitVec.ofNat 32 (k + 32 * t)))
          (sgn 32#32))
        (IntOp.cmpi .ne (IntOp.remsi .host (BitVec.ofNat 32 (k + 32 * t)) 32#32) 0#32))
      (IntOp.subi (IntOp.divsi .host (BitVec.ofNat 32 (k + 32 * t)) 32#32) 1#32) (IntOp.divsi .host (BitVec.ofNat 32 (k + 32 * t)) 32#32)
      = BitVec.ofNat 32 t := by
  have hm : (BitVec.ofNat 32 (k + 32 * t)).msb = false := by
    rw [BitVec.msb_eq_false_iff_two_mul_lt, BitVec.toNat_ofNat]
    omega
  have hc : ¬ IntOp.SDivCorner (BitVec.ofNat 32 (k + 32 * t)) 32#32 := by
    rintro (h | ⟨-, h⟩)
    · exact absurd h (by decide)
    · exact absurd h (by decide)
  have hq : IntOp.divsi .host (BitVec.ofNat 32 (k + 32 * t)) 32#32 = BitVec.ofNat 32 t := by
    unfold IntOp.divsi
    rw [if_neg hc, BitVec.sdiv_eq, hm]
    show (BitVec.ofNat 32 (k + 32 * t)).udiv 32#32 = _
    apply BitVec.eq_of_toNat_eq
    show (BitVec.ofNat 32 (k + 32 * t) / 32#32).toNat = _
    rw [BitVec.toNat_udiv, BitVec.toNat_ofNat, BitVec.toNat_ofNat]
    show (k + 32 * t) % 2 ^ 32 / 32 = t % 2 ^ 32
    omega
  have hb : IntOp.andi
        (IntOp.cmpi .ne (sgn (BitVec.ofNat 32 (k + 32 * t)))
          (sgn 32#32))
        (IntOp.cmpi .ne (IntOp.remsi .host (BitVec.ofNat 32 (k + 32 * t)) 32#32) 0#32) = 0#1 := by
    by_cases h0 : BitVec.ofNat 32 (k + 32 * t) = 0
    · have hr : IntOp.remsi .host (BitVec.ofNat 32 (k + 32 * t)) 32#32 = 0#32 := by
        unfold IntOp.remsi
        rw [if_neg hc, h0]
        decide
      rw [hr, h0]
      decide
    · have h1 : sgn (BitVec.ofNat 32 (k + 32 * t)) = 1 := by
        unfold sgn
        rw [if_neg h0, hm]
        rfl
      rw [h1]
      have e : IntOp.cmpi .ne (1 : BitVec 32) (sgn 32#32) = 0#1 := by decide
      rw [e]
      unfold IntOp.andi
      exact BitVec.zero_and
  rw [hb, hq]
  rfl

/-- The key's slot as a word. -/
theorem slots_apply (b : Fin 32) (t : Fin 256) (k : Fin 32) : slots (ix4 b (0 : Fin 1) (0 : Fin 1) (key t k)) = BitVec.ofNat 32 t.val :=
  floor_word t.val k.val t.isLt k.isLt

/-- A number spread over the keys, read. -/
theorem spread_apply (x : FVec Ideal S32x16x1 .f32) (b : Fin 32) (H : Fin 16) (j : Fin 8192) :
    spread x (ix4 b H (0 : Fin 1) j) = x (ix3 b H (0 : Fin 1)) := by
  unfold spread
  refine (broadcastInDim_apply _ _ _ _ (ix4 b H (0 : Fin 1) (0 : Fin 1)) fun a => match a with | ⟨0, _⟩ => rfl | ⟨1, _⟩ => rfl | ⟨2, _⟩ => rfl | ⟨3, _⟩ => rfl).trans ?_
  exact broadcastInDim_apply _ _ _ _ (ix3 b H (0 : Fin 1)) fun a => match a with | ⟨0, _⟩ => rfl | ⟨1, _⟩ => rfl | ⟨2, _⟩ => rfl

/-- The axis of the keys, reduced. -/
theorem keys_reduce : S32x16x1x8192.Reduces [3] S32x16x1 := by decide

/-- The index a reduction over the keys puts back. -/
theorem keys_lift (b : Fin 32) (H : Fin 16) (j : Fin 8192) : keys_reduce.lift (ix3 b H (0 : Fin 1)) j = ix4 b H (0 : Fin 1) j := by
  funext a
  refine Fin.ext ?_
  match a with
  | ⟨0, _⟩ => rfl
  | ⟨1, _⟩ => rfl
  | ⟨2, _⟩ => rfl
  | ⟨3, _⟩ => rfl

/-- Minus infinity's word. -/
theorem ofBits_neg_inf : Ideal.ofBits .f32 0xFF800000#32 = ⊥ := by simp [Ideal.ofBits, Ideal.ieee]

/-- The greatest of scores none of which is plus infinity, one of them real, is real. -/
theorem peak_real (s : FVec Ideal S32x16x1x8192 .f32) (b : Fin 32) (H : Fin 16) (ht : ∀ j : Fin 8192, s (ix4 b H (0 : Fin 1) j) ≠ ⊤)
    (j₀ : Fin 8192) (hb : s (ix4 b H (0 : Fin 1) j₀) ≠ ⊥) : ∃ M : ℝ, peak s (ix3 b H (0 : Fin 1)) = (M : EReal) := by
  have e : peak s (ix3 b H (0 : Fin 1)) = (Finset.univ : Finset (Fin 8192)).fold max ⊥ fun j => s (ix4 b H (0 : Fin 1) j) := by
    unfold peak
    refine (Host.reduce_eq_fold_single FloatOps.maximumf s _ reducesTo_S32x16x1x8192_S32x16x1_d3 keys_reduce h_S_ (ix3 b H (0 : Fin 1))).trans ?_
    refine Eq.trans (b := (Finset.univ : Finset (Fin 8192)).fold max (Ideal.ofBits .f32 0xFF800000#32) (s ∘ keys_reduce.lift (ix3 b H (0 : Fin 1)))) rfl ?_
    rw [ofBits_neg_inf]
    exact Finset.fold_congr fun j _ => congrArg s (keys_lift b H j)
  rw [e]
  have lt : ((Finset.univ : Finset (Fin 8192)).fold max (⊥ : EReal) fun j => s (ix4 b H (0 : Fin 1) j)) < ⊤ :=
    (Finset.fold_max_lt _).mpr ⟨bot_lt_top, fun j _ => lt_top_iff_ne_top.mpr (ht j)⟩
  have gt : ⊥ < (Finset.univ : Finset (Fin 8192)).fold max (⊥ : EReal) fun j => s (ix4 b H (0 : Fin 1) j) :=
    (Finset.lt_fold_max _).mpr (.inr ⟨j₀, Finset.mem_univ _, bot_lt_iff_ne_bot.mpr hb⟩)
  exact ⟨_, (EReal.coe_toReal lt.ne gt.ne').symm⟩

/-- An exponential, read. -/
theorem exps_apply (s : FVec Ideal S32x16x1x8192 .f32) (b : Fin 32) (H : Fin 16) (j : Fin 8192) :
    exps s (ix4 b H (0 : Fin 1) j) = Ideal.exp (s (ix4 b H (0 : Fin 1) j) - peak s (ix3 b H (0 : Fin 1))) := by
  rw [← spread_apply (peak s) b H j]
  rfl

/-- A quotient, read. -/
theorem soft_apply (e : FVec Ideal S32x16x1x8192 .f32) (b : Fin 32) (H : Fin 16) (j : Fin 8192) :
    soft e (ix4 b H (0 : Fin 1) j) = Ideal.div (e (ix4 b H (0 : Fin 1) j)) (∑ i : Fin 8192, e (ix4 b H (0 : Fin 1) i)) := by
  unfold soft
  rw [hostDivf_apply, spread_apply, hostReduceAdd_apply]
  refine congrArg (Ideal.div _) ?_
  refine (Ideal.hostReduceAdd_single reducesTo_S32x16x1x8192_S32x16x1_d3 keys_reduce e _ (ix3 b H (0 : Fin 1))).trans ?_
  refine Eq.trans (b := Ideal.ofBits .f32 0x00000000#32 + ∑ j : Fin 8192, e (keys_reduce.lift (ix3 b H (0 : Fin 1)) j)) rfl ?_
  rw [Ideal.ofBits_zero_f32, zero_add]
  exact Finset.sum_congr rfl fun j _ => congrArg e (keys_lift b H j)

/-- A masked score, read. -/
theorem scores_apply (sl : IVec S32x1x1x8192 32) (ln : IVec S32x1 32) (q : FVec Ideal S32x1x16x128 .f32) (kg : FVec Ideal S32x8192x16x128 .f32)
    (b : Fin 32) (H : Fin 16) (j : Fin 8192) :
    scores sl ln q kg (ix4 b H (0 : Fin 1) j)
      = Scalar.select (IntOp.cmpi .slt (sl (ix4 b (0 : Fin 1) (0 : Fin 1) j)) (ln (ix2 b (0 : Fin 1))))
          ((∑ d : Fin 128, q (ix4 b (0 : Fin 1) H d) * kg (ix4 b j H d)) * Ideal.ofBits .f32 0x3DB504F3#32) ⊥ := by
  have hdot : Host.dotGeneral dot_S32x1x16x128_S32x8192x16x128_S32x16x1x8192_3_3_1_1_02_02 none q kg (ix4 b H (0 : Fin 1) j)
      = ∑ d : Fin 128, q (ix4 b (0 : Fin 1) H d) * kg (ix4 b j H d) := by
    simp only [Host.dotGeneral]
    rw [Ideal.dotGeneral_apply, ← Equiv.sum_comp (contrEquiv1 dot_S32x1x16x128_S32x8192x16x128_S32x16x1x8192_3_3_1_1_02_02 128 rfl rfl).symm]
    refine Finset.sum_congr rfl fun d _ => ?_
    have hd := contrEquiv1_symm_val dot_S32x1x16x128_S32x8192x16x128_S32x16x1x8192_3_3_1_1_02_02 128 rfl rfl d
    refine congrArg₂ (· * ·) (congrArg q ?_) (congrArg kg ?_)
    · funext a
      refine Fin.ext ?_
      match a with
      | ⟨0, _⟩ => rfl
      | ⟨1, _⟩ => rfl
      | ⟨2, _⟩ => rfl
      | ⟨3, _⟩ => exact hd
    · funext a
      refine Fin.ext ?_
      match a with
      | ⟨0, _⟩ => rfl
      | ⟨1, _⟩ => rfl
      | ⟨2, _⟩ => rfl
      | ⟨3, _⟩ => exact hd
  unfold scores
  rw [select_apply, mulf_apply, hdot]
  refine congr (congr (congrArg Scalar.select ?_) rfl) ofBits_neg_inf
  refine (broadcastInDim_apply _ _ _ _ (ix4 b (0 : Fin 1) (0 : Fin 1) j) fun a => match a with | ⟨0, _⟩ => rfl | ⟨1, _⟩ => rfl | ⟨2, _⟩ => rfl | ⟨3, _⟩ => rfl).trans ?_
  refine congrArg (IntOp.cmpi .slt _) ?_
  refine (broadcastInDim_apply _ _ _ _ (ix4 b (0 : Fin 1) (0 : Fin 1) (0 : Fin 1)) fun a => match a with | ⟨0, _⟩ => rfl | ⟨1, _⟩ => rfl | ⟨2, _⟩ => rfl | ⟨3, _⟩ => rfl).trans ?_
  exact broadcastInDim_apply _ _ _ _ (ix2 b (0 : Fin 1)) fun a => match a with | ⟨0, _⟩ => rfl | ⟨1, _⟩ => rfl

/-- A weighted value, read: column `128 H + d`. -/
theorem mixed_apply (vg : FVec Ideal S32x8192x16x128 .f32) (p : FVec Ideal S32x16x1x8192 .f32) (b : Fin 32) (H : Fin 16) (d : Fin 128) (i : Fin 2048)
    (hi : i.val = 128 * H.val + d.val) :
    mixed vg p (ix2 b i) = ∑ j : Fin 8192, vg (ix4 b j H d) * p (ix4 b H (0 : Fin 1) j) := by
  unfold mixed
  refine (shapeCast_apply _ _ _ (ix4 b (0 : Fin 1) H d) ?_).trans ?_
  · rw [Shape.rowMajor_val_four, Shape.rowMajor_val_two]
    show ((b.val * 1 + 0) * 16 + H.val) * 128 + d.val = b.val * 2048 + i.val
    omega
  refine (transpose_apply _ _ _ _ (ix4 b H d (0 : Fin 1)) fun a => match a with | ⟨0, _⟩ => rfl | ⟨1, _⟩ => rfl | ⟨2, _⟩ => rfl | ⟨3, _⟩ => rfl).trans ?_
  simp only [Host.dotGeneral]
  rw [Ideal.dotGeneral_apply, ← Equiv.sum_comp (contrEquiv1 dot_S32x8192x16x128_S32x16x1x8192_S32x16x128x1_1_3_3_2_02_01 8192 rfl rfl).symm]
  refine Finset.sum_congr rfl fun j _ => ?_
  have hj := contrEquiv1_symm_val dot_S32x8192x16x128_S32x16x1x8192_S32x16x128x1_1_3_3_2_02_01 8192 rfl rfl j
  refine congrArg₂ (· * ·) (congrArg vg ?_) (congrArg p ?_)
  · funext a
    refine Fin.ext ?_
    match a with
    | ⟨0, _⟩ => rfl
    | ⟨1, _⟩ => exact hj
    | ⟨2, _⟩ => rfl
    | ⟨3, _⟩ => rfl
  · funext a
    refine Fin.ext ?_
    match a with
    | ⟨0, _⟩ => rfl
    | ⟨1, _⟩ => rfl
    | ⟨2, _⟩ => rfl
    | ⟨3, _⟩ => exact hj

end Cert.RefStages
-- ==== Proof.Equation.lean ====
/- The equation: over real queries and keys the reference's softmax attention is the kernel's quotient of page sums. -/
module

public import proofs.«01_k».proof.Proof.KernelValue
public import proofs.«01_k».proof.Proof.RefStages

@[expose] public section

noncomputable section

namespace Cert.Value

open Idealize.ShloMosaic
open Idealize.ShloMosaic.ValueIdx
open Cert.RefStages
open scoped BigOperators

/-- The scale is a real number. -/
theorem scl_real : ∃ c : ℝ, scl = (c : EReal) := by
  unfold scl
  simp [Ideal.ofBits, Ideal.ieee, -EReal.coe_mul]

variable (A : Arrays)

/-- The score of a key over real numbers. -/
def realScore (q : (⟨4, ![32, 1, 16, 128]⟩ : Shape).Idx → ℝ) (k : (⟨4, ![512, 32, 16, 128]⟩ : Shape).Idx → ℝ) (c : ℝ) (b : Fin 32) (H : Fin 16)
    (p : Fin 512) (j : Fin 32) : ℝ := ∑ d : Fin 128, q (ix4 b (0 : Fin 1) H d) * c * k (ix4 p j H d)

variable {A}
variable {q : (⟨4, ![32, 1, 16, 128]⟩ : Shape).Idx → ℝ} {k : (⟨4, ![512, 32, 16, 128]⟩ : Shape).Idx → ℝ} {c : ℝ}

/-- The kernel's score is real. -/
theorem score_real (hq : ∀ i, A.Q i = (q i : EReal)) (hk : ∀ i, A.K i = (k i : EReal)) (hc : scl = (c : EReal)) (b : Fin 32) (H : Fin 16)
    (p : Fin 512) (j : Fin 32) : A.score b H p j = ((realScore q k c b H p j : ℝ) : EReal) := by
  unfold Arrays.score realScore
  rw [coe_sum]
  refine Finset.sum_congr rfl fun d _ => ?_
  rw [hq, hk, hc, EReal.coe_mul, EReal.coe_mul]

/-- A masked score of the reference: the score of the page's key at a live slot, minus infinity at another. -/
theorem ref_score (hq : ∀ i, A.Q i = (q i : EReal)) (hk : ∀ i, A.K i = (k i : EReal)) (hc : scl = (c : EReal)) (hn : A.Named)
    (b : Fin 32) (H : Fin 16) (t : Fin 256) (j : Fin 32) :
    scores slots A.ln A.Q (paged A.K (words A.bt)) (ix4 b H (0 : Fin 1) (key t j))
      = if A.live b t then ((realScore q k c b H (A.pages b t) j : ℝ) : EReal) else ⊥ := by
  rw [scores_apply, slots_apply]
  by_cases h : A.live b t
  · have hw := hn b t h
    rw [if_pos h, (slt_live _ t).mpr h]
    refine Eq.trans (b := (∑ d : Fin 128, A.Q (ix4 b (0 : Fin 1) H d) * paged A.K (words A.bt) (ix4 b (key t j) H d)) * scl) rfl ?_
    have e : ∑ d : Fin 128, A.Q (ix4 b (0 : Fin 1) H d) * paged A.K (words A.bt) (ix4 b (key t j) H d)
        = ((∑ d : Fin 128, q (ix4 b (0 : Fin 1) H d) * k (ix4 (A.pages b t) j H d) : ℝ) : EReal) := by
      rw [coe_sum]
      refine Finset.sum_congr rfl fun d _ => ?_
      rw [paged_named A.K A.bt b t j H d (A.pages b t) (Nat.mod_eq_of_lt hw).symm, hq, hk, EReal.coe_mul]
    rw [e, hc, ← EReal.coe_mul]
    refine congrArg _ ?_
    unfold realScore
    rw [Finset.sum_mul]
    exact Finset.sum_congr rfl fun d _ => by ring
  · rw [if_neg h, eq_zero_of_ne_one (fun e => h ((slt_live _ t).mp e))]
    rfl

/-- **The equation.** With real queries and keys, a live slot in every row and every live slot's word the number of a page,
the reference's row is the kernel's. -/
theorem ref_attn (hQ : ∀ i, ∃ r : ℝ, A.Q i = (r : EReal)) (hK : ∀ i, ∃ r : ℝ, A.K i = (r : EReal)) (hn : A.Named)
    (hl : ∀ b, A.live b 0) (b : Fin 32) (H : Fin 16) (d : Fin 128) (i : Fin 2048) (hi : i.val = 128 * H.val + d.val) :
    mixed (paged A.V (words A.bt)) (soft (exps (scores slots A.ln A.Q (paged A.K (words A.bt))))) (ix2 b i) = A.attn b H d := by
  choose q hq using hQ
  choose k hk using hK
  obtain ⟨c, hc⟩ := scl_real
  have hS := ref_score hq hk hc hn b H
  generalize scores slots A.ln A.Q (paged A.K (words A.bt)) = T at hS
  -- the greatest score is real
  obtain ⟨M, hM⟩ := peak_real T b H (fun j => by
    have e : j = key (⟨j.val / 32, by omega⟩ : Fin 256) (⟨j.val % 32, by omega⟩ : Fin 32) := Fin.ext (by
      show j.val = j.val % 32 + 32 * (j.val / 32)
      omega)
    rw [e, hS]
    split
    · exact EReal.coe_ne_top _
    · exact bot_ne_top) (key 0 0) (by
    rw [hS, if_pos (hl b)]
    exact EReal.coe_ne_bot _)
  have hE : ∀ j : Fin 8192, exps T (ix4 b H (0 : Fin 1) j) = Ideal.exp (T (ix4 b H (0 : Fin 1) j) - (M : EReal)) := fun j => by
    rw [exps_apply, hM]
  have hden : ∑ j : Fin 8192, exps T (ix4 b H (0 : Fin 1) j) = ∑ t : Fin 256, ∑ j : Fin 32, Ideal.exp (T (ix4 b H (0 : Fin 1) (key t j)) - (M : EReal)) := by
    rw [sum_keys]
    exact Finset.sum_congr rfl fun t _ => Finset.sum_congr rfl fun j _ => hE (key t j)
  rw [mixed_apply _ _ b H d i hi, sum_keys]
  refine Eq.trans (b := ∑ t : Fin 256, ∑ j : Fin 32, paged A.V (words A.bt) (ix4 b (key t j) H d)
    * Ideal.div (Ideal.exp (T (ix4 b H (0 : Fin 1) (key t j)) - (M : EReal)))
        (∑ t : Fin 256, ∑ j : Fin 32, Ideal.exp (T (ix4 b H (0 : Fin 1) (key t j)) - (M : EReal)))) ?_ ?_
  · refine Finset.sum_congr rfl fun t _ => Finset.sum_congr rfl fun j _ => congrArg (paged A.V (words A.bt) (ix4 b (key t j) H d) * ·) ?_
    rw [← hden, ← hE]
    exact soft_apply (exps T) b H (key t j)
  · unfold Arrays.attn
    simp only [score_real hq hk hc]
    exact (softmax (A.live b) (A.pages b) (realScore q k c b H) (fun p j => A.V (ix4 p j H d)) M
      (fun t j => T (ix4 b H (0 : Fin 1) (key t j))) (fun t j => paged A.V (words A.bt) (ix4 b (key t j) H d)) ⟨0, hl b⟩ hS
      (fun t j h => paged_named A.V A.bt b t j H d (A.pages b t) (Nat.mod_eq_of_lt (hn b t h)).symm)).symm

end Cert.Value
-- ==== Proof.Assumed.lean ====
/- What the precondition says of a device's arrays: the queries and keys are real numbers, a row has a live slot, and the
   words of the live slots are numbers of pages. -/
module

public import proofs.«01_k».proof.Proof.Weights
public import proofs.«01_k».proof.Proof.Gen.Pre_live_slots_named_KernelIdeal
public import Idealize.ShloMosaic.Lib.WordArith

@[expose] public section

noncomputable section

namespace Cert.Value

open Idealize.ShloMosaic Idealize.ShloMosaic.WordArith
open Idealize.ShloMosaic.ValueIdx
open Cert.Pre_live_slots_named_KernelIdeal

/-- The word of plus infinity. -/
theorem ofBits_inf : Ideal.ofBits .f32 0x7F800000#32 = ⊤ := by simp [Ideal.ofBits, Ideal.ieee]

/-- A number whose magnitude is below infinity is real. -/
theorem real_of_abs_lt (x : EReal) (h : Ideal.cmp .olt (max x (-x)) (Ideal.ofBits .f32 0x7F800000#32) = 1#1) : ∃ r : ℝ, x = (r : EReal) := by
  rw [ofBits_inf] at h
  have hlt : max x (-x) < ⊤ := of_decide_eq_true ((ofBool_eq_one_iff _).mp h)
  have h1 : x ≠ ⊤ := (lt_of_le_of_lt (le_max_left _ _) hlt).ne
  have h2 : x ≠ ⊥ := by
    rintro rfl
    exact absurd (lt_of_le_of_lt (le_max_right _ _) hlt) (by simp)
  exact ⟨x.toReal, (EReal.coe_toReal h1 h2).symm⟩

variable (Q : FVec Ideal S32x1x16x128 .f32) (K V : FVec Ideal S256x32x16x128 .f32) (bt : IVec S32x256 32) (ln : IVec S32x1 32)

/-- The queries are real. -/
theorem pre_q (h : (fn (F := Ideal) Q K V bt ln).1 = fun _ => 1#1) (i : S32x1x16x128.Idx) : ∃ r : ℝ, Q i = (r : EReal) :=
  real_of_abs_lt _ (congrFun h i)

/-- The keys are real. -/
theorem pre_k (h : (fn (F := Ideal) Q K V bt ln).2.1 = fun _ => 1#1) (i : S256x32x16x128.Idx) : ∃ r : ℝ, K i = (r : EReal) :=
  real_of_abs_lt _ (congrFun h i)

/-- Slot 0 of every row is live. -/
theorem pre_ln (h : (fn (F := Ideal) Q K V bt ln).2.2.1 = fun _ => 1#1) (b : Fin 32) : Live (ln (ix2 b (0 : Fin 1))) 0 := by
  have e : IntOp.cmpi .sge (ln (ix2 b (0 : Fin 1))) 1#32 = 1#1 := congrFun h (ix2 b (0 : Fin 1))
  rw [WordCmp.cmpi_sge_eq] at e
  have e' : (1#32 : BitVec 32).toInt ≤ (ln (ix2 b (0 : Fin 1))).toInt := of_decide_eq_true ((ofBool_eq_one_iff _).mp e)
  have e1 : (1#32 : BitVec 32).toInt = 1 := by decide
  show ((0 : ℕ) : ℤ) < _
  omega

/-- A live slot's word is the number of a page. -/
theorem pre_bt (h : (fn (F := Ideal) Q K V bt ln).2.2.2 = fun _ => 1#1) (b : Fin 32) (t : Fin 256)
    (hl : Live (ln (ix2 b (0 : Fin 1))) t) : (bt (ix2 b t)).toNat < 512 := by
  have hb : broadcastInDim S32x256 ![0, 1] Facts.bcast_S32x1_S32x256_0_1 ln (ix2 b t) = ln (ix2 b (0 : Fin 1)) :=
    broadcastInDim_apply _ _ _ _ (ix2 b (0 : Fin 1)) fun a => match a with | ⟨0, _⟩ => rfl | ⟨1, _⟩ => rfl
  have e : IntOp.ori (IntOp.cmpi .sge (BitVec.ofNat 32 t.val) (broadcastInDim S32x256 ![0, 1] Facts.bcast_S32x1_S32x256_0_1 ln (ix2 b t)))
      (IntOp.andi (IntOp.cmpi .sge (bt (ix2 b t)) 0#32) (IntOp.cmpi .slt (bt (ix2 b t)) 512#32)) = 1#1 := congrFun h (ix2 b t)
  rw [hb, WordCmp.cmpi_sge_eq, WordCmp.cmpi_sge_eq, WordCmp.cmpi_slt_eq, andi_ofBool, ori_ofBool, ofBool_eq_one_iff, toInt_small t.val (by omega)] at e
  unfold Live at hl
  have e0 : (0#32 : BitVec 32).toInt = 0 := by decide
  have e5 : (512#32 : BitVec 32).toInt = 512 := by decide
  simp only [Bool.or_eq_true, Bool.and_eq_true, decide_eq_true_eq, e0, e5] at e
  rcases e with e | ⟨h0, h5⟩
  · omega
  · have := (bt (ix2 b t)).isLt
    rw [BitVec.toInt_eq_toNat_cond] at h0 h5
    split at h0 <;> omega

end Cert.Value
-- ==== Proof.lean ====
/- The certificate: each program runs to its end with its arguments unchanged and every semaphore at zero, the idealised
   kernel is the kernel, and every device of the idealised kernel ends with the reference's result. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_live_slots_named_KernelIdeal
public import proofs.«01_k».proof.Proof.Gen.Pre_live_slots_named_ReferenceIdeal
public import proofs.«01_k».proof.Proof.Launch
public import proofs.«01_k».proof.Proof.KernelResult
public import proofs.«01_k».proof.Proof.Equation
public import proofs.«01_k».proof.Proof.Assumed
public import Idealize.ShloMosaic.Lib.LayoutAt
public import Idealize.ShloMosaic.Lib.Quiescent
public import Idealize.ShloMosaic.Adequacy
public import Idealize.ShloMosaic.Init

@[expose] public section

noncomputable section

namespace Cert.Proof

open Idealize.ShloMosaic Idealize.SL.Sem

/-- Over any float values the kernel's mesh runs to its end with its arguments unchanged and every semaphore at zero: the run
    of the mesh, its result forgotten. -/
theorem frame_any {F : FTy → Type} [FloatOps F]
    (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
        ∧ r.2.sem = fun _ => 0) :=
  (θ_run Cert.KernelIdeal.defs _ _).mono
    (fun _ h => ⟨fun c => ⟨(h.1 c).1, (h.1 c).2.1, (h.1 c).2.2.1, (h.1 c).2.2.2.1, (h.1 c).2.2.2.2.1⟩, h.2⟩)
    (Cert.Run.run_main m ρ)

set_option maxRecDepth 65536 in
/-- The kernel's body table is the idealised kernel's: the two programs have the same text. -/
theorem defs₀_eq {F : FTy → Type} [FloatOps F] : Cert.Kernel.defs₀ (F := F) = Cert.KernelIdeal.defs₀ (F := F) := by
  refine congrArg Defs.onTc ?_
  funext l x
  match l, x with
  | 0, (t, s) => rfl
  | ⟨_ + 1, h⟩, _ => exact absurd h (Nat.not_lt.2 (Nat.le_add_left _ _))

/-- So are the tables with the pipeline's labels. -/
theorem defs_eq {F : FTy → Type} [FloatOps F] : Cert.Kernel.defs (F := F) = Cert.KernelIdeal.defs (F := F) :=
  congrArg (Pipeline.defs (Cert.KernelIdeal.pcfgs (F := F))) defs₀_eq

/-- The kernel over machine words runs to its end: its text is the idealised kernel's. -/
theorem frame_kernel : Cert.quiescent_Kernel := by
  intro m ρ _
  rw [defs_eq]
  exact frame_any (F := Bits) m ρ

/-- The kernel over extended reals runs to its end. -/
theorem frame_kernelIdeal : Cert.quiescent_KernelIdeal := fun m ρ _ => frame_any (F := Ideal) m ρ

/-- The reference runs to its end with its arguments unchanged; it has no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

open Cert.Run Cert.Value Idealize.ShloMosaic.ValueIdx

/-- The arrays that the reference's one device holds. -/
def arrays (m' : (ℓ : Loc Cert.ReferenceIdeal.nD Cert.ReferenceIdeal.τ Cert.ReferenceIdeal.sig) → Buf (Elt Ideal) ℓ) : Arrays where
  Q := m' (((0 : Dev Cert.ReferenceIdeal.nD).tc : Thread Cert.ReferenceIdeal.nD Cert.ReferenceIdeal.τ).loc Cert.ReferenceIdeal.main_arg0)
  K := m' (((0 : Dev Cert.ReferenceIdeal.nD).tc : Thread Cert.ReferenceIdeal.nD Cert.ReferenceIdeal.τ).loc Cert.ReferenceIdeal.main_arg1)
  V := m' (((0 : Dev Cert.ReferenceIdeal.nD).tc : Thread Cert.ReferenceIdeal.nD Cert.ReferenceIdeal.τ).loc Cert.ReferenceIdeal.main_arg2)
  bt := m' (((0 : Dev Cert.ReferenceIdeal.nD).tc : Thread Cert.ReferenceIdeal.nD Cert.ReferenceIdeal.τ).loc Cert.ReferenceIdeal.main_arg3)
  ln := m' (((0 : Dev Cert.ReferenceIdeal.nD).tc : Thread Cert.ReferenceIdeal.nD Cert.ReferenceIdeal.τ).loc Cert.ReferenceIdeal.main_arg4)

/-- A device's block of the pages, read: the pages with its `y` coordinate's half of the numbers. -/
theorem block_apply (x : (⟨4, ![512, 32, 16, 128]⟩ : Shape).Idx → EReal) (c : Dev Cert.KernelIdeal.nD) (a : Fin 256) (k : Fin 32) (H : Fin 16)
    (d : Fin 128) :
    (Layout.blockN ⟨4, ![256, 32, 16, 128]⟩ ⟨4, ![512, 32, 16, 128]⟩ (Layout.meshBlock [2, 2] ![[1], [], [], []] c) x) (ix4 a k H d)
      = x (ix4 (pg c a) k H d) := by
  have hc : ∀ c : Dev Cert.KernelIdeal.nD, ((Layout.meshBlock [2, 2] ![[1], [], [], []] c) (0 : Fin 4)).val = c.val % 2 := by decide
  rw [Layout.blockN_apply]
  refine congrArg x (funext fun b => Fin.ext ?_)
  rw [Layout.TilesN.idx_val]
  match b with
  | ⟨0, _⟩ =>
    show ((Layout.meshBlock [2, 2] ![[1], [], [], []] c) (0 : Fin 4)).val * 256 + a.val = 256 * (c.val % 2) + a.val
    rw [hc]
    omega
  | ⟨1, _⟩ => exact Nat.zero_add _
  | ⟨2, _⟩ => exact Nat.zero_add _
  | ⟨3, _⟩ => exact Nat.zero_add _

/-- **Every device of the idealised kernel ends with the reference's result.** -/
theorem algebraic : Cert.algebraic_KernelIdeal_ReferenceIdeal_pre_live_slots_named_KernelIdeal := by
  intro m g m' g' hpre hm
  have held : (arrays m').Held m :=
    { q := fun c => (hm c).1
      k := fun c a k H d => (congrFun (hm c).2.1 (ix4 a k H d)).trans (block_apply _ c a k H d)
      v := fun c a k H d => (congrFun (hm c).2.2.1 (ix4 a k H d)).trans (block_apply _ c a k H d)
      bt := fun c => (hm c).2.2.2.1
      ln := fun c => (hm c).2.2.2.2 }
  -- what the precondition says of the whole arrays
  have hQ : ∀ i, ∃ r : ℝ, (arrays m').Q i = (r : EReal) := fun i => by
    rw [← held.q 0]
    exact pre_q _ _ _ _ _ (hpre 0).1 i
  have hK : ∀ i, ∃ r : ℝ, (arrays m').K i = (r : EReal) := fun i => by
    obtain ⟨p, k, H, d, rfl⟩ : ∃ (p : Fin 512) (k : Fin 32) (H : Fin 16) (d : Fin 128), i = ix4 p k H d := ⟨i 0, i 1, i 2, i 3, eq_ix4 i⟩
    obtain ⟨c, a, rfl⟩ : ∃ (c : Dev Cert.KernelIdeal.nD) (a : Fin 256), p = pg c a := by
      have hp := p.isLt
      refine ⟨(⟨p.val / 256, by show p.val / 256 < 4; omega⟩ : Fin 4), ⟨p.val % 256, by omega⟩, Fin.ext ?_⟩
      show p.val = 256 * (p.val / 256 % 2) + p.val % 256
      omega
    rw [← held.k c a k H d]
    exact pre_k _ _ _ _ _ (hpre c).2.1 (ix4 a k H d)
  have hl : ∀ b, (arrays m').live b 0 := fun b => by
    show Live ((arrays m').ln (ix2 b (0 : Fin 1))) 0
    rw [← held.ln 0]
    exact pre_ln _ _ _ _ _ (hpre 0).2.2.1 b
  have hn : (arrays m').Named := fun b t h => by
    have h' : Live ((arrays m').ln (ix2 b (0 : Fin 1))) t := h
    rw [← held.ln 0] at h'
    rw [← held.bt 0]
    exact pre_bt _ _ _ _ _ (hpre 0).2.2.2 b t h'
  -- the two results, column by column
  have e : ∀ c, outC (F := Ideal) m c = Cert.ReferenceIdeal.Value.res_main_v36 (F := Ideal) m' 0 := fun c => by
    funext i
    obtain ⟨b, j, rfl⟩ : ∃ (b : Fin 32) (j : Fin 2048), i = ix2 b j := ⟨i 0, i 1, eq_ix2 i⟩
    have hj := j.isLt
    have hi : j.val = 128 * (⟨j.val / 128, by omega⟩ : Fin 16).val + (⟨j.val % 128, by omega⟩ : Fin 128).val := by
      show j.val = 128 * (j.val / 128) + j.val % 128
      omega
    rw [outC_apply held hn c b _ _ j hi, Cert.RefStages.res_eq]
    exact (ref_attn hQ hK hn hl b _ _ j hi).symm
  refine ⟨Cert.ReferenceIdeal.Value.res_main_v36 (F := Ideal) m' 0, ?_, ?_⟩
  · refine (θ_run Cert.KernelIdeal.defs _ _).mono (fun r h c => ?_) (Cert.Run.run_main (F := Ideal) m g)
    obtain ⟨h0, h1, h2, h3, h4, h5⟩ := h.1 c
    exact ⟨h5.trans (e c), h0, h1, h2, h3, h4⟩
  · exact (θ_run Cert.ReferenceIdeal.defs _ _).mono (fun r h => h 0) (Cert.ReferenceIdeal.Value.run (F := Ideal) m' g')

/-- Everything the certificate claims. -/
theorem claim : Cert.Claim :=
  ⟨Cert.Kernel.Gen.facts, Cert.KernelIdeal.Gen.facts, Cert.ReferenceIdeal.Gen.facts,
    Cert.Pre_live_slots_named_KernelIdeal.Gen.facts, Cert.Pre_live_slots_named_ReferenceIdeal.Gen.facts,
    frame_kernel, frame_kernelIdeal, fun m ρ _ => frame_any (F := Ideal) m ρ, frame_referenceIdeal,
    fun m ρ _ => frame_referenceIdeal m ρ True.intro, trivial, algebraic⟩

end Cert.Proof

end
